-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_router [hPre_finite_router : Cert.Pre_finite_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_router [hPre_finite_router : Cert.Pre_finite_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_heads [hPre_finite_heads : Cert.Pre_finite_heads.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_heads.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_heads [hPre_finite_heads : Cert.Pre_finite_heads.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_heads.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_router [hKernel4Ideal : Cert.Kernel4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_router [hReference4Ideal : Cert.Reference4Ideal.Facts] [hPre_finite_router : Cert.Pre_finite_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_heads [hKernel8Ideal : Cert.Kernel8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_heads m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_heads [hReference8Ideal : Cert.Reference8Ideal.Facts] [hPre_finite_heads : Cert.Pre_finite_heads.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_heads m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_router [hKernel4Ideal : Cert.Kernel4Ideal.Facts] [hReference4Ideal : Cert.Reference4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v57) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_heads [hKernel8Ideal : Cert.Kernel8Ideal.Facts] [hReference8Ideal : Cert.Reference8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_heads m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v43_0)) (v1 : (c : Dev Cert.Kernel8Ideal.nD) → Buf (Elt Ideal) ((c.tc : Thread Cert.Kernel8Ideal.nD Cert.Kernel8Ideal.τ).loc Cert.Kernel8Ideal.main_v43_1)) (v2 : (c : Dev Cert.Kernel8Ideal.nD) → Buf (Elt Ideal) ((c.tc : Thread Cert.Kernel8Ideal.nD Cert.Kernel8Ideal.τ).loc Cert.Kernel8Ideal.main_v43_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43_0) = v0 c
          ∧ r.2.mem ((c.tc : Thread Cert.Kernel8Ideal.nD Cert.Kernel8Ideal.τ).loc Cert.Kernel8Ideal.main_v43_1) = v1 c
          ∧ r.2.mem ((c.tc : Thread Cert.Kernel8Ideal.nD Cert.Kernel8Ideal.τ).loc Cert.Kernel8Ideal.main_v43_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v102) = v0 c
          ∧ r.2.mem ((c.tc : Thread Cert.Reference8Ideal.nD Cert.Reference8Ideal.τ).loc Cert.Reference8Ideal.main_v103) = v1 c
          ∧ r.2.mem ((c.tc : Thread Cert.Reference8Ideal.nD Cert.Reference8Ideal.τ).loc Cert.Reference8Ideal.main_v104) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_router : Cert.Pre_finite_router.Facts) (hPre_finite_heads : Cert.Pre_finite_heads.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_router (hKernel4Ideal := hKernel4Ideal) (hPre_finite_router := hPre_finite_router)
    ∧ quiescent_Reference4Ideal (hReference4Ideal := hReference4Ideal)
    ∧ quiescent_Reference4Ideal_pre_finite_router (hReference4Ideal := hReference4Ideal) (hPre_finite_router := hPre_finite_router)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_heads (hKernel8Ideal := hKernel8Ideal) (hPre_finite_heads := hPre_finite_heads)
    ∧ quiescent_Reference8Ideal (hReference8Ideal := hReference8Ideal)
    ∧ quiescent_Reference8Ideal_pre_finite_heads (hReference8Ideal := hReference8Ideal) (hPre_finite_heads := hPre_finite_heads)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_router (hKernel4Ideal := hKernel4Ideal) (hReference4Ideal := hReference4Ideal) (hPre_finite_router := hPre_finite_router)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_heads (hKernel8Ideal := hKernel8Ideal) (hReference8Ideal := hReference8Ideal) (hPre_finite_heads := hPre_finite_heads)
-- ==== Pre_finite_heads.lean ====
abbrev S16384x2944 : Shape := ⟨2, ![16384, 2944]⟩
abbrev S2x64 : Shape := ⟨2, ![2, 64]⟩
abbrev S16384x384 : Shape := ⟨2, ![16384, 384]⟩
abbrev S_ : Shape := ⟨0, ![]⟩

class Facts : Prop where
  slices_S16384x2944_S16384x384_0_1280 : S16384x2944.Slices ![0, 1280] S16384x384
  bcast_S_S16384x384 : S_.BroadcastsInDim S16384x384 (![] : Fin 0 → Fin S16384x384.rank)

variable [Facts]

def fn {F : FTy → Type} [FloatOps F] (main_arg0 : FVec F S16384x2944 .f32) (main_arg1 : FVec F S2x64 .f32) (main_arg2 : FVec F S2x64 .f32) : IVec S16384x384 1 :=
  let main_v0 : FVec F S16384x384 .f32 := (extractStridedSlice S16384x384 ![0, 1280] · slices_S16384x2944_S16384x384_0_1280) main_arg0
  let main_v1 : FVec F S16384x384 .f32 := Host.absf main_v0
  let main_cst : FVec F S_ .f32 := constant S_ .f32 0x7F800000#32
  let main_v2 : FVec F S16384x384 .f32 := broadcastInDim S16384x384 ![] bcast_S_S16384x384 main_cst
  let main_v3 : IVec S16384x384 1 := cmpf .olt main_v1 main_v2
  main_v3
-- ==== Pre_finite_router.lean ====
abbrev S16384x256 : Shape := ⟨2, ![16384, 256]⟩
abbrev S16384x2944 : Shape := ⟨2, ![16384, 2944]⟩
abbrev S2x256 : Shape := ⟨2, ![2, 256]⟩
abbrev S2x1024x1024 : Shape := ⟨3, ![2, 1024, 1024]⟩
abbrev S16384x1024 : Shape := ⟨2, ![16384, 1024]⟩
abbrev S1x1024 : Shape := ⟨2, ![1, 1024]⟩
abbrev S2x1024 : Shape := ⟨2, ![2, 1024]⟩
abbrev S2x1024x16 : Shape := ⟨3, ![2, 1024, 16]⟩
abbrev S_ : Shape := ⟨0, ![]⟩

class Facts : Prop where
  bcast_S_S16384x256 : S_.BroadcastsInDim S16384x256 (![] : Fin 0 → Fin S16384x256.rank)
  bcast_S_S2x1024 : S_.BroadcastsInDim S2x1024 (![] : Fin 0 → Fin S2x1024.rank)
  bcast_S_S1x1024 : S_.BroadcastsInDim S1x1024 (![] : Fin 0 → Fin S1x1024.rank)
  bcast_S_S2x1024x16 : S_.BroadcastsInDim S2x1024x16 (![] : Fin 0 → Fin S2x1024x16.rank)

variable [Facts]

def fn {F : FTy → Type} [FloatOps F] (main_arg0 : FVec F S16384x256 .f32) (main_arg1 : FVec F S16384x256 .f32) (main_arg2 : FVec F S16384x256 .f32) (main_arg3 : FVec F S16384x256 .f32) (main_arg4 : FVec F S16384x256 .f32) (main_arg5 : FVec F S16384x2944 .f32) (main_arg6 : FVec F S2x256 .f32) (main_arg7 : FVec F S2x1024x1024 .f32) (main_arg8 : FVec F S16384x1024 .f32) (main_arg9 : FVec F S1x1024 .f32) (main_arg10 : FVec F S2x1024 .f32) (main_arg11 : FVec F S1x1024 .f32) (main_arg12 : FVec F S1x1024 .f32) (main_arg13 : FVec F S2x1024x16 .f32) : IVec S16384x256 1 × IVec S16384x256 1 × IVec S2x1024 1 × IVec S1x1024 1 × IVec S1x1024 1 × IVec S2x1024x16 1 :=
  let main_v0 : FVec F S16384x256 .f32 := Host.absf main_arg3
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S16384x256 .f32 := Host.absf main_arg4
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S2x1024 .f32 := Host.absf main_arg10
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1x1024 .f32 := Host.absf main_arg11
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg12
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2x1024x16 .f32 := Host.absf main_arg13
  let main_cst_4 : FVec F S_ .f32 := constant S_ .f32 0x7F800000#32
  let main_v16 : FVec F S2x1024x16 .f32 := broadcastInDim S2x1024x16 ![] bcast_S_S2x1024x16 main_cst_4
  let main_v17 : IVec S2x1024x16 1 := cmpf .olt main_v15 main_v16
  (main_v2, main_v5, main_v8, main_v11, main_v14, main_v17)
-- ==== Pre_finite_scores.lean ====
abbrev S16384x256 : Shape := ⟨2, ![16384, 256]⟩
abbrev S256x256 : Shape := ⟨2, ![256, 256]⟩
abbrev S256x16384 : Shape := ⟨2, ![256, 16384]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)
  bcast_S_S256x256 : S_.BroadcastsInDim S256x256 (![] : Fin 0 → Fin S256x256.rank)
  bcast_S_S256x16384 : S_.BroadcastsInDim S256x16384 (![] : Fin 0 → Fin S256x16384.rank)

variable [Facts]

def fn {F : FTy → Type} [FloatOps F] (main_arg0 : FVec F S16384x256 .bf16) (main_arg1 : FVec F S256x256 .bf16) (main_arg2 : FVec F S256x16384 .bf16) (main_arg3 : FVec F S256x256 .bf16) (main_arg4 : FVec F S16384x256 .bf16) : IVec S16384x256 1 × IVec S256x256 1 × IVec S256x16384 1 :=
  let main_v0 : FVec F S16384x256 .f32 := (extf .f32 · bitsLt_bf16_f32) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_v4 : FVec F S256x256 .f32 := (extf .f32 · bitsLt_bf16_f32) main_arg1
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  let main_v8 : FVec F S256x16384 .f32 := (extf .f32 · bitsLt_bf16_f32) main_arg2
  let main_v9 : FVec F S256x16384 .f32 := Host.absf main_v8
  let main_cst_1 : FVec F S_ .f32 := constant S_ .f32 0x7F800000#32
  let main_v10 : FVec F S256x16384 .f32 := broadcastInDim S256x16384 ![] bcast_S_S256x16384 main_cst_1
  let main_v11 : IVec S256x16384 1 := cmpf .olt main_v9 main_v10
  (main_v3, main_v7, main_v11)
-- ==== Kernel.lean ====
abbrev S16384x256 : Shape := ⟨2, ![16384, 256]⟩
abbrev S256x256 : Shape := ⟨2, ![256, 256]⟩
abbrev S256x16384 : Shape := ⟨2, ![256, 16384]⟩
abbrev S256x16640 : Shape := ⟨2, ![256, 16640]⟩
abbrev S16640x256 : Shape := ⟨2, ![16640, 256]⟩
abbrev S512x128 : Shape := ⟨2, ![512, 128]⟩
abbrev S128x16640 : Shape := ⟨2, ![128, 16640]⟩
abbrev S16640x128 : Shape := ⟨2, ![16640, 128]⟩
abbrev S2x2x512x3328 : Shape := ⟨4, ![2, 2, 512, 3328]⟩
abbrev S2x2x512x1 : Shape := ⟨4, ![2, 2, 512, 1]⟩
abbrev S1x128 : Shape := ⟨2, ![1, 128]⟩
abbrev S512x1 : Shape := ⟨2, ![512, 1]⟩
abbrev S128x3328 : Shape := ⟨2, ![128, 3328]⟩
abbrev S512x3328 : Shape := ⟨2, ![512, 3328]⟩
abbrev S1x1x512x3328 : Shape := ⟨4, ![1, 1, 512, 3328]⟩
abbrev S512 : Shape := ⟨1, ![512]⟩
abbrev S1x1x512x1 : Shape := ⟨4, ![1, 1, 512, 1]⟩
abbrev S3328x128 : Shape := ⟨2, ![3328, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x16384, .bf16⟩
  | .hbm, ⟨3, _⟩ => ⟨S256x256, .bf16⟩
  | .hbm, ⟨4, _⟩ => ⟨S16384x256, .bf16⟩
  | .hbm, ⟨5, _⟩ => ⟨S256x16640, .bf16⟩
  | .hbm, ⟨6, _⟩ => ⟨S16640x256, .bf16⟩
  | .hbm, ⟨7, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S128x16640, .bf16⟩
  | .local _ .vmem, ⟨3, _⟩ => ⟨S128x16640, .bf16⟩
  | .local _ .vmem, ⟨4, _⟩ => ⟨S16640x128, .bf16⟩
  | .local _ .vmem, ⟨5, _⟩ => ⟨S16640x128, .bf16⟩
  | .local _ .vmem, ⟨6, _⟩ => ⟨S512x128, .f32⟩
  | .local _ .vmem, ⟨7, _⟩ => ⟨S512x128, .f32⟩
  | .local _ .vmem, ⟨8, _⟩ => ⟨S2x2x512x3328, .f32⟩
  | .local _ .vmem, ⟨9, _⟩ => ⟨S2x2x512x1, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
def k0_mult2 : BitVec 32 :=
  let c3328_i32 : BitVec 32 := 3328#32
  c3328_i32
def k0_mult3 : BitVec 32 :=
  let c0_i32_44 : BitVec 32 := 0#32
  c0_i32_44
def k0_mult4 : BitVec 32 :=
  let c6656_i32 : BitVec 32 := 6656#32
  c6656_i32
def k0_mult5 : BitVec 32 :=
  let c3328_i32_86 : BitVec 32 := 3328#32
  c3328_i32_86
def k0_mult6 : BitVec 32 :=
  let c9984_i32 : BitVec 32 := 9984#32
  c9984_i32
def k0_mult7 : BitVec 32 :=
  let c6656_i32_128 : BitVec 32 := 6656#32
  c6656_i32_128
def k0_mult8 : BitVec 32 :=
  let c13312_i32 : BitVec 32 := 13312#32
  c13312_i32
def k0_mult9 : BitVec 32 :=
  let c9984_i32_170 : BitVec 32 := 9984#32
  c9984_i32_170
def k0_mult10 : BitVec 32 :=
  let c13312_i32_191 : BitVec 32 := 13312#32
  c13312_i32_191
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x256 : Shape := ⟨2, ![16384, 256]⟩
abbrev S256x256 : Shape := ⟨2, ![256, 256]⟩
abbrev S256x16384 : Shape := ⟨2, ![256, 16384]⟩
abbrev S256x16640 : Shape := ⟨2, ![256, 16640]⟩
abbrev S16640x256 : Shape := ⟨2, ![16640, 256]⟩
abbrev S16384x4x64 : Shape := ⟨3, ![16384, 4, 64]⟩
abbrev S4x16384x64 : Shape := ⟨3, ![4, 16384, 64]⟩
abbrev S4x64x16640 : Shape := ⟨3, ![4, 64, 16640]⟩
abbrev S16640x4x64 : Shape := ⟨3, ![16640, 4, 64]⟩
abbrev S4x16640x64 : Shape := ⟨3, ![4, 16640, 64]⟩
abbrev S4x16384x16640 : Shape := ⟨3, ![4, 16384, 16640]⟩
abbrev S_ : Shape := ⟨0, ![]⟩
abbrev S4x16384 : Shape := ⟨2, ![4, 16384]⟩
abbrev S4x16384x1 : Shape := ⟨3, ![4, 16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x16384, .bf16⟩
  | .hbm, ⟨3, _⟩ => ⟨S256x256, .bf16⟩
  | .hbm, ⟨4, _⟩ => ⟨S16384x256, .bf16⟩
  | .hbm, ⟨5, _⟩ => ⟨S16384x256, .f32⟩
  | .hbm, ⟨6, _⟩ => ⟨S256x256, .f32⟩
  | .hbm, ⟨7, _⟩ => ⟨S256x16384, .f32⟩
  | .hbm, ⟨8, _⟩ => ⟨S256x256, .f32⟩
  | .hbm, ⟨9, _⟩ => ⟨S16384x256, .f32⟩
  | .hbm, ⟨10, _⟩ => ⟨S256x16640, .f32⟩
  | .hbm, ⟨11, _⟩ => ⟨S16640x256, .f32⟩
  | .hbm, ⟨12, _⟩ => ⟨S16384x4x64, .f32⟩
  | .hbm, ⟨13, _⟩ => ⟨S4x16384x64, .f32⟩
  | .hbm, ⟨14, _⟩ => ⟨S4x64x16640, .f32⟩
  | .hbm, ⟨15, _⟩ => ⟨S16640x4x64, .f32⟩
  | .hbm, ⟨16, _⟩ => ⟨S4x16640x64, .f32⟩
  | .hbm, ⟨17, _⟩ => ⟨S4x16384x16640, .f32⟩
  | .hbm, ⟨18, _⟩ => ⟨S_, .f32⟩
  | .hbm, ⟨19, _⟩ => ⟨S_, .f32⟩
  | .hbm, ⟨20, _⟩ => ⟨S4x16384x16640, .f32⟩
  | .hbm, ⟨21, _⟩ => ⟨S4x16384x16640, .f32⟩
  | .hbm, ⟨22, _⟩ => ⟨S_, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .f32⟩
  | .hbm, ⟨27, _⟩ => ⟨S4x16384x1, .f32⟩
  | .hbm, ⟨28, _⟩ => ⟨S4x16384x16640, .f32⟩
  | .hbm, ⟨29, _⟩ => ⟨S4x16384x16640, .f32⟩
  | .hbm, ⟨30, _⟩ => ⟨S4x16384x16640, .f32⟩
  | .hbm, ⟨31, _⟩ => ⟨S_, .f32⟩
  | .hbm, ⟨32, _⟩ => ⟨S4x16384, .f32⟩
  | .hbm, ⟨33, _⟩ => ⟨S4x16384x1, .f32⟩
  | .hbm, ⟨34, _⟩ => ⟨S4x16384x16640, .f32⟩
  | .hbm, ⟨35, _⟩ => ⟨S4x16384x16640, .f32⟩
  | .hbm, ⟨36, _⟩ => ⟨S4x16384x64, .f32⟩
  | .hbm, ⟨37, _⟩ => ⟨S16384x4x64, .f32⟩
  | .hbm, ⟨38, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S16x2208x1024 : Shape := ⟨3, ![16, 2208, 1024]⟩
abbrev S16x2208x1 : Shape := ⟨3, ![16, 2208, 1]⟩
abbrev S2x16x1024x2048 : Shape := ⟨4, ![2, 16, 1024, 2048]⟩
abbrev S2x16x2048x1024 : Shape := ⟨4, ![2, 16, 2048, 1024]⟩
abbrev S16x2048x1024 : Shape := ⟨3, ![16, 2048, 1024]⟩
abbrev S1x2048x1024 : Shape := ⟨3, ![1, 2048, 1024]⟩
abbrev S1x1x1024x512 : Shape := ⟨4, ![1, 1, 1024, 512]⟩
abbrev S1x1x512x1024 : Shape := ⟨4, ![1, 1, 512, 1024]⟩
abbrev S1x2048x1 : Shape := ⟨3, ![1, 2048, 1]⟩
abbrev S1024x512 : Shape := ⟨2, ![1024, 512]⟩
abbrev S512x1024 : Shape := ⟨2, ![512, 1024]⟩
abbrev S1x512x1024 : Shape := ⟨3, ![1, 512, 1024]⟩
abbrev S512x512 : Shape := ⟨2, ![512, 512]⟩
abbrev S2048x1024 : Shape := ⟨2, ![2048, 1024]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2208x1024, .bf16⟩
  | .hbm, ⟨1, _⟩ => ⟨S16x2208x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x1024, .f32⟩
  | .local _ .vmem, ⟨11, _⟩ => ⟨S1x2048x1024, .f32⟩
  | _, _ => ⟨S16x2208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2208x1024 : Shape := ⟨3, ![16, 2208, 1024]⟩
abbrev S16x2208x1 : Shape := ⟨3, ![16, 2208, 1]⟩
abbrev S2x16x1024x2048 : Shape := ⟨4, ![2, 16, 1024, 2048]⟩
abbrev S2x16x2048x1024 : Shape := ⟨4, ![2, 16, 2048, 1024]⟩
abbrev S16x2048x1024 : Shape := ⟨3, ![16, 2048, 1024]⟩
abbrev S16x2048x1 : Shape := ⟨3, ![16, 2048, 1]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x2048 : Shape := ⟨3, ![16, 2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x2208x1024, .bf16⟩
  | .hbm, ⟨1, _⟩ => ⟨S16x2208x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x2048x1024, .bf16⟩
  | .hbm, ⟨6, _⟩ => ⟨S16x2048x1024, .f32⟩
  | .hbm, ⟨7, _⟩ => ⟨S16x2048x1, .f32⟩
  | .hbm, ⟨8, _⟩ => ⟨S1x16x1024x2048, .f32⟩
  | .hbm, ⟨9, _⟩ => ⟨S16x1024x2048, .f32⟩
  | .hbm, ⟨10, _⟩ => ⟨S1x16x1024x2048, .f32⟩
  | .hbm, ⟨11, _⟩ => ⟨S16x1024x2048, .f32⟩
  | .hbm, ⟨12, _⟩ => ⟨S1x16x2048x1024, .f32⟩
  | .hbm, ⟨13, _⟩ => ⟨S16x2048x1024, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | _, _ => ⟨S16x2208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S2x1024 : Shape := ⟨2, ![2, 1024]⟩
abbrev S2x1024x2832 : Shape := ⟨3, ![2, 1024, 2832]⟩
abbrev S1x1024x2832 : Shape := ⟨3, ![1, 1024, 2832]⟩
abbrev S1024x2832 : Shape := ⟨2, ![1024, 2832]⟩
abbrev S_ : Shape := ⟨0, ![]⟩
abbrev S1024x2944 : Shape := ⟨2, ![1024, 2944]⟩
abbrev S1024 : Shape := ⟨1, ![1024]⟩
abbrev S16384x2944 : Shape := ⟨2, ![16384, 2944]⟩
abbrev S512x1024 : Shape := ⟨2, ![512, 1024]⟩
abbrev S512x2944 : Shape := ⟨2, ![512, 2944]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S2x1024, .f32⟩
  | .hbm, ⟨4, _⟩ => ⟨S1x1024, .f32⟩
  | .hbm, ⟨5, _⟩ => ⟨S1x1024, .f32⟩
  | .hbm, ⟨6, _⟩ => ⟨S2x1024x2832, .f32⟩
  | .hbm, ⟨7, _⟩ => ⟨S1x1024x2832, .f32⟩
  | .hbm, ⟨8, _⟩ => ⟨S1024x2832, .f32⟩
  | .hbm, ⟨9, _⟩ => ⟨S_, .i32⟩
  | .hbm, ⟨10, _⟩ => ⟨S_, .f32⟩
  | .hbm, ⟨11, _⟩ => ⟨S1024x2944, .f32⟩
  | .hbm, ⟨12, _⟩ => ⟨S1024x2944, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x2944, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2944, .bf16⟩
  | .local _ .vmem, ⟨9, _⟩ => ⟨S512x2944, .f32⟩
  | .local _ .vmem, ⟨10, _⟩ => ⟨S512x2944, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S1x1024 : Shape := ⟨2, ![1, 1024]⟩
abbrev S2x1024 : Shape := ⟨2, ![2, 1024]⟩
abbrev S2x1024x2832 : Shape := ⟨3, ![2, 1024, 2832]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024x2832 : Shape := ⟨3, ![1, 1024, 2832]⟩
abbrev S1024x2832 : Shape := ⟨2, ![1024, 2832]⟩
abbrev S16384x2832 : Shape := ⟨2, ![16384, 2832]⟩
abbrev S16384x2944 : Shape := ⟨2, ![16384, 2944]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S2x1024, .f32⟩
  | .hbm, ⟨4, _⟩ => ⟨S1x1024, .f32⟩
  | .hbm, ⟨5, _⟩ => ⟨S1x1024, .f32⟩
  | .hbm, ⟨6, _⟩ => ⟨S2x1024x2832, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1x1024x2832, .f32⟩
  | .hbm, ⟨36, _⟩ => ⟨S1024x2832, .f32⟩
  | .hbm, ⟨37, _⟩ => ⟨S16384x2832, .f32⟩
  | .hbm, ⟨38, _⟩ => ⟨S_, .i32⟩
  | .hbm, ⟨39, _⟩ => ⟨S_, .f32⟩
  | .hbm, ⟨40, _⟩ => ⟨S16384x2944, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel4.lean ====
abbrev S16384x256 : Shape := ⟨2, ![16384, 256]⟩
abbrev S16384x2944 : Shape := ⟨2, ![16384, 2944]⟩
abbrev S2x256 : Shape := ⟨2, ![2, 256]⟩
abbrev S2x1024x1024 : Shape := ⟨3, ![2, 1024, 1024]⟩
abbrev S16384x1024 : Shape := ⟨2, ![16384, 1024]⟩
abbrev S1x1024 : Shape := ⟨2, ![1, 1024]⟩
abbrev S2x1024 : Shape := ⟨2, ![2, 1024]⟩
abbrev S2x1024x16 : Shape := ⟨3, ![2, 1024, 16]⟩
abbrev S1x1024x1024 : Shape := ⟨3, ![1, 1024, 1024]⟩
abbrev S1024x1024 : Shape := ⟨2, ![1024, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1x256 : Shape := ⟨2, ![1, 256]⟩
abbrev S256 : Shape := ⟨1, ![256]⟩
abbrev S1024 : Shape := ⟨1, ![1024]⟩
abbrev S16x16384 : Shape := ⟨2, ![16, 16384]⟩
abbrev S512x256 : Shape := ⟨2, ![512, 256]⟩
abbrev S512x1024 : Shape := ⟨2, ![512, 1024]⟩
abbrev S16x512 : Shape := ⟨2, ![16, 512]⟩
abbrev S256x256 : Shape := ⟨2, ![256, 256]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x512 : Shape := ⟨2, ![1, 512]⟩

abbrev nBuf : Space → Nat
  | .hbm => 31
  | .vmem => 27
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x2944, .f32⟩
  | .hbm, ⟨6, _⟩ => ⟨S2x256, .f32⟩
  | .hbm, ⟨7, _⟩ => ⟨S2x1024x1024, .f32⟩
  | .hbm, ⟨8, _⟩ => ⟨S16384x1024, .f32⟩
  | .hbm, ⟨9, _⟩ => ⟨S1x1024, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S2x1024x16, .f32⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S1x1024x16, .f32⟩
  | .hbm, ⟨18, _⟩ => ⟨S1024x16, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1x256, .f32⟩
  | .hbm, ⟨23, _⟩ => ⟨S256, .f32⟩
  | .hbm, ⟨24, _⟩ => ⟨S1x256, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .bf16⟩
  | .hbm, ⟨30, _⟩ => ⟨S16x16384, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x128, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S16x512, .f32⟩
  | .local _ .vmem, ⟨26, _⟩ => ⟨S16x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16384x256 : Shape := ⟨2, ![16384, 256]⟩
abbrev S16384x2944 : Shape := ⟨2, ![16384, 2944]⟩
abbrev S2x256 : Shape := ⟨2, ![2, 256]⟩
abbrev S2x1024x1024 : Shape := ⟨3, ![2, 1024, 1024]⟩
abbrev S16384x1024 : Shape := ⟨2, ![16384, 1024]⟩
abbrev S1x1024 : Shape := ⟨2, ![1, 1024]⟩
abbrev S2x1024 : Shape := ⟨2, ![2, 1024]⟩
abbrev S2x1024x16 : Shape := ⟨3, ![2, 1024, 16]⟩
abbrev S16384x4x64 : Shape := ⟨3, ![16384, 4, 64]⟩
abbrev S_ : Shape := ⟨0, ![]⟩
abbrev S16384x4 : Shape := ⟨2, ![16384, 4]⟩
abbrev S16384x4x1 : Shape := ⟨3, ![16384, 4, 1]⟩
abbrev S1x256 : Shape := ⟨2, ![1, 256]⟩
abbrev S256 : Shape := ⟨1, ![256]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩
abbrev S1x1024x16 : Shape := ⟨3, ![1, 1024, 16]⟩
abbrev S1024x16 : Shape := ⟨2, ![1024, 16]⟩
abbrev S16384x16 : Shape := ⟨2, ![16384, 16]⟩
abbrev S16x16384 : Shape := ⟨2, ![16, 16384]⟩

abbrev nBuf : Space → Nat
  | .hbm => 96
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x2944, .f32⟩
  | .hbm, ⟨6, _⟩ => ⟨S2x256, .f32⟩
  | .hbm, ⟨7, _⟩ => ⟨S2x1024x1024, .f32⟩
  | .hbm, ⟨8, _⟩ => ⟨S16384x1024, .f32⟩
  | .hbm, ⟨9, _⟩ => ⟨S1x1024, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S2x1024x16, .f32⟩
  | .hbm, ⟨14, _⟩ => ⟨S16384x256, .f32⟩
  | .hbm, ⟨15, _⟩ => ⟨S16384x4x64, .f32⟩
  | .hbm, ⟨16, _⟩ => ⟨S16384x4x64, .f32⟩
  | .hbm, ⟨17, _⟩ => ⟨S_, .f32⟩
  | .hbm, ⟨18, _⟩ => ⟨S16384x4, .f32⟩
  | .hbm, ⟨19, _⟩ => ⟨S16384x4x1, .f32⟩
  | .hbm, ⟨20, _⟩ => ⟨S_, .f32⟩
  | .hbm, ⟨21, _⟩ => ⟨S16384x4x1, .f32⟩
  | .hbm, ⟨22, _⟩ => ⟨S16384x4x1, .f32⟩
  | .hbm, ⟨23, _⟩ => ⟨S_, .f32⟩
  | .hbm, ⟨24, _⟩ => ⟨S16384x4x1, .f32⟩
  | .hbm, ⟨25, _⟩ => ⟨S16384x4x1, .f32⟩
  | .hbm, ⟨26, _⟩ => ⟨S16384x4x1, .f32⟩
  | .hbm, ⟨27, _⟩ => ⟨S16384x4x64, .f32⟩
  | .hbm, ⟨28, _⟩ => ⟨S16384x4x64, .f32⟩
  | .hbm, ⟨29, _⟩ => ⟨S16384x256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x1024, .f32⟩
  | .hbm, ⟨46, _⟩ => ⟨S1x1024x1024, .f32⟩
  | .hbm, ⟨47, _⟩ => ⟨S1024x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024x16, .f32⟩
  | .hbm, ⟨78, _⟩ => ⟨S1024x16, .f32⟩
  | .hbm, ⟨79, _⟩ => ⟨S16384x16, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x16, .f32⟩
  | .hbm, ⟨87, _⟩ => ⟨S16384x16, .f32⟩
  | .hbm, ⟨88, _⟩ => ⟨S16384x16, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x16, .f32⟩
  | .hbm, ⟨93, _⟩ => ⟨S16384x16, .f32⟩
  | .hbm, ⟨94, _⟩ => ⟨S16384x1024, .bf16⟩
  | .hbm, ⟨95, _⟩ => ⟨S16x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S1024x1 : Shape := ⟨2, ![1024, 1]⟩
abbrev S1024x2 : Shape := ⟨2, ![1024, 2]⟩
abbrev S2x1x6144 : Shape := ⟨3, ![2, 1, 6144]⟩
abbrev S2x2x6144 : Shape := ⟨3, ![2, 2, 6144]⟩
abbrev S1x1024x1536 : Shape := ⟨3, ![1, 1024, 1536]⟩
abbrev S1x1x1536 : Shape := ⟨3, ![1, 1, 1536]⟩
abbrev S1x2x1536 : Shape := ⟨3, ![1, 2, 1536]⟩
abbrev S1024x1536 : Shape := ⟨2, ![1024, 1536]⟩
abbrev S1x1536 : Shape := ⟨2, ![1, 1536]⟩
abbrev S1536 : Shape := ⟨1, ![1536]⟩

abbrev nBuf : Space → Nat
  | .hbm => 10
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S1024x2, .f32⟩
  | .hbm, ⟨8, _⟩ => ⟨S2x1x6144, .f32⟩
  | .hbm, ⟨9, _⟩ => ⟨S2x2x6144, .f32⟩
  | .local _ .vmem, ⟨0, _⟩ => ⟨S1024x2, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x2x1536, .f32⟩
  | .local _ .vmem, ⟨6, _⟩ => ⟨S1x2x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x2x6144 : Shape := ⟨3, ![1, 2, 6144]⟩
abbrev S2x2x6144 : Shape := ⟨3, ![2, 2, 6144]⟩

abbrev nBuf : Space → Nat
  | .hbm => 73
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024x6144, .f32⟩
  | .hbm, ⟨14, _⟩ => ⟨S1024x6144, .f32⟩
  | .hbm, ⟨15, _⟩ => ⟨S1x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S1x6144, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1x1024x6144, .f32⟩
  | .hbm, ⟨30, _⟩ => ⟨S1024x6144, .f32⟩
  | .hbm, ⟨31, _⟩ => ⟨S6144, .f32⟩
  | .hbm, ⟨32, _⟩ => ⟨S1x6144, .f32⟩
  | .hbm, ⟨33, _⟩ => ⟨S6144, .f32⟩
  | .hbm, ⟨34, _⟩ => ⟨S6144, .f32⟩
  | .hbm, ⟨35, _⟩ => ⟨S1x6144, .f32⟩
  | .hbm, ⟨36, _⟩ => ⟨S2x6144, .f32⟩
  | .hbm, ⟨37, _⟩ => ⟨S1x2x6144, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024x6144, .f32⟩
  | .hbm, ⟨48, _⟩ => ⟨S1024x6144, .f32⟩
  | .hbm, ⟨49, _⟩ => ⟨S1x6144, .f32⟩
  | .hbm, ⟨50, _⟩ => ⟨S1x6144, .f32⟩
  | .hbm, ⟨51, _⟩ => ⟨S6144, .f32⟩
  | .hbm, ⟨52, _⟩ => ⟨S1x6144, .f32⟩
  | .hbm, ⟨53, _⟩ => ⟨S1x6144, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1x1024x6144, .f32⟩
  | .hbm, ⟨64, _⟩ => ⟨S1024x6144, .f32⟩
  | .hbm, ⟨65, _⟩ => ⟨S6144, .f32⟩
  | .hbm, ⟨66, _⟩ => ⟨S1x6144, .f32⟩
  | .hbm, ⟨67, _⟩ => ⟨S6144, .f32⟩
  | .hbm, ⟨68, _⟩ => ⟨S6144, .f32⟩
  | .hbm, ⟨69, _⟩ => ⟨S1x6144, .f32⟩
  | .hbm, ⟨70, _⟩ => ⟨S2x6144, .f32⟩
  | .hbm, ⟨71, _⟩ => ⟨S1x2x6144, .f32⟩
  | .hbm, ⟨72, _⟩ => ⟨S2x2x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Kernel7.lean ====
abbrev S16384x2944 : Shape := ⟨2, ![16384, 2944]⟩
abbrev S2x3x256 : Shape := ⟨3, ![2, 3, 256]⟩
abbrev S2x256 : Shape := ⟨2, ![2, 256]⟩
abbrev S2x4x128x128 : Shape := ⟨4, ![2, 4, 128, 128]⟩
abbrev S2x4x128 : Shape := ⟨3, ![2, 4, 128]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x3x256 : Shape := ⟨3, ![1, 3, 256]⟩
abbrev S3x256 : Shape := ⟨2, ![3, 256]⟩
abbrev S1x256 : Shape := ⟨2, ![1, 256]⟩
abbrev S256 : Shape := ⟨1, ![256]⟩
abbrev S16384x256 : Shape := ⟨2, ![16384, 256]⟩
abbrev S256x256 : Shape := ⟨2, ![256, 256]⟩
abbrev S8x256 : Shape := ⟨2, ![8, 256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 20
  | .vmem => 26
  | .smem => 0
  | _ => 0

abbrev bufTy : (tb : Table) → Fin (tcTables nBuf tb) → BufTy
  | .hbm, ⟨0, _⟩ => ⟨S16384x2944, .f32⟩
  | .hbm, ⟨1, _⟩ => ⟨S2x3x256, .f32⟩
  | .hbm, ⟨2, _⟩ => ⟨S2x256, .f32⟩
  | .hbm, ⟨3, _⟩ => ⟨S2x4x128x128, .f32⟩
  | .hbm, ⟨4, _⟩ => ⟨S2x4x128, .f32⟩
  | .hbm, ⟨5, _⟩ => ⟨S1x4x128x128, .f32⟩
  | .hbm, ⟨6, _⟩ => ⟨S4x128x128, .f32⟩
  | .hbm, ⟨7, _⟩ => ⟨S4x128x128, .bf16⟩
  | .hbm, ⟨8, _⟩ => ⟨S1x4x128, .f32⟩
  | .hbm, ⟨9, _⟩ => ⟨S4x128, .f32⟩
  | .hbm, ⟨10, _⟩ => ⟨S128x4, .f32⟩
  | .hbm, ⟨11, _⟩ => ⟨S128x4x64, .f32⟩
  | .hbm, ⟨12, _⟩ => ⟨S128x256, .f32⟩
  | .hbm, ⟨13, _⟩ => ⟨S1x3x256, .f32⟩
  | .hbm, ⟨14, _⟩ => ⟨S3x256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S16384x256, .f32⟩
  | .hbm, ⟨19, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S3x256, .f32⟩
  | .local _ .vmem, ⟨19, _⟩ => ⟨S1x256, .f32⟩
  | .local _ .vmem, ⟨20, _⟩ => ⟨S4x128x128, .bf16⟩
  | .local _ .vmem, ⟨21, _⟩ => ⟨S128x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | _, _ => ⟨S16384x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S16384x2944 : Shape := ⟨2, ![16384, 2944]⟩
abbrev S2x3x256 : Shape := ⟨3, ![2, 3, 256]⟩
abbrev S2x256 : Shape := ⟨2, ![2, 256]⟩
abbrev S2x4x128x128 : Shape := ⟨4, ![2, 4, 128, 128]⟩
abbrev S2x4x128 : Shape := ⟨3, ![2, 4, 128]⟩
abbrev S16384x256 : Shape := ⟨2, ![16384, 256]⟩
abbrev S_ : Shape := ⟨0, ![]⟩
abbrev S16386x256 : Shape := ⟨2, ![16386, 256]⟩
abbrev S1x3x256 : Shape := ⟨3, ![1, 3, 256]⟩
abbrev S3x256 : Shape := ⟨2, ![3, 256]⟩
abbrev S1x256 : Shape := ⟨2, ![1, 256]⟩
abbrev S256 : Shape := ⟨1, ![256]⟩
abbrev S16384 : Shape := ⟨1, ![16384]⟩
abbrev S16384x1 : Shape := ⟨2, ![16384, 1]⟩
abbrev S128x128x4x64 : Shape := ⟨4, ![128, 128, 4, 64]⟩
abbrev S1x4x128x128 : Shape := ⟨4, ![1, 4, 128, 128]⟩
abbrev S4x128x128 : Shape := ⟨3, ![4, 128, 128]⟩
abbrev S4x128x64x128 : Shape := ⟨4, ![4, 128, 64, 128]⟩
abbrev S1x4x128 : Shape := ⟨3, ![1, 4, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x2944, .f32⟩
  | .hbm, ⟨1, _⟩ => ⟨S2x3x256, .f32⟩
  | .hbm, ⟨2, _⟩ => ⟨S2x256, .f32⟩
  | .hbm, ⟨3, _⟩ => ⟨S2x4x128x128, .f32⟩
  | .hbm, ⟨4, _⟩ => ⟨S2x4x128, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S_, .i32⟩
  | .hbm, ⟨12, _⟩ => ⟨S_, .f32⟩
  | .hbm, ⟨13, _⟩ => ⟨S16386x256, .f32⟩
  | .hbm, ⟨14, _⟩ => ⟨S1x3x256, .f32⟩
  | .hbm, ⟨15, _⟩ => ⟨S3x256, .f32⟩
  | .hbm, ⟨16, _⟩ => ⟨S16384x256, .f32⟩
  | .hbm, ⟨17, _⟩ => ⟨S1x256, .f32⟩
  | .hbm, ⟨18, _⟩ => ⟨S256, .f32⟩
  | .hbm, ⟨19, _⟩ => ⟨S1x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S16384x256, .f32⟩
  | .hbm, ⟨54, _⟩ => ⟨S16384x256, .f32⟩
  | .hbm, ⟨55, _⟩ => ⟨S128x128x4x64, .f32⟩
  | .hbm, ⟨56, _⟩ => ⟨S1x4x128x128, .f32⟩
  | .hbm, ⟨57, _⟩ => ⟨S4x128x128, .f32⟩
  | .hbm, ⟨58, _⟩ => ⟨S4x128x64x128, .f32⟩
  | .hbm, ⟨59, _⟩ => ⟨S128x128x4x64, .f32⟩
  | .hbm, ⟨60, _⟩ => ⟨S1x4x128, .f32⟩
  | .hbm, ⟨61, _⟩ => ⟨S4x128, .f32⟩
  | .hbm, ⟨62, _⟩ => ⟨S128x4, .f32⟩
  | .hbm, ⟨63, _⟩ => ⟨S1x128x4x1, .f32⟩
  | .hbm, ⟨64, _⟩ => ⟨S128x128x4x64, .f32⟩
  | .hbm, ⟨65, _⟩ => ⟨S128x128x4x64, .f32⟩
  | .hbm, ⟨66, _⟩ => ⟨S16384x256, .f32⟩
  | .hbm, ⟨67, _⟩ => ⟨S16384x256, .f32⟩
  | _, _ => ⟨S16384x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Kernel8.lean ====
abbrev S16384x2944 : Shape := ⟨2, ![16384, 2944]⟩
abbrev S2x64 : Shape := ⟨2, ![2, 64]⟩
abbrev S1x64 : Shape := ⟨2, ![1, 64]⟩
abbrev S64 : Shape := ⟨1, ![64]⟩
abbrev S128 : Shape := ⟨1, ![128]⟩
abbrev S1x128 : Shape := ⟨2, ![1, 128]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S16384x128 : Shape := ⟨2, ![16384, 128]⟩
abbrev S16384x256 : Shape := ⟨2, ![16384, 256]⟩
abbrev S256x16384 : Shape := ⟨2, ![256, 16384]⟩
abbrev S256x256 : Shape := ⟨2, ![256, 256]⟩
abbrev S256x128 : Shape := ⟨2, ![256, 128]⟩
abbrev S128x128 : Shape := ⟨2, ![128, 128]⟩
abbrev S128x256 : Shape := ⟨2, ![128, 256]⟩
abbrev S64x256 : Shape := ⟨2, ![64, 256]⟩

abbrev nBuf : Space → Nat
  | .hbm => 91
  | .vmem => 16
  | .smem => 0
  | _ => 0

abbrev bufTy : (tb : Table) → Fin (tcTables nBuf tb) → BufTy
  | .hbm, ⟨0, _⟩ => ⟨S16384x2944, .f32⟩
  | .hbm, ⟨1, _⟩ => ⟨S2x64, .f32⟩
  | .hbm, ⟨2, _⟩ => ⟨S2x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S16384, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S_, .i1⟩
  | .hbm, ⟨50, _⟩ => ⟨S16384, .i1⟩
  | .hbm, ⟨51, _⟩ => ⟨S16384, .i1⟩
  | .hbm, ⟨52, _⟩ => ⟨S16384, .i1⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16384, .f32⟩
  | .hbm, ⟨71, _⟩ => ⟨S16384x1, .f32⟩
  | .hbm, ⟨72, _⟩ => ⟨S1x16, .f32⟩
  | .hbm, ⟨73, _⟩ => ⟨S16384x16, .f32⟩
  | .hbm, ⟨74, _⟩ => ⟨S16384x16, .f32⟩
  | .hbm, ⟨75, _⟩ => ⟨S16384x16, .f32⟩
  | .hbm, ⟨76, _⟩ => ⟨S16384x32, .f32⟩
  | .hbm, ⟨77, _⟩ => ⟨S16384, .f32⟩
  | .hbm, ⟨78, _⟩ => ⟨S16384x1, .f32⟩
  | .hbm, ⟨79, _⟩ => ⟨S1x16, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S16384x32, .f32⟩
  | .hbm, ⟨84, _⟩ => ⟨S16384x64, .f32⟩
  | .hbm, ⟨85, _⟩ => ⟨S16384x128, .f32⟩
  | .hbm, ⟨86, _⟩ => ⟨S16384x128, .f32⟩
  | .hbm, ⟨87, _⟩ => ⟨S16384x128, .f32⟩
  | .hbm, ⟨88, _⟩ => ⟨S16384x256, .bf16⟩
  | .hbm, ⟨89, _⟩ => ⟨S256x16384, .bf16⟩
  | .hbm, ⟨90, _⟩ => ⟨S16384x256, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | _, _ => ⟨S16384x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v14 : Ref sig .tc := ⟨.hbm, 55, rfl⟩
abbrev main_v15 : Ref sig .tc := ⟨.hbm, 56, rfl⟩
abbrev main_cst : Ref sig .tc := ⟨.hbm, 57, rfl⟩
abbrev main_v16 : Ref sig .tc := ⟨.hbm, 58, rfl⟩
abbrev main_v17 : Ref sig .tc := ⟨.hbm, 59, rfl⟩
abbrev main_cst_1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_2 : Ref sig .tc := ⟨.hbm, 64, rfl⟩
abbrev main_v21 : Ref sig .tc := ⟨.hbm, 65, rfl⟩
abbrev main_v22 : Ref sig .tc := ⟨.hbm, 66, rfl⟩
abbrev main_cst_3 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43_0 : Ref sig .tc := ⟨.hbm, 88, rfl⟩
abbrev main_v43_1 : Ref sig .tc := ⟨.hbm, 89, rfl⟩
abbrev main_v43_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S16384x2944 : Shape := ⟨2, ![16384, 2944]⟩
abbrev S2x64 : Shape := ⟨2, ![2, 64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S16384x1x64 : Shape := ⟨3, ![16384, 1, 64]⟩
abbrev S16384x256 : Shape := ⟨2, ![16384, 256]⟩
abbrev S16384x4x64 : Shape := ⟨3, ![16384, 4, 64]⟩
abbrev S1x64 : Shape := ⟨2, ![1, 64]⟩
abbrev S64 : Shape := ⟨1, ![64]⟩
abbrev S16384x4 : Shape := ⟨2, ![16384, 4]⟩
abbrev S16384x4x1 : Shape := ⟨3, ![16384, 4, 1]⟩
abbrev S1x1x64 : Shape := ⟨3, ![1, 1, 64]⟩
abbrev S16384x4x16 : Shape := ⟨3, ![16384, 4, 16]⟩
abbrev S16384x128 : Shape := ⟨2, ![16384, 128]⟩
abbrev S16384x2x64 : Shape := ⟨3, ![16384, 2, 64]⟩
abbrev S16384x2 : Shape := ⟨2, ![16384, 2]⟩
abbrev S16384x2x1 : Shape := ⟨3, ![16384, 2, 1]⟩
abbrev S16384x2x16 : Shape := ⟨3, ![16384, 2, 16]⟩
abbrev S16384x2x1x64 : Shape := ⟨4, ![16384, 2, 1, 64]⟩
abbrev S16384x2x2x64 : Shape := ⟨4, ![16384, 2, 2, 64]⟩
abbrev S256x16384 : Shape := ⟨2, ![256, 16384]⟩

abbrev nBuf : Space → Nat
  | .hbm => 157
  | .vmem => 0
  | .smem => 0
  | _ => 0

abbrev hbmTy0_0 (i : Nat) : BufTy := match i % 128 with
  | 0 => ⟨S16384x2944, .f32⟩
  | 1 => ⟨S2x64, .f32⟩
  | 2 => ⟨S2x64, .f32⟩
  | 3 => ⟨S16384, .i32⟩
  | 4 => ⟨S_, .i32⟩
  | 5 => ⟨S_, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i1⟩
  | 12 => ⟨S16384, .i32⟩
  | 13 => ⟨S16384, .i32⟩
  | 14 => ⟨S_, .i32⟩
  | 15 => ⟨S16384, .i32⟩
  | 16 => ⟨S16384, .i1⟩
  | 17 => ⟨S16384, .i1⟩
  | 18 => ⟨S_, .i32⟩
  | 19 => ⟨S16384, .i32⟩
  | 20 => ⟨S16384, .i32⟩
  | 21 => ⟨S16384, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i1⟩
  | 36 => ⟨S_, .i32⟩
  | 37 => ⟨S_, .i1⟩
  | 38 => ⟨S16384, .i1⟩
  | 39 => ⟨S16384, .i1⟩
  | 40 => ⟨S16384, .i1⟩
  | 41 => ⟨S16384, .i32⟩
  | 42 => ⟨S16384, .i32⟩
  | 43 => ⟨S16384, .i32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16384, .f32⟩
  | 59 => ⟨S16384x1, .f32⟩
  | 60 => ⟨S1x16, .f32⟩
  | 61 => ⟨S16384x16, .f32⟩
  | 62 => ⟨S16384x16, .f32⟩
  | 63 => ⟨S16384x16, .f32⟩
  | 64 => ⟨S16384x32, .f32⟩
  | 65 => ⟨S16384, .f32⟩
  | 66 => ⟨S16384x1, .f32⟩
  | 67 => ⟨S1x16, .f32⟩
  | 68 => ⟨S16384x16, .f32⟩
  | 69 => ⟨S16384x16, .f32⟩
  | 70 => ⟨S16384x16, .f32⟩
  | 71 => ⟨S16384x32, .f32⟩
  | 72 => ⟨S16384x64, .f32⟩
  | 73 => ⟨S16384x64, .f32⟩
  | 74 => ⟨S16384x1x64, .f32⟩
  | 75 => ⟨S16384x64, .f32⟩
  | 76 => ⟨S16384x1x64, .f32⟩
  | 77 => ⟨S16384x256, .f32⟩
  | 78 => ⟨S16384x4x64, .f32⟩
  | 79 => ⟨S1x64, .f32⟩
  | 80 => ⟨S64, .f32⟩
  | 81 => ⟨S16384x4x64, .f32⟩
  | 82 => ⟨S_, .f32⟩
  | 83 => ⟨S16384x4, .f32⟩
  | 84 => ⟨S16384x4x1, .f32⟩
  | 85 => ⟨S_, .f32⟩
  | 86 => ⟨S16384x4x1, .f32⟩
  | 87 => ⟨S16384x4x1, .f32⟩
  | 88 => ⟨S_, .f32⟩
  | 89 => ⟨S16384x4x1, .f32⟩
  | 90 => ⟨S16384x4x1, .f32⟩
  | 91 => ⟨S16384x4x1, .f32⟩
  | 92 => ⟨S16384x4x64, .f32⟩
  | 93 => ⟨S16384x4x64, .f32⟩
  | 94 => ⟨S1x1x64, .f32⟩
  | 95 => ⟨S16384x4x64, .f32⟩
  | 96 => ⟨S16384x4x64, .f32⟩
  | 97 => ⟨S16384x4x16, .f32⟩
  | 98 => ⟨S16384x4x16, .f32⟩
  | 99 => ⟨S16384x4x16, .f32⟩
  | 100 => ⟨S16384x4x16, .f32⟩
  | 101 => ⟨S16384x4x16, .f32⟩
  | 102 => ⟨S16384x4x16, .f32⟩
  | 103 => ⟨S16384x4x64, .f32⟩
  | 104 => ⟨S16384x4x64, .f32⟩
  | 105 => ⟨S16384x4x64, .f32⟩
  | 106 => ⟨S16384x4x64, .f32⟩
  | 107 => ⟨S16384x4x64, .f32⟩
  | 108 => ⟨S16384x4x64, .f32⟩
  | 109 => ⟨S16384x128, .f32⟩
  | 110 => ⟨S16384x2x64, .f32⟩
  | 111 => ⟨S1x64, .f32⟩
  | 112 => ⟨S64, .f32⟩
  | 113 => ⟨S16384x2x64, .f32⟩
  | 114 => ⟨S_, .f32⟩
  | 115 => ⟨S16384x2, .f32⟩
  | 116 => ⟨S16384x2x1, .f32⟩
  | 117 => ⟨S_, .f32⟩
  | 118 => ⟨S16384x2x1, .f32⟩
  | 119 => ⟨S16384x2x1, .f32⟩
  | 120 => ⟨S_, .f32⟩
  | 121 => ⟨S16384x2x1, .f32⟩
  | 122 => ⟨S16384x2x1, .f32⟩
  | 123 => ⟨S16384x2x1, .f32⟩
  | 124 => ⟨S16384x2x64, .f32⟩
  | 125 => ⟨S16384x2x64, .f32⟩
  | 126 => ⟨S1x1x64, .f32⟩
  | 127 => ⟨S16384x2x64, .f32⟩
  | _ => ⟨S16384x2944, .f32⟩

abbrev hbmTy0_1 (i : Nat) : BufTy := match i % 128 with
  | 0 => ⟨S16384x2x64, .f32⟩
  | 1 => ⟨S16384x2x16, .f32⟩
  | 2 => ⟨S16384x2x16, .f32⟩
  | 3 => ⟨S16384x2x16, .f32⟩
  | 4 => ⟨S16384x2x16, .f32⟩
  | 5 => ⟨S16384x2x16, .f32⟩
  | 6 => ⟨S16384x2x16, .f32⟩
  | 7 => ⟨S16384x2x64, .f32⟩
  | 8 => ⟨S16384x2x64, .f32⟩
  | 9 => ⟨S16384x2x64, .f32⟩
  | 10 => ⟨S16384x2x64, .f32⟩
  | 11 => ⟨S16384x2x64, .f32⟩
  | 12 => ⟨S16384x2x64, .f32⟩
  | 13 => ⟨S16384x128, .f32⟩
  | 14 => ⟨S16384x2x64, .f32⟩
  | 15 => ⟨S16384x256, .f32⟩
  | 16 => ⟨S_, .f32⟩
  | 17 => ⟨S16384x256, .f32⟩
  | 18 => ⟨S16384x256, .f32⟩
  | 19 => ⟨S16384x2x1x64, .f32⟩
  | 20 => ⟨S16384x2x2x64, .f32⟩
  | 21 => ⟨S16384x256, .f32⟩
  | 22 => ⟨S256x16384, .f32⟩
  | 23 => ⟨S16384x2x1x64, .f32⟩
  | 24 => ⟨S16384x2x2x64, .f32⟩
  | 25 => ⟨S16384x256, .f32⟩
  | 26 => ⟨S16384x256, .bf16⟩
  | 27 => ⟨S256x16384, .bf16⟩
  | 28 => ⟨S16384x256, .bf16⟩
  | _ => ⟨S16384x2944, .f32⟩

abbrev hbmTy (i : Nat) : BufTy := match i / 128 with
  | 0 => hbmTy0_0 i
  | 1 => hbmTy0_1 i
  | _ => ⟨S16384x2944, .f32⟩

abbrev bufTy : (tb : Table) → Fin (tcTables nBuf tb) → BufTy
  | .hbm, ⟨i, _⟩ => hbmTy i
  | _, _ => ⟨S16384x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_cst : Ref sig .tc := ⟨.hbm, 45, rfl⟩
abbrev main_v4 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst_2 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_4 : Ref sig .tc := ⟨.hbm, 82, rfl⟩
abbrev main_v37 : Ref sig .tc := ⟨.hbm, 83, rfl⟩
abbrev main_v38 : Ref sig .tc := ⟨.hbm, 84, rfl⟩
abbrev main_cst_5 : Ref sig .tc := ⟨.hbm, 85, rfl⟩
abbrev main_v39 : Ref sig .tc := ⟨.hbm, 86, rfl⟩
abbrev main_v40 : Ref sig .tc := ⟨.hbm, 87, rfl⟩
abbrev main_cst_6 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_7 : Ref sig .tc := ⟨.hbm, 114, rfl⟩
abbrev main_v66 : Ref sig .tc := ⟨.hbm, 115, rfl⟩
abbrev main_v67 : Ref sig .tc := ⟨.hbm, 116, rfl⟩
abbrev main_cst_8 : Ref sig .tc := ⟨.hbm, 117, rfl⟩
abbrev main_v68 : Ref sig .tc := ⟨.hbm, 118, rfl⟩
abbrev main_v69 : Ref sig .tc := ⟨.hbm, 119, rfl⟩
abbrev main_cst_9 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_10 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩

abbrev nD : Nat := 1
abbrev τ : Topo := Topo.v7x

variable {F : FTy → Type} [FloatOps F]
-- ==== Proof.FlashBlock.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-! What one grid point of the attention call leaves in its output block, as five steps of one recursion. -/

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal Cert.KernelIdeal.Gen

/-- The scores of one half of the queries against one tile of the keys. -/
def score (q : FVec Ideal S512x128 .bf16) (k : FVec Ideal S128x3328 .bf16) : FVec Ideal S512x3328 .f32 :=
  matmul dot_S512x128_S128x3328_S512x3328_1_0_0_1_n_n none q (shapeCast S128x3328 k shapeCasts_S128x3328_S128x3328)
    (constant S512x3328 .f32 0x00000000#32)

/-- The scores as the scratch holds them. -/
def score4 (q : FVec Ideal S512x128 .bf16) (k : FVec Ideal S128x3328 .bf16) : FVec Ideal S1x1x512x3328 .f32 :=
  shapeCast S1x1x512x3328 (score q k) shapeCasts_S512x3328_S1x1x512x3328

/-- The greatest score of each row, as the scratch holds it. -/
def max4 (q : FVec Ideal S512x128 .bf16) (k : FVec Ideal S128x3328 .bf16) : FVec Ideal S1x1x512x1 .f32 :=
  shapeCast S1x1x512x1 (shapeCast S512x1 (multiReduction .maximumf [1] S512 (score q k) 0xFF800000#32
    reduces_S512x3328_S512 (.inl rfl) rfl) shapeCasts_S512_S512x1) shapeCasts_S512x1_S1x1x512x1

/-- The running maximum after one more tile. -/
def newM (a : FVec Ideal S512x1 .f32) (x : FVec Ideal S1x1x512x1 .f32) : FVec Ideal S512x1 .f32 :=
  maximumf a (shapeCast S512x1 x shapeCasts_S1x1x512x1_S512x1)

/-- The weighted sum after one more tile: the old one rescaled, plus the tile's. -/
def newAcc (a n : FVec Ideal S512x1 .f32) (acc : FVec Ideal S512x128 .f32) (s : FVec Ideal S1x1x512x3328 .f32)
    (w : FVec Ideal S3328x128 .bf16) : FVec Ideal S512x128 .f32 :=
  addf (mulf acc (broadcastTo S512x128 (exp2 (subf a n)) broadcasts_S512x1_S512x128))
    (matmul dot_S512x3328_S3328x128_S512x128_1_0_0_1_n_n none
      (truncf .bf16 (exp2 (subf (shapeCast S512x3328 s shapeCasts_S1x1x512x3328_S512x3328)
        (broadcastTo S512x3328 n broadcasts_S512x1_S512x3328))) bitsLt_bf16_f32) w
      (constant S512x128 .f32 0x00000000#32))

/-- Which lanes are the lower half's, over a tile of values. -/
def maskV : IVec S3328x128 1 :=
  broadcastTo S3328x128 (shapeCast S1x128 k0_pay2 shapeCasts_S1x128_S1x128) broadcasts_S1x128_S3328x128

/-- The values of the lower half's head, ones elsewhere. -/
def valA (v : FVec Ideal S3328x128 .bf16) : FVec Ideal S3328x128 .bf16 :=
  select maskV (shapeCast S3328x128 v shapeCasts_S3328x128_S3328x128) (k0_pay24 (F := Ideal))

/-- The values of the upper half's head, ones elsewhere. -/
def valB (v : FVec Ideal S3328x128 .bf16) : FVec Ideal S3328x128 .bf16 :=
  select maskV (k0_pay24 (F := Ideal)) (shapeCast S3328x128 v shapeCasts_S3328x128_S3328x128)

/-- The output block from the two weighted sums: each half over its own denominators. -/
def fin (a b : FVec Ideal S512x128 .f32) : FVec Ideal S512x128 .f32 :=
  select (broadcastTo S512x128 (shapeCast S1x128 k0_pay2 shapeCasts_S1x128_S1x128) broadcasts_S1x128_S512x128)
    (divf a (dynamicRotate 1 64#32 none a rotates_S512x128_d1))
    (divf b (dynamicRotate 1 64#32 none b rotates_S512x128_d1))

/-- The running maximum before tile `j`. -/
def runM (q : FVec Ideal S512x128 .bf16) (K : ℕ → FVec Ideal S128x3328 .bf16) : ℕ → FVec Ideal S512x1 .f32
  | 0 => k0_pay6
  | j + 1 => newM (runM q K j) (max4 q (K j))

/-- The weighted sum before tile `j`. -/
def runA (q : FVec Ideal S512x128 .bf16) (K : ℕ → FVec Ideal S128x3328 .bf16) (W : ℕ → FVec Ideal S3328x128 .bf16) :
    ℕ → FVec Ideal S512x128 .f32
  | 0 => k0_pay7
  | j + 1 => newAcc (runM q K j) (runM q K (j + 1)) (runA q K W j) (score4 q (K j)) (W j)

/-- The tiles of the keys. -/
def tileK (B : FVec Ideal S128x16640 .bf16) : ℕ → FVec Ideal S128x3328 .bf16
  | 0 => View.ld (Val := Elt Ideal) (e' := .bf16) B (Rect.unit ![0, 0] ![128, 3328] inb_S128x16640_S128x3328_0_0)
  | 1 => View.ld (Val := Elt Ideal) (e' := .bf16) B (Rect.unit ![0, 3328] ![128, 3328] inb_S128x16640_S128x3328_0_3328)
  | 2 => View.ld (Val := Elt Ideal) (e' := .bf16) B (Rect.unit ![0, 6656] ![128, 3328] inb_S128x16640_S128x3328_0_6656)
  | 3 => View.ld (Val := Elt Ideal) (e' := .bf16) B (Rect.unit ![0, 9984] ![128, 3328] inb_S128x16640_S128x3328_0_9984)
  | _ => View.ld (Val := Elt Ideal) (e' := .bf16) B (Rect.unit ![0, 13312] ![128, 3328] inb_S128x16640_S128x3328_0_13312)

/-- The tiles of the values. -/
def tileV (B : FVec Ideal S16640x128 .bf16) : ℕ → FVec Ideal S3328x128 .bf16
  | 0 => View.ld (Val := Elt Ideal) (e' := .bf16) B (Rect.unit ![0, 0] ![3328, 128] inb_S16640x128_S3328x128_0_0)
  | 1 => View.ld (Val := Elt Ideal) (e' := .bf16) B (Rect.unit ![3328, 0] ![3328, 128] inb_S16640x128_S3328x128_3328_0)
  | 2 => View.ld (Val := Elt Ideal) (e' := .bf16) B (Rect.unit ![6656, 0] ![3328, 128] inb_S16640x128_S3328x128_6656_0)
  | 3 => View.ld (Val := Elt Ideal) (e' := .bf16) B (Rect.unit ![9984, 0] ![3328, 128] inb_S16640x128_S3328x128_9984_0)
  | _ => View.ld (Val := Elt Ideal) (e' := .bf16) B (Rect.unit ![13312, 0] ![3328, 128] inb_S16640x128_S3328x128_13312_0)

/-- The output block of its three input blocks. -/
def block (Q : FVec Ideal S512x128 .bf16) (K : FVec Ideal S128x16640 .bf16) (V : FVec Ideal S16640x128 .bf16) :
    FVec Ideal S512x128 .f32 :=
  fin (runA (k0_pay4 (F := Ideal) Q) (tileK K) (fun j => valA (tileV V j)) 5) (runA (k0_pay5 (F := Ideal) Q) (tileK K) (fun j => valB (tileV V j)) 5)

/-! ## The payloads by these names -/

theorem p10 (q : FVec Ideal S512x128 .bf16) (k : FVec Ideal S128x3328 .bf16) :
    k0_pay10 q k = score4 (k0_pay4 (F := Ideal) q) k := rfl
theorem p11 (q : FVec Ideal S512x128 .bf16) (k : FVec Ideal S128x3328 .bf16) :
    k0_pay11 q k = max4 (k0_pay4 (F := Ideal) q) k := rfl
theorem p13 (q : FVec Ideal S512x128 .bf16) (k : FVec Ideal S128x3328 .bf16) :
    k0_pay13 q k = score4 (k0_pay5 (F := Ideal) q) k := rfl
theorem p15 (q : FVec Ideal S512x128 .bf16) (k : FVec Ideal S128x3328 .bf16) :
    k0_pay15 (k0_pay14 q k) = max4 (k0_pay5 (F := Ideal) q) k := rfl
theorem p18 (q : FVec Ideal S512x128 .bf16) (k : FVec Ideal S128x3328 .bf16) :
    k0_pay18 q k = score4 q k := rfl
theorem p19 (q : FVec Ideal S512x128 .bf16) (k : FVec Ideal S128x3328 .bf16) :
    k0_pay19 q k = max4 q k := rfl
theorem p21 (q : FVec Ideal S512x128 .bf16) (k : FVec Ideal S128x3328 .bf16) :
    k0_pay21 q k = score4 q k := rfl
theorem p22 (q : FVec Ideal S512x128 .bf16) (k : FVec Ideal S128x3328 .bf16) :
    k0_pay22 q k = max4 q k := rfl
theorem p31 (q : FVec Ideal S512x128 .bf16) (k : FVec Ideal S128x3328 .bf16) :
    k0_pay31 q k = score4 q k := rfl
theorem p32 (q : FVec Ideal S512x128 .bf16) (k : FVec Ideal S128x3328 .bf16) :
    k0_pay32 q k = max4 q k := rfl
theorem p34 (q : FVec Ideal S512x128 .bf16) (k : FVec Ideal S128x3328 .bf16) :
    k0_pay34 q k = score4 q k := rfl
theorem p35 (q : FVec Ideal S512x128 .bf16) (k : FVec Ideal S128x3328 .bf16) :
    k0_pay35 q k = max4 q k := rfl
theorem p44 (q : FVec Ideal S512x128 .bf16) (k : FVec Ideal S128x3328 .bf16) :
    k0_pay44 (k0_pay43 q k) = score4 q k := rfl
theorem p45 (q : FVec Ideal S512x128 .bf16) (k : FVec Ideal S128x3328 .bf16) :
    k0_pay45 (k0_pay43 q k) = max4 q k := rfl
theorem p47 (q : FVec Ideal S512x128 .bf16) (k : FVec Ideal S128x3328 .bf16) :
    k0_pay47 q (k0_pay42 k) = score4 q k := rfl
theorem p48 (q : FVec Ideal S512x128 .bf16) (k : FVec Ideal S128x3328 .bf16) :
    k0_pay48 q (k0_pay42 k) = max4 q k := rfl
theorem p57 (q : FVec Ideal S512x128 .bf16) (k : FVec Ideal S128x3328 .bf16) :
    k0_pay57 q k = score4 q k := rfl
theorem p59 (q : FVec Ideal S512x128 .bf16) (k : FVec Ideal S128x3328 .bf16) :
    k0_pay59 (k0_pay58 q k) = max4 q k := rfl
theorem p61 (q : FVec Ideal S512x128 .bf16) (k : FVec Ideal S128x3328 .bf16) :
    k0_pay61 q (k0_pay55 k) = score4 q k := rfl
theorem p62 (q : FVec Ideal S512x128 .bf16) (k : FVec Ideal S128x3328 .bf16) :
    k0_pay62 q (k0_pay55 k) = max4 q k := rfl
theorem p25 (a : FVec Ideal S512x1 .f32) (x : FVec Ideal S1x1x512x1 .f32) :
    k0_pay25 a x = newM a x := rfl
theorem p26 (a : FVec Ideal S512x1 .f32) (x : FVec Ideal S1x1x512x1 .f32) :
    k0_pay26 a x = newM a x := rfl
theorem p38 (a : FVec Ideal S512x1 .f32) (x : FVec Ideal S1x1x512x1 .f32) :
    k0_pay38 a x = newM a x := rfl
theorem p39 (a : FVec Ideal S512x1 .f32) (x : FVec Ideal S1x1x512x1 .f32) :
    k0_pay39 a x = newM a x := rfl
theorem p51 (a : FVec Ideal S512x1 .f32) (x : FVec Ideal S1x1x512x1 .f32) :
    k0_pay51 a x = newM a x := rfl
theorem p52 (a : FVec Ideal S512x1 .f32) (x : FVec Ideal S1x1x512x1 .f32) :
    k0_pay52 a x = newM a x := rfl
theorem p65 (a : FVec Ideal S512x1 .f32) (x : FVec Ideal S1x1x512x1 .f32) :
    k0_pay65 a x = newM a x := rfl
theorem p66 (a : FVec Ideal S512x1 .f32) (x : FVec Ideal S1x1x512x1 .f32) :
    k0_pay66 a x = newM a x := rfl
theorem p72 (a : FVec Ideal S512x1 .f32) (x : FVec Ideal S1x1x512x1 .f32) :
    k0_pay72 a x = newM a x := rfl
theorem p73 (a : FVec Ideal S512x1 .f32) (x : FVec Ideal S1x1x512x1 .f32) :
    k0_pay73 a x = newM a x := rfl
theorem p27 (a : FVec Ideal S512x1 .f32) (x : FVec Ideal S1x1x512x1 .f32) (acc : FVec Ideal S512x128 .f32) (v : FVec Ideal S3328x128 .bf16) (s : FVec Ideal S1x1x512x3328 .f32) :
    k0_pay27 k0_pay2 a acc v x s = newAcc a (newM a x) acc s (valA v) := rfl
theorem p28 (a : FVec Ideal S512x1 .f32) (x : FVec Ideal S1x1x512x1 .f32) (acc : FVec Ideal S512x128 .f32) (v : FVec Ideal S3328x128 .bf16) (s : FVec Ideal S1x1x512x3328 .f32) :
    k0_pay28 k0_pay2 a acc v x s = newAcc a (newM a x) acc s (valB v) := rfl
theorem p40 (a : FVec Ideal S512x1 .f32) (x : FVec Ideal S1x1x512x1 .f32) (acc : FVec Ideal S512x128 .f32) (v : FVec Ideal S3328x128 .bf16) (s : FVec Ideal S1x1x512x3328 .f32) :
    k0_pay40 k0_pay2 a acc (k0_pay36 v) k0_pay37 x s = newAcc a (newM a x) acc s (valA v) := rfl
theorem p41 (a : FVec Ideal S512x1 .f32) (x : FVec Ideal S1x1x512x1 .f32) (acc : FVec Ideal S512x128 .f32) (v : FVec Ideal S3328x128 .bf16) (s : FVec Ideal S1x1x512x3328 .f32) :
    k0_pay41 k0_pay2 a acc (k0_pay36 v) k0_pay37 x s = newAcc a (newM a x) acc s (valB v) := rfl
theorem p53 (a : FVec Ideal S512x1 .f32) (x : FVec Ideal S1x1x512x1 .f32) (acc : FVec Ideal S512x128 .f32) (v : FVec Ideal S3328x128 .bf16) (s : FVec Ideal S1x1x512x3328 .f32) :
    k0_pay53 k0_pay2 a acc (k0_pay49 v) k0_pay50 (newM a x) s = newAcc a (newM a x) acc s (valA v) := rfl
theorem p54 (a : FVec Ideal S512x1 .f32) (x : FVec Ideal S1x1x512x1 .f32) (acc : FVec Ideal S512x128 .f32) (v : FVec Ideal S3328x128 .bf16) (s : FVec Ideal S1x1x512x3328 .f32) :
    k0_pay54 k0_pay2 a acc (k0_pay49 v) k0_pay50 (newM a x) s = newAcc a (newM a x) acc s (valB v) := rfl
theorem p68 (a : FVec Ideal S512x1 .f32) (x : FVec Ideal S1x1x512x1 .f32) (acc : FVec Ideal S512x128 .f32) (v : FVec Ideal S3328x128 .bf16) (s : FVec Ideal S1x1x512x3328 .f32) :
    k0_pay68 k0_pay2 a acc (k0_pay63 v) k0_pay64 (newM a x) (k0_pay67 a x s) = newAcc a (newM a x) acc s (valA v) := rfl
theorem p69 (a : FVec Ideal S512x1 .f32) (x : FVec Ideal S1x1x512x1 .f32) (acc : FVec Ideal S512x128 .f32) (v : FVec Ideal S3328x128 .bf16) (s : FVec Ideal S1x1x512x3328 .f32) :
    k0_pay69 k0_pay2 a acc (k0_pay63 v) k0_pay64 (newM a x) s = newAcc a (newM a x) acc s (valB v) := rfl
theorem p1 (a b : FVec Ideal S512x1 .f32) (x y : FVec Ideal S1x1x512x1 .f32)
    (acc bcc : FVec Ideal S512x128 .f32) (v : FVec Ideal S3328x128 .bf16) (s t : FVec Ideal S1x1x512x3328 .f32) :
    k0_pay1 k0_pay2 a b acc bcc (k0_pay70 v) k0_pay71 (newM a x) (newM b y) (k0_pay74 a x s) t = fin (newAcc a (newM a x) acc s (valA v)) (newAcc b (newM b y) bcc t (valB v)) := rfl

variable (m : (ℓ : Loc nD τ sig) → Buf (Elt Ideal) ℓ)

theorem outsAt0_eq (c : Dev nD) (t : Fin cfg0.N) :
    outsAt0 m c t = block (iblk m c 0 t) (iblk m c 1 t) (iblk m c 2 t) := by
  unfold Gen.outsAt0
  frame_open
  simp (disch := decide) only [↓ View.readCov_skip, ↓ View.readCov_cons_toLoadRect, ↓ View.readCov_fill]
  frame_out
  simp only [p10, p11, p13, p15, p18, p19, p21, p22, p31, p32, p34, p35, p44, p45, p47, p48, p57, p59, p61, p62, p25, p26, p38, p39, p51, p52, p65, p66, p72, p73, p27, p28, p40, p41, p53, p54, p68, p69, p1]
  simp only [block, runA, runM, tileK, tileV]

end Cert.KernelIdeal.Flash

end
-- ==== Proof.FlashEntry.lean ====
module

public import proofs.«01_k».proof.Proof.FlashBlock
public import Idealize.ShloMosaic.Lib.Pipeline.ValueKit
public import Idealize.ShloMosaic.Lib.Pipeline.ReadBack
public import Idealize.ShloMosaic.Lib.Pointwise

/-! The entries of the attention call's output block. -/

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal Cert.KernelIdeal.Gen

theorem low_word : ∀ l : Fin 128, IntOp.cmpi CmpIPredicate.slt (BitVec.ofNat 32 l.val) 64#32 = if l.val < 64 then 1#1 else 0#1 := by
  decide

/-- A choice by "is in the lower half". -/
theorem select_low {α : Type} (l : Fin 128) (a b : α) :
    Scalar.select (IntOp.cmpi CmpIPredicate.slt (BitVec.ofNat 32 l.val) 64#32) a b = if l.val < 64 then a else b := by
  rw [low_word]
  split <;> rfl

theorem neg_inf : Ideal.ofBits .f32 0xFF800000#32 = (⊥ : EReal) := by
  decide

theorem score_apply (q : FVec Ideal S512x128 .bf16) (k : FVec Ideal S128x3328 .bf16) (r : Fin 512) (i : Fin 3328) :
    score q k (ix2 r i) = ∑ d : Fin 128, q (ix2 r d) * k (ix2 d i) := by
  pointwise [score]

theorem score4_apply (q : FVec Ideal S512x128 .bf16) (k : FVec Ideal S128x3328 .bf16) (r : Fin 512) (i : Fin 3328) :
    score4 q k (ix4 0 0 r i) = score q k (ix2 r i) := by
  pointwise [score4]

theorem newM_apply (a : FVec Ideal S512x1 .f32) (x : FVec Ideal S1x1x512x1 .f32) (r : Fin 512) :
    newM a x (ix2 r 0) = max (a (ix2 r 0)) (x (ix4 0 0 r 0)) := by
  pointwise [newM]

theorem newAcc_apply (a n : FVec Ideal S512x1 .f32) (acc : FVec Ideal S512x128 .f32) (s : FVec Ideal S1x1x512x3328 .f32)
    (w : FVec Ideal S3328x128 .bf16) (r : Fin 512) (l : Fin 128) :
    newAcc a n acc s w (ix2 r l) = acc (ix2 r l) * Ideal.exp2 (a (ix2 r 0) - n (ix2 r 0))
      + ∑ i : Fin 3328, Ideal.exp2 (s (ix4 0 0 r i) - n (ix2 r 0)) * w (ix2 i l) := by
  pointwise [newAcc]
  rfl

theorem max4_apply (q : FVec Ideal S512x128 .bf16) (k : FVec Ideal S128x3328 .bf16) (r : Fin 512) :
    max4 q k (ix4 0 0 r 0) = Finset.fold max ⊥ (fun x => score q k (ix2 r x)) Finset.univ := by
  pointwise [max4]
  exact congrArg (fun z => Finset.fold max z _ _) neg_inf

theorem fin_apply (a b : FVec Ideal S512x128 .f32) (r : Fin 512) (l : Fin 128) :
    fin a b (ix2 r l) = if l.val < 64 then Ideal.div (a (ix2 r l)) (a (ix2 r ⟨(l.val + 128 - 64) % 128, by omega⟩))
      else Ideal.div (b (ix2 r l)) (b (ix2 r ⟨(l.val + 128 - 64) % 128, by omega⟩)) := by
  pointwise [fin, k0_pay2]
  exact select_low l _ _

theorem valA_apply (v : FVec Ideal S3328x128 .bf16) (i : Fin 3328) (l : Fin 128) :
    valA v (ix2 i l) = if l.val < 64 then v (ix2 i l) else (1 : EReal) := by
  pointwise [valA, maskV, k0_pay2, k0_pay24]
  exact select_low l _ _

theorem valB_apply (v : FVec Ideal S3328x128 .bf16) (i : Fin 3328) (l : Fin 128) :
    valB v (ix2 i l) = if l.val < 64 then (1 : EReal) else v (ix2 i l) := by
  pointwise [valB, maskV, k0_pay2, k0_pay24]
  exact select_low l _ _

theorem pay4_apply (v : FVec Ideal S512x128 .bf16) (i : Fin 512) (l : Fin 128) :
    k0_pay4 (F := Ideal) v (ix2 i l) = (if l.val < 64 then v (ix2 i l) else 0 : EReal) := by
  pointwise [k0_pay4, k0_pay3, k0_pay2]
  exact select_low l _ _

theorem pay5_apply (v : FVec Ideal S512x128 .bf16) (i : Fin 512) (l : Fin 128) :
    k0_pay5 (F := Ideal) v (ix2 i l) = (if l.val < 64 then 0 else v (ix2 i l) : EReal) := by
  pointwise [k0_pay5, k0_pay3, k0_pay2]
  exact select_low l _ _

theorem start_m (r : Fin 512) : k0_pay6 (F := Ideal) (ix2 r 0) = (⊥ : EReal) := neg_inf

theorem start_a (r : Fin 512) (l : Fin 128) : k0_pay7 (F := Ideal) (ix2 r l) = (0 : EReal) := by
  pointwise [k0_pay7]

theorem tileK_apply (B : FVec Ideal S128x16640 .bf16) (j : Fin 5) (d : Fin 128) (i : Fin 3328) :
    tileK B j.val (ix2 d i) = B (ix2 d ⟨3328 * j.val + i.val, by omega⟩) := by
  fin_cases j
  all_goals pointwise [tileK]

theorem tileV_apply (B : FVec Ideal S16640x128 .bf16) (j : Fin 5) (d : Fin 128) (i : Fin 3328) :
    tileV B j.val (ix2 i d) = B (ix2 ⟨3328 * j.val + i.val, by omega⟩ d) := by
  fin_cases j
  all_goals pointwise [tileV]

end Cert.KernelIdeal.Flash

end
-- ==== Proof.FlashMath.lean ====
module

public import Idealize.ShloMosaic.PureOps.Ideal

/-! The softmax a tile at a time: what the running maximum and the rescaled sums come to. -/

@[expose] public section

noncomputable section

namespace Cert.FlashMath

open Idealize.ShloMosaic

theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A finite sum of real products is a real. -/
theorem sum_real {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem exp2_sub (a b : ℝ) : Ideal.exp2 ((a : EReal) - (b : EReal)) = (((2 : ℝ) ^ (a - b) : ℝ) : EReal) := by
  rw [← EReal.coe_sub]; rfl

/-- The greatest of finitely many reals, from the least value there is. -/
theorem fold_max_real {ι : Type*} [Fintype ι] [Nonempty ι] (f : ι → EReal) (hf : ∀ i, ∃ r : ℝ, f i = r) :
    ∃ r : ℝ, Finset.fold max ⊥ f Finset.univ = (r : EReal) := by
  obtain ⟨i, -, h⟩ := Finset.exists_mem_eq_sup (Finset.univ : Finset ι) Finset.univ_nonempty f
  obtain ⟨r, hr⟩ := hf i
  exact ⟨r, (show Finset.fold max ⊥ f Finset.univ = f i from h).trans hr⟩

/-- Rescaling a weighted sum moves its reference point. -/
theorem rescale {ι : Type*} (s : Finset ι) (σ : ι → ℝ) (v : ι → EReal) (m n : ℝ) :
    (∑ i ∈ s, (((2 : ℝ) ^ (σ i - m) : ℝ) : EReal) * v i) * (((2 : ℝ) ^ (m - n) : ℝ) : EReal)
      = ∑ i ∈ s, (((2 : ℝ) ^ (σ i - n) : ℝ) : EReal) * v i := by
  rw [sum_mul_of_nonneg s _ (by exact_mod_cast Real.rpow_nonneg zero_le_two _) (EReal.coe_ne_top _)]
  refine Finset.sum_congr rfl fun i _ => ?_
  rw [mul_right_comm, ← EReal.coe_mul, ← Real.rpow_add two_pos]
  congr 3
  ring

/-- The tile recursion in closed form, about the running maximum. -/
theorem run {N : ℕ} (mm aa x : ℕ → EReal) (σ : ℕ → Fin N → ℝ) (v : ℕ → Fin N → EReal)
    (hx : ∀ j, ∃ r : ℝ, x j = r) (hm0 : mm 0 = ⊥) (ha0 : aa 0 = 0) (hm : ∀ j, mm (j + 1) = max (mm j) (x j))
    (ha : ∀ j, aa (j + 1) = aa j * Ideal.exp2 (mm j - mm (j + 1))
      + ∑ i, Ideal.exp2 ((σ j i : EReal) - mm (j + 1)) * v j i) (j : ℕ) :
    ∃ r : ℝ, mm (j + 1) = r ∧ aa (j + 1) = ∑ t ∈ Finset.range (j + 1), ∑ i, (((2 : ℝ) ^ (σ t i - r) : ℝ) : EReal) * v t i := by
  induction j with
  | zero =>
    obtain ⟨r, hr⟩ := hx 0
    have h1 : mm 1 = r := by rw [hm 0, hm0, hr]; exact max_eq_right bot_le
    refine ⟨r, h1, ?_⟩
    rw [ha 0, ha0, zero_mul, zero_add, h1, Finset.sum_range_one]
    simp only [exp2_sub]
  | succ j ih =>
    obtain ⟨r, hr, hA⟩ := ih
    obtain ⟨y, hy⟩ := hx (j + 1)
    have h1 : mm (j + 1 + 1) = ((max r y : ℝ) : EReal) := by rw [hm (j + 1), hr, hy]; exact (EReal.coe_strictMono.monotone.map_max (a := r) (b := y)).symm
    refine ⟨max r y, h1, ?_⟩
    rw [ha (j + 1), hA, h1, hr, exp2_sub, Finset.sum_range_succ _ (j + 1)]
    rw [sum_mul_of_nonneg _ _ (by exact_mod_cast Real.rpow_nonneg zero_le_two _) (EReal.coe_ne_top _),
      Finset.sum_congr rfl fun t _ => rescale Finset.univ (σ t) (v t) r (max r y)]
    simp only [exp2_sub]

/-- A weighted sum over its own denominator, at base two about any point, is the softmax's weighted sum. -/
theorem soft {ι : Type*} [Fintype ι] [Nonempty ι] (σ : ι → ℝ) (v : ι → EReal) (m M : ℝ) :
    Ideal.div (∑ i, (((2 : ℝ) ^ (σ i - m) : ℝ) : EReal) * v i) (∑ i, (((2 : ℝ) ^ (σ i - m) : ℝ) : EReal) * 1)
      = ∑ i, Ideal.div (Ideal.exp (((σ i * Real.log 2 : ℝ) : EReal) - (M : EReal)))
          (∑ k, Ideal.exp (((σ k * Real.log 2 : ℝ) : EReal) - (M : EReal))) * v i := by
  have hexp : ∀ i, Ideal.exp (((σ i * Real.log 2 : ℝ) : EReal) - (M : EReal))
      = ((Real.exp (σ i * Real.log 2) * Real.exp (-M) : ℝ) : EReal) := fun i => by
    rw [← EReal.coe_sub, ← Real.exp_add]; rfl
  have hpow : ∀ i, (2 : ℝ) ^ (σ i - m) = Real.exp (σ i * Real.log 2) * Real.exp (-(m * Real.log 2)) := fun i => by
    rw [Real.rpow_def_of_pos two_pos, ← Real.exp_add]; congr 1; ring
  have hZ : 0 < ∑ i, Real.exp (σ i * Real.log 2) := Finset.sum_pos (fun i _ => Real.exp_pos _) Finset.univ_nonempty
  simp only [hexp, hpow, mul_one, sum_real, ← Finset.sum_mul]
  set Z := ∑ i, Real.exp (σ i * Real.log 2) with hZdef
  have hd : ∀ (a : EReal) (c : ℝ), 0 < c → Ideal.div a ((Z * c : ℝ) : EReal) = a * (((Z * c)⁻¹ : ℝ) : EReal) := fun a c hc => by
    unfold Ideal.div
    rw [if_neg (by exact_mod_cast (mul_pos hZ hc).ne'), EReal.coe_inv]
  rw [hd _ _ (Real.exp_pos _), sum_mul_of_nonneg _ _ (by
    have := (inv_pos.mpr (mul_pos hZ (Real.exp_pos (-(m * Real.log 2))))).le
    exact_mod_cast this) (EReal.coe_ne_top _)]
  refine Finset.sum_congr rfl fun i _ => ?_
  rw [hd _ _ (Real.exp_pos _), mul_right_comm, ← EReal.coe_mul, ← EReal.coe_mul]
  congr 2
  have h1 := (Real.exp_pos (-M)).ne'
  have h2 := (Real.exp_pos (-(m * Real.log 2))).ne'
  have h3 := hZ.ne'
  field_simp

end Cert.FlashMath

end
-- ==== Proof.FlashSoft.lean ====
module

public import proofs.«01_k».proof.Proof.FlashEntry
public import proofs.«01_k».proof.Proof.FlashMath
public import Idealize.ShloMosaic.Lib.Pipeline.ValueKit
public import Idealize.ShloMosaic.Lib.Pointwise

/-! An entry of the attention call's output block: the softmax of the head's scores, weighing the values. -/

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal Cert.KernelIdeal.Gen

/-- The tile's number, for one that may be past the last. -/
def tl (j : ℕ) : Fin 5 := ⟨min j 4, by omega⟩

theorem tl_of_lt {j : ℕ} (h : j < 5) : (tl j).val = j := by simp only [tl]; omega

/-- The weighted sums after the last tile, lane by lane, about one real point shared by a row's lanes. -/
theorem run_row (q : FVec Ideal S512x128 .bf16) (K : FVec Ideal S128x16640 .bf16) (W : ℕ → FVec Ideal S3328x128 .bf16)
    (r : Fin 512) (σ : Fin 16640 → ℝ) (hσ : ∀ x, ∑ d : Fin 128, (q (ix2 r d) : EReal) * K (ix2 d x) = (σ x : EReal))
    (w : Fin 128 → Fin 16640 → EReal)
    (hw : ∀ (j : Fin 5) (i : Fin 3328) (l : Fin 128), W j.val (ix2 i l) = w l ⟨3328 * j.val + i.val, by omega⟩) :
    ∃ p : ℝ, ∀ l : Fin 128, runA q (tileK K) W 5 (ix2 r l) = ∑ x, (((2 : ℝ) ^ (σ x - p) : ℝ) : EReal) * w l x := by
  -- the recursion, with the tiles past the last repeating it
  have hs : ∀ (j : Fin 5) (i : Fin 3328), score q (tileK K j.val) (ix2 r i) = (σ ⟨3328 * j.val + i.val, by omega⟩ : EReal) := fun j i => by
    rw [score_apply, ← hσ]
    exact Finset.sum_congr rfl fun d _ => by rw [tileK_apply]
  have hall : ∀ j, tileK K j = tileK K (tl j).val := fun j => by
    match j with
    | 0 | 1 | 2 | 3 | 4 => rfl
    | n + 5 => rfl
  have hx : ∀ j, ∃ y : ℝ, max4 q (tileK K j) (ix4 0 0 r 0) = (y : EReal) := fun j => by
    rw [max4_apply, hall]
    exact FlashMath.fold_max_real _ fun i => ⟨_, hs _ i⟩
  have key : ∀ l : Fin 128, ∃ p : ℝ, runM q (tileK K) 5 (ix2 r 0) = (p : EReal) ∧ runA q (tileK K) W 5 (ix2 r l)
      = ∑ t ∈ Finset.range 5, ∑ i : Fin 3328, (((2 : ℝ) ^ (σ ⟨3328 * (tl t).val + i.val, by omega⟩ - p) : ℝ) : EReal) * W t (ix2 i l) := fun l =>
    FlashMath.run (fun j => runM q (tileK K) j (ix2 r 0)) (fun j => runA q (tileK K) W j (ix2 r l))
      (fun j => max4 q (tileK K j) (ix4 0 0 r 0)) (fun j i => σ ⟨3328 * (tl j).val + i.val, by omega⟩)
      (fun j i => W j (ix2 i l)) hx (start_m r) (start_a r l) (fun j => newM_apply _ _ r) (fun j => by
        show newAcc _ _ _ _ _ (ix2 r l) = _
        rw [newAcc_apply]
        refine congrArg (_ + ·) (Finset.sum_congr rfl fun i _ => ?_)
        rw [score4_apply, hall, hs]) 4
  obtain ⟨p, hp, -⟩ := key 0
  refine ⟨p, fun l => ?_⟩
  obtain ⟨p', hp', h⟩ := key l
  obtain rfl : p = p' := EReal.coe_injective (hp.symm.trans hp')
  rw [h, Fin.sum_univ_tiles 5 3328 rfl, Finset.sum_range]
  refine Finset.sum_congr rfl fun t _ => Finset.sum_congr rfl fun i _ => ?_
  have ht : (tl t.val).val = t.val := tl_of_lt t.isLt
  have hi : (⟨t.val * 3328 + i.val, by omega⟩ : Fin 16640) = ⟨3328 * t.val + i.val, by omega⟩ := Fin.ext (by simp only; omega)
  simp only [ht, hw, hi]

/-- What one lane's entry comes to, from the scores of its head and the values of its lane. -/
def soft (σ : Fin 16640 → ℝ) (M : ℝ) (v : Fin 16640 → EReal) : EReal :=
  ∑ x, Ideal.div (Ideal.exp (((σ x * Real.log 2 : ℝ) : EReal) - (M : EReal)))
    (∑ y, Ideal.exp (((σ y * Real.log 2 : ℝ) : EReal) - (M : EReal))) * v x

theorem block_low (Q : FVec Ideal S512x128 .bf16) (K : FVec Ideal S128x16640 .bf16) (V : FVec Ideal S16640x128 .bf16)
    (r : Fin 512) (l : Fin 128) (hl : l.val < 64) (σ : Fin 16640 → ℝ) (M : ℝ)
    (hσ : ∀ x, ∑ d : Fin 64, (Q (ix2 r ⟨d.val, by omega⟩) : EReal) * K (ix2 ⟨d.val, by omega⟩ x) = (σ x : EReal)) :
    block Q K V (ix2 r l) = soft σ M fun x => V (ix2 x l) := by
  have hσ' : ∀ x, ∑ d : Fin 128, (k0_pay4 (F := Ideal) Q (ix2 r d) : EReal) * K (ix2 d x) = (σ x : EReal) := fun x => by
    rw [← hσ x, Fin.sum_univ_two_halves 64 64 rfl]
    refine (congrArg₂ (· + ·) (Finset.sum_congr rfl fun (d : Fin 64) _ => ?_) (Finset.sum_eq_zero fun (d : Fin 64) _ => ?_)).trans (add_zero _)
    · rw [pay4_apply, if_pos d.isLt]
    · rw [pay4_apply, if_neg (by simp only; omega), zero_mul]
  obtain ⟨p, hA⟩ := run_row (k0_pay4 (F := Ideal) Q) K (fun j => valA (tileV V j)) r σ hσ'
    (fun l x => if l.val < 64 then V (ix2 x l) else 1) (fun j i l => by rw [valA_apply, tileV_apply])
  rw [block, fin_apply, if_pos hl, hA, hA]
  have h2 : ¬ (l.val + 128 - 64) % 128 < 64 := by omega
  simp only [hl, if_true, if_neg h2]
  exact FlashMath.soft σ _ p M

theorem block_high (Q : FVec Ideal S512x128 .bf16) (K : FVec Ideal S128x16640 .bf16) (V : FVec Ideal S16640x128 .bf16)
    (r : Fin 512) (l : Fin 128) (hl : ¬ l.val < 64) (σ : Fin 16640 → ℝ) (M : ℝ)
    (hσ : ∀ x, ∑ d : Fin 64, (Q (ix2 r ⟨64 + d.val, by omega⟩) : EReal) * K (ix2 ⟨64 + d.val, by omega⟩ x) = (σ x : EReal)) :
    block Q K V (ix2 r l) = soft σ M fun x => V (ix2 x l) := by
  have hσ' : ∀ x, ∑ d : Fin 128, (k0_pay5 (F := Ideal) Q (ix2 r d) : EReal) * K (ix2 d x) = (σ x : EReal) := fun x => by
    rw [← hσ x, Fin.sum_univ_two_halves 64 64 rfl]
    refine (congrArg₂ (· + ·) (Finset.sum_eq_zero fun (d : Fin 64) _ => ?_) (Finset.sum_congr rfl fun (d : Fin 64) _ => ?_)).trans (zero_add _)
    · rw [pay5_apply, if_pos d.isLt, zero_mul]
    · rw [pay5_apply, if_neg (by simp only; omega)]
  obtain ⟨p, hA⟩ := run_row (k0_pay5 (F := Ideal) Q) K (fun j => valB (tileV V j)) r σ hσ'
    (fun l x => if l.val < 64 then 1 else V (ix2 x l)) (fun j i l => by rw [valB_apply, tileV_apply])
  rw [block, fin_apply, if_neg hl, hA, hA]
  have h2 : (l.val + 128 - 64) % 128 < 64 := by omega
  simp only [hl, if_false, if_pos h2]
  exact FlashMath.soft σ _ p M

end Cert.KernelIdeal.Flash

end
-- ==== Proof.RefEntry.lean ====
module

public import proofs.«01_k».proof.Proof.Gen.ReferenceIdeal.Run
public import Idealize.ShloMosaic.Lib.Pipeline.ValueKit
public import Idealize.ShloMosaic.Lib.Pointwise
public import proofs.«01_k».proof.Proof.FlashMath

/-! The entries of the reference's result. -/

@[expose] public section

set_option maxRecDepth 16384

noncomputable section

namespace Cert.ReferenceIdeal.Flash

open Idealize.ShloMosaic Idealize.ShloMosaic.TcCoe Idealize.SL.Sem
open Cert.ReferenceIdeal Cert.ReferenceIdeal.Gen Cert.ReferenceIdeal.Value

/-- The scores: each head's queries against its keys, times the logarithm of two. -/
def scores (Q : FVec Ideal S16384x256 .f32) (K : FVec Ideal S256x16640 .f32) : FVec Ideal S4x16384x16640 .f32 :=
  mulf (Host.dotGeneral dot_S4x16384x64_S4x64x16640_S4x16384x16640_2_1_1_2_0_0 none
      (transpose S4x16384x64 [1, 0, 2] (shapeCast S16384x4x64 Q shapeCasts_S16384x256_S16384x4x64) transposes_S16384x4x64_S4x16384x64_1_0_2)
      (shapeCast S4x64x16640 K shapeCasts_S256x16640_S4x64x16640))
    (broadcastInDim S4x16384x16640 ![] bcast_S_S4x16384x16640 (Host.log (constant S_ .f32 0x40000000#32)))

/-- A row's values less their maximum, exponentiated. -/
def expo (s : FVec Ideal S4x16384x16640 .f32) : FVec Ideal S4x16384x16640 .f32 :=
  Host.exp (subf s (broadcastInDim S4x16384x16640 ![0, 1, 2] bcast_S4x16384x1_S4x16384x16640_0_1_2
    (broadcastInDim S4x16384x1 ![0, 1] bcast_S4x16384_S4x16384x1_0_1
      (maximumf (broadcastInDim S4x16384 ![] bcast_S_S4x16384 (constant S_ .f32 0xFF800000#32))
        (Host.reduce FloatOps.maximumf s (constant S_ .f32 0xFF800000#32) reducesTo_S4x16384x16640_S4x16384_d2 h_S_)))))

/-- Each row over its sum. -/
def norm (e : FVec Ideal S4x16384x16640 .f32) : FVec Ideal S4x16384x16640 .f32 :=
  Host.divf e (broadcastInDim S4x16384x16640 ![0, 1, 2] bcast_S4x16384x1_S4x16384x16640_0_1_2
    (broadcastInDim S4x16384x1 ![0, 1] bcast_S4x16384_S4x16384x1_0_1
      (Host.reduceAdd e (constant S_ .f32 0x00000000#32) reducesTo_S4x16384x16640_S4x16384_d2 h_S_)))

/-- The weighted values, the heads side by side. -/
def mix (p : FVec Ideal S4x16384x16640 .f32) (V : FVec Ideal S16640x256 .f32) : FVec Ideal S16384x256 .f32 :=
  shapeCast S16384x256 (transpose S16384x4x64 [1, 0, 2]
    (Host.dotGeneral dot_S4x16384x16640_S4x16640x64_S4x16384x64_2_1_1_2_0_0 none p
      (transpose S4x16640x64 [1, 0, 2] (shapeCast S16640x4x64 V shapeCasts_S16640x256_S16640x4x64)
        transposes_S16640x4x64_S4x16640x64_1_0_2)) transposes_S4x16384x64_S16384x4x64_1_0_2) shapeCasts_S16384x4x64_S16384x256

/-- All the keys. -/
def keys (kc : FVec Ideal S256x256 .bf16) (k : FVec Ideal S256x16384 .bf16) : FVec Ideal S256x16640 .f32 :=
  concatenate S256x16640 1 [⟨S256x256, (extf .f32 kc bitsLt_bf16_f32)⟩, ⟨S256x16384, (extf .f32 k bitsLt_bf16_f32)⟩]
    concatenates_S256x256_S256x16384_S256x16640_d1

/-- All the values. -/
def vals (vc : FVec Ideal S256x256 .bf16) (v : FVec Ideal S16384x256 .bf16) : FVec Ideal S16640x256 .f32 :=
  concatenate S16640x256 0 [⟨S256x256, (extf .f32 vc bitsLt_bf16_f32)⟩, ⟨S16384x256, (extf .f32 v bitsLt_bf16_f32)⟩]
    concatenates_S256x256_S16384x256_S16640x256_d0

theorem mix_apply (p : FVec Ideal S4x16384x16640 .f32) (V : FVec Ideal S16640x256 .f32) (n : Fin 16384) (l : Fin 256) :
    mix p V (ix2 n l) = ∑ x : Fin 16640, p (ix3 ⟨l.val / 64, by omega⟩ n x) * V (ix2 x l) := by
  pointwise [mix]

theorem norm_apply (e : FVec Ideal S4x16384x16640 .f32) (h : Fin 4) (n : Fin 16384) (x : Fin 16640) :
    norm e (ix3 h n x) = Ideal.div (e (ix3 h n x)) (∑ y : Fin 16640, e (ix3 h n y)) := by
  pointwise [norm]

/-- The greatest value of each row. -/
def rowMax (s : FVec Ideal S4x16384x16640 .f32) : FVec Ideal S4x16384 .f32 :=
  Host.reduce FloatOps.maximumf s (constant S_ .f32 0xFF800000#32) reducesTo_S4x16384x16640_S4x16384_d2 h_S_

/-- The row's values less what is given for it, exponentiated. -/
def expo' (s : FVec Ideal S4x16384x16640 .f32) (M : FVec Ideal S4x16384 .f32) : FVec Ideal S4x16384x16640 .f32 :=
  Host.exp (subf s (broadcastInDim S4x16384x16640 ![0, 1, 2] bcast_S4x16384x1_S4x16384x16640_0_1_2
    (broadcastInDim S4x16384x1 ![0, 1] bcast_S4x16384_S4x16384x1_0_1
      (maximumf (broadcastInDim S4x16384 ![] bcast_S_S4x16384 (constant S_ .f32 0xFF800000#32)) M))))

theorem rowMax_apply (s : FVec Ideal S4x16384x16640 .f32) (h : Fin 4) (n : Fin 16384) :
    rowMax s (ix2 h n) = Finset.fold max (Ideal.ofBits .f32 0xFF800000#32) (fun x : Fin 16640 => s (ix3 h n x)) Finset.univ := by
  unfold rowMax
  pointwise

theorem expo_def (s : FVec Ideal S4x16384x16640 .f32) : expo s = expo' s (rowMax s) := rfl

theorem expo'_apply (s : FVec Ideal S4x16384x16640 .f32) (M : FVec Ideal S4x16384 .f32) (h : Fin 4) (n : Fin 16384) (x : Fin 16640) :
    expo' s M (ix3 h n x) = Ideal.exp (s (ix3 h n x) - max (Ideal.ofBits .f32 0xFF800000#32) (M (ix2 h n))) := by
  pointwise [expo']

theorem neg_inf : Ideal.ofBits .f32 0xFF800000#32 = (⊥ : EReal) := by
  decide

theorem expo_apply (s : FVec Ideal S4x16384x16640 .f32) (h : Fin 4) (n : Fin 16384) (x : Fin 16640) :
    expo s (ix3 h n x) = Ideal.exp (s (ix3 h n x) - max ⊥ (Finset.fold max ⊥ (fun y : Fin 16640 => s (ix3 h n y)) Finset.univ)) := by
  rw [expo_def, expo'_apply, rowMax_apply, neg_inf]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  exact if_neg (by norm_num)

theorem scores_apply (Q : FVec Ideal S16384x256 .f32) (K : FVec Ideal S256x16640 .f32) (h : Fin 4) (n : Fin 16384) (x : Fin 16640) :
    scores Q K (ix3 h n x) = (∑ d : Fin 64, Q (ix2 n ⟨h.val * 64 + d.val, by omega⟩) * K (ix2 ⟨h.val * 64 + d.val, by omega⟩ x))
      * ((Real.log 2 : ℝ) : EReal) := by
  pointwise [scores]
  exact congrArg (_ * ·) log_two

theorem keys_apply (kc : FVec Ideal S256x256 .bf16) (k : FVec Ideal S256x16384 .bf16) (d : Fin 256) (x : Fin 16640) :
    keys kc k (ix2 d x) = if h : x.val < 256 then kc (ix2 d ⟨x.val, h⟩) else k (ix2 d ⟨x.val - 256, by omega⟩) := by
  pointwise [keys]

theorem vals_apply (vc : FVec Ideal S256x256 .bf16) (v : FVec Ideal S16384x256 .bf16) (x : Fin 16640) (d : Fin 256) :
    vals vc v (ix2 x d) = if h : x.val < 256 then vc (ix2 ⟨x.val, h⟩ d) else v (ix2 ⟨x.val - 256, by omega⟩ d) := by
  pointwise [vals]

/-- An entry of the whole, when its row's scores are reals: the softmax about some real point, weighing the values. -/
theorem whole_apply (Q : FVec Ideal S16384x256 .f32) (K : FVec Ideal S256x16640 .f32) (V : FVec Ideal S16640x256 .f32)
    (n : Fin 16384) (l : Fin 256) (σ : Fin 16640 → ℝ)
    (hσ : ∀ x, (∑ d : Fin 64, Q (ix2 n ⟨l.val / 64 * 64 + d.val, by omega⟩) * K (ix2 ⟨l.val / 64 * 64 + d.val, by omega⟩ x) : EReal) = (σ x : EReal)) :
    ∃ M : ℝ, mix (norm (expo (scores Q K))) V (ix2 n l) = ∑ x, Ideal.div (Ideal.exp (((σ x * Real.log 2 : ℝ) : EReal) - (M : EReal)))
      (∑ y, Ideal.exp (((σ y * Real.log 2 : ℝ) : EReal) - (M : EReal))) * V (ix2 x l) := by
  have hs : ∀ x, scores Q K (ix3 ⟨l.val / 64, by omega⟩ n x) = ((σ x * Real.log 2 : ℝ) : EReal) := fun x => by
    rw [scores_apply, EReal.coe_mul]
    exact congrArg (· * ((Real.log 2 : ℝ) : EReal)) (hσ x)
  obtain ⟨M, hM⟩ := FlashMath.fold_max_real (fun x => scores Q K (ix3 ⟨l.val / 64, by omega⟩ n x)) fun x => ⟨_, hs x⟩
  refine ⟨M, ?_⟩
  rw [mix_apply]
  refine Finset.sum_congr rfl fun x _ => ?_
  rw [norm_apply]
  simp only [hs] at hM
  simp only [expo_apply, hs, hM]
  rw [max_eq_right bot_le]

variable (m : (ℓ : Loc nD τ sig) → Buf (Elt Ideal) ℓ)

theorem out_eq (c : Dev nD) :
    res_out0 m c = mix (norm (expo (scores (extf .f32 (m ((c.tc : Thread nD τ).loc main_arg0)) bitsLt_bf16_f32)
        (keys (m ((c.tc : Thread nD τ).loc main_arg1)) (m ((c.tc : Thread nD τ).loc main_arg2))))))
      (vals (m ((c.tc : Thread nD τ).loc main_arg3)) (m ((c.tc : Thread nD τ).loc main_arg4))) := by
  rfl

end Cert.ReferenceIdeal.Flash

end
-- ==== Proof.FlashArray.lean ====
module

public import proofs.«01_k».proof.Proof.FlashSoft
public import proofs.«01_k».proof.Proof.RefEntry
public import Idealize.ShloMosaic.Lib.Claim

/-! The attention call's output array is the reference's result. -/

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal Cert.KernelIdeal.Gen
open Cert.ReferenceIdeal.Flash (keys vals keys_apply vals_apply mix norm expo scores whole_apply)

variable (m : (ℓ : Loc nD τ sig) → Buf (Elt Ideal) ℓ)

/-- The arguments, by what they hold. -/
abbrev aQ (c : Dev nD) : FVec Ideal S16384x256 .bf16 := m ((c.tc : Thread nD τ).loc main_arg0)
abbrev aKc (c : Dev nD) : FVec Ideal S256x256 .bf16 := m ((c.tc : Thread nD τ).loc main_arg1)
abbrev aK (c : Dev nD) : FVec Ideal S256x16384 .bf16 := m ((c.tc : Thread nD τ).loc main_arg2)
abbrev aVc (c : Dev nD) : FVec Ideal S256x256 .bf16 := m ((c.tc : Thread nD τ).loc main_arg3)
abbrev aV (c : Dev nD) : FVec Ideal S16384x256 .bf16 := m ((c.tc : Thread nD τ).loc main_arg4)

theorem idx : ∀ t : Fin cfg0.N, win0_0.index t = ![t.val % 32, t.val / 32] ∧ win0_1.index t = ![t.val / 32, 0]
    ∧ win0_2.index t = ![0, t.val / 32] ∧ win0_3.index t = ![t.val % 32, t.val / 32] :=
  (by decide +kernel : ∀ t : Fin grid0.N, _)

theorem lt64 (t : Fin cfg0.N) : t.val < 64 := lt_of_lt_of_eq t.isLt N_0

theorem rd0 (c : Dev nD) (t : Fin cfg0.N) (r : Fin 512) (d : Fin 128) :
    iblk m c 0 t (ix2 r d) = aQ m c (ix2 ⟨t.val % 32 * 512 + r.val, by omega⟩ ⟨t.val / 32 * 128 + d.val, by have := lt64 t; omega⟩) := by
  blk_point [iblk, V, idx t]

theorem rd1 (c : Dev nD) (t : Fin cfg0.N) (d : Fin 128) (x : Fin 16640) :
    iblk m c 1 t (ix2 d x) = keys (aKc m c) (aK m c) (ix2 ⟨t.val / 32 * 128 + d.val, by have := lt64 t; omega⟩ x) := by
  rw [keys_apply]
  have h : iblk m c 1 t (ix2 d x) = V m c main_v0 (ix2 ⟨t.val / 32 * 128 + d.val, by have := lt64 t; omega⟩ x) := by
    blk_point [iblk, idx t]
  rw [h]
  entry_read
  pointwise

theorem rd2 (c : Dev nD) (t : Fin cfg0.N) (x : Fin 16640) (d : Fin 128) :
    iblk m c 2 t (ix2 x d) = vals (aVc m c) (aV m c) (ix2 x ⟨t.val / 32 * 128 + d.val, by have := lt64 t; omega⟩) := by
  rw [vals_apply]
  have h : iblk m c 2 t (ix2 x d) = V m c main_v1 (ix2 x ⟨t.val / 32 * 128 + d.val, by have := lt64 t; omega⟩) := by
    blk_point [iblk, idx t]
  rw [h]
  entry_read
  pointwise

/-- The reference's result, of the kernel's arguments. -/
def whole (c : Dev nD) : FVec Ideal S16384x256 .f32 :=
  mix (norm (expo (scores (extf .f32 (aQ m c) Cert.ReferenceIdeal.Gen.bitsLt_bf16_f32) (keys (aKc m c) (aK m c))))) (vals (aVc m c) (aV m c))

theorem sum_real_of {N : ℕ} (f g : Fin N → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [← FlashMath.sum_real]
  exact Finset.sum_congr rfl fun i _ => by rw [ha, hb, EReal.coe_mul]

theorem final (c : Dev nD) (hQ : ∀ j, ∃ r : ℝ, aQ m c j = (r : EReal)) (hKc : ∀ j, ∃ r : ℝ, aKc m c j = (r : EReal))
    (hK : ∀ j, ∃ r : ℝ, aK m c j = (r : EReal)) :
    (dats m 0 c).arrAt 3 cfg0.N = whole m c := by
  refine (dats m 0 c).arrAt_eq_of_covers 3 _ (by decide +kernel) fun t hf y => ?_
  have ht := lt64 t
  have hk : ∀ d x, ∃ r : ℝ, keys (aKc m c) (aK m c) (ix2 d x) = (r : EReal) := fun d x => by
    rw [keys_apply]
    split
    · exact hKc _
    · exact hK _
  blk_simp
  rw [after0_3, outsAt0_eq]
  have key : ∀ (r : Fin 512) (l : Fin 128), block (iblk m c 0 t) (iblk m c 1 t) (iblk m c 2 t) (ix2 r l)
      = whole m c (ix2 ⟨t.val % 32 * 512 + r.val, by omega⟩ ⟨t.val / 32 * 128 + l.val, by omega⟩) := fun r l => by
    have hsum : ∀ x, ∃ s : ℝ, (∑ d : Fin 64, extf .f32 (aQ m c) Cert.ReferenceIdeal.Gen.bitsLt_bf16_f32
        (ix2 ⟨t.val % 32 * 512 + r.val, by omega⟩ ⟨(t.val / 32 * 128 + l.val) / 64 * 64 + d.val, by omega⟩)
        * keys (aKc m c) (aK m c) (ix2 ⟨(t.val / 32 * 128 + l.val) / 64 * 64 + d.val, by omega⟩ x) : EReal) = (s : EReal) := fun x =>
      sum_real_of _ _ (fun d => hQ _) (fun d => hk _ _)
    choose σ hσ using hsum
    obtain ⟨M, hM⟩ := whole_apply (extf .f32 (aQ m c) Cert.ReferenceIdeal.Gen.bitsLt_bf16_f32) (keys (aKc m c) (aK m c)) (vals (aVc m c) (aV m c))
      ⟨t.val % 32 * 512 + r.val, by omega⟩ ⟨t.val / 32 * 128 + l.val, by omega⟩ σ hσ
    refine Eq.trans ?_ hM.symm
    by_cases hl : l.val < 64
    · rw [block_low _ _ _ r l hl σ M fun x => by
        rw [← hσ x]
        refine Finset.sum_congr rfl fun d _ => ?_
        rw [rd0, rd1]
        rw [show (⟨t.val / 32 * 128 + (⟨d.val, by omega⟩ : Fin 128).val, by simp only; omega⟩ : Fin 256)
          = ⟨(t.val / 32 * 128 + l.val) / 64 * 64 + d.val, by omega⟩ from Fin.ext (by simp only; omega)]
        rfl]
      simp only [soft, rd2]
    · rw [block_high _ _ _ r l hl σ M fun x => by
        rw [← hσ x]
        refine Finset.sum_congr rfl fun d _ => ?_
        rw [rd0, rd1]
        rw [show (⟨t.val / 32 * 128 + (⟨64 + d.val, by omega⟩ : Fin 128).val, by simp only; omega⟩ : Fin 256)
          = ⟨(t.val / 32 * 128 + l.val) / 64 * 64 + d.val, by omega⟩ from Fin.ext (by simp only; omega)]
        rfl]
      simp only [soft, rd2]
  obtain ⟨r, l, rfl⟩ : ∃ (r : Fin 512) (l : Fin 128), y = ix2 r l := ⟨y 0, y 1, by funext a; fin_cases a <;> rfl⟩
  rw [key r l]
  refine congrArg (whole m c) ?_
  blk_ext [idx t]

end Cert.KernelIdeal.Flash

end
-- ==== Proof.FlashClaim.lean ====
module

public import proofs.«01_k».proof.Defs
public import proofs.«01_k».proof.Proof.FlashArray
public import proofs.«01_k».proof.Proof.Gen.Kernel.Frame
public import Idealize.ShloMosaic.Lib.Quiescent

/-! The attention call's claims. -/

@[expose] public section

set_option maxRecDepth 16384

noncomputable section

namespace Cert.FlashClaim

open Idealize.ShloMosaic Idealize.ShloMosaic.TcCoe Idealize.SL.Sem

/-- The precondition's own shape facts. -/
instance preFacts : Cert.Pre_finite_scores.Facts where
  bitsLt_bf16_f32 := by decide
  bcast_S_S16384x256 := by decide
  bcast_S_S256x256 := by decide
  bcast_S_S256x16384 := by decide

theorem inf_word : Ideal.ofBits .f32 0x7F800000#32 = (⊤ : EReal) := by
  decide

/-- A value whose magnitude is below infinity is a real. -/
theorem real_of_lt (x : EReal) (h : Ideal.cmp .olt (max x (-x)) (Ideal.ofBits .f32 0x7F800000#32) = 1#1) : ∃ r : ℝ, x = (r : EReal) := by
  rw [inf_word] at h
  induction x with
  | bot => simp [Ideal.cmp] at h
  | top => simp [Ideal.cmp] at h
  | coe r => exact ⟨r, rfl⟩

theorem quiescent_P : Cert.quiescent_Kernel := fun m ρ _ => Cert.Kernel.Gen.frame m ρ

theorem quiescent_PI : Cert.quiescent_KernelIdeal := fun m ρ _ => Cert.KernelIdeal.Gen.frame m ρ

theorem quiescent_PI_pre : Cert.quiescent_KernelIdeal_pre_finite_scores := fun m ρ _ => Cert.KernelIdeal.Gen.frame m ρ

theorem quiescent_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem quiescent_RI_pre : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run m ρ)

theorem final (m : (ℓ : Loc Cert.KernelIdeal.nD Cert.KernelIdeal.τ Cert.KernelIdeal.sig) → Buf (Elt Ideal) ℓ)
    (hpre : Cert.Pre_KernelIdeal_finite_scores m) (c : Dev Cert.KernelIdeal.nD) :
    (Cert.KernelIdeal.Gen.dats m 0 c).arrAt 3 Cert.KernelIdeal.cfg0.N = Cert.KernelIdeal.Flash.whole m c :=
  Cert.KernelIdeal.Flash.final m c (fun j => real_of_lt _ (congrFun (hpre c).1 j)) (fun j => real_of_lt _ (congrFun (hpre c).2.1 j))
    (fun j => real_of_lt _ (congrFun (hpre c).2.2 j))

theorem algebraic : Cert.algebraic_KernelIdeal_ReferenceIdeal_pre_finite_scores := fun m ρ m' ρ' hpre hag =>
  ⟨fun c => Cert.KernelIdeal.Flash.whole m c,
    (θ_run Cert.KernelIdeal.defs _ _).mono (fun _ h c => ⟨(h c).1.trans (final m hpre c), (h c).2⟩) (Cert.KernelIdeal.Value.run_blocks m ρ),
    (θ_run Cert.ReferenceIdeal.defs _ _).mono (fun _ h c => ⟨(h c).1.trans ((Cert.ReferenceIdeal.Flash.out_eq m' c).trans (by
      obtain ⟨h0, h1, h2, h3, h4⟩ := hag c
      rw [h0, h1, h2, h3, h4]
      rfl)), (h c).2⟩) (Cert.ReferenceIdeal.Value.run m' ρ')⟩

end Cert.FlashClaim

end
-- ==== Proof.FfnBlock.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.IdealHost

/-! What one grid point of the experts' call adds into its output block. -/

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen
open scoped BigOperators

/-- The gated activation of two numbers. -/
def gated (a b : EReal) : EReal := a * Ideal.div 1 (1 + Ideal.exp (-a)) * b

/-- What one tile of 512 hidden channels adds at row `r` of a tile of the tokens. -/
def part (w1 w3 : FVec Ideal S1x1x1024x512 .f32) (w2 : FVec Ideal S1x1x512x1024 .f32) (x : Fin 1024 → EReal) (d : Fin 1024) : EReal :=
  ∑ k : Fin 512, gated (∑ e : Fin 1024, x e * w1 (ix4 0 0 e k)) (∑ e : Fin 1024, x e * w3 (ix4 0 0 e k)) * w2 (ix4 0 0 k d)

theorem tile0 (w1 w3 : FVec Ideal S1x1x1024x512 .f32) (w2 : FVec Ideal S1x1x512x1024 .f32) (x : FVec Ideal S1x512x1024 .bf16)
    (acc : FVec Ideal S1x512x1024 .f32) (r : Fin 512) (d : Fin 1024) :
    k0_pay7 (F := Ideal) (k0_pay6 w1 w3 w2 x acc) (ix3 0 r d) = acc (ix3 0 r d) + part w1 w3 w2 (fun e => x (ix3 0 r e)) d := by
  pointwise [k0_pay7, k0_pay6, k0_pay3, k0_pay4, k0_pay5, part, gated]
  simp only [zero_sub]

theorem tile1 (w1 w3 : FVec Ideal S1x1x1024x512 .f32) (w2 : FVec Ideal S1x1x512x1024 .f32) (x : FVec Ideal S1x512x1024 .bf16)
    (acc : FVec Ideal S1x512x1024 .f32) (r : Fin 512) (d : Fin 1024) :
    k0_pay8 (F := Ideal) (k0_pay3 w1) (k0_pay4 w3) (k0_pay5 w2) x acc (ix3 0 r d)
      = acc (ix3 0 r d) + part w1 w3 w2 (fun e => x (ix3 0 r e)) d := by
  pointwise [k0_pay8, k0_pay3, k0_pay4, k0_pay5, part, gated]
  simp only [zero_sub]

theorem tile2 (w1 w3 : FVec Ideal S1x1x1024x512 .f32) (w2 : FVec Ideal S1x1x512x1024 .f32) (x : FVec Ideal S1x512x1024 .bf16)
    (acc : FVec Ideal S1x512x1024 .f32) (r : Fin 512) (d : Fin 1024) :
    k0_pay13 (F := Ideal) (k0_pay5 w2) (k0_pay10 (k0_pay3 w1) x) (k0_pay11 (k0_pay4 w3) x) (k0_pay12 (k0_pay3 w1) x)
        (Scalar.ofBits .f32 0x3F800000#32) acc (ix3 0 r d)
      = acc (ix3 0 r d) + part w1 w3 w2 (fun e => x (ix3 0 r e)) d := by
  pointwise [k0_pay13, k0_pay12, k0_pay11, k0_pay10, k0_pay9, k0_pay3, k0_pay4, k0_pay5, part, gated]
  simp only [zero_sub]

theorem tile3 (w1 w3 : FVec Ideal S1x1x1024x512 .f32) (w2 : FVec Ideal S1x1x512x1024 .f32) (x : FVec Ideal S1x512x1024 .bf16)
    (acc : FVec Ideal S1x512x1024 .f32) (r : Fin 512) (d : Fin 1024) :
    k0_pay14 (F := Ideal) (k0_pay3 w1) (k0_pay4 w3) (k0_pay5 w2) x acc (ix3 0 r d)
      = acc (ix3 0 r d) + part w1 w3 w2 (fun e => x (ix3 0 r e)) d := by
  pointwise [k0_pay14, k0_pay3, k0_pay4, k0_pay5, part, gated]
  simp only [zero_sub]

theorem scaled (acc : FVec Ideal S1x2048x1024 .f32) (g : FVec Ideal S1x2048x1 .f32) (r : Fin 2048) (d : Fin 1024) :
    k0_pay1 (F := Ideal) acc g (ix3 0 r d) = acc (ix3 0 r d) * g (ix3 0 r 0) := by
  pointwise [k0_pay1]

theorem zeroed (j : S1x2048x1024.Idx) : k0_pay2 (F := Ideal) j = 0 := by
  pointwise [k0_pay2]

/-- The rows of a tile among the rows of the block. -/
theorem rect_at (o : ℕ) (inb) (ρ : Fin 512) (d : Fin 1024) (r : Fin 2048) (h : (r : ℕ) = o + (ρ : ℕ)) :
    (Rect.unit (s := S1x2048x1024) ![0, o, 0] S1x512x1024.size inb).idx (ix3 0 ρ d) = ix3 0 r d := by
  funext a
  refine Fin.ext ((Rect.idx_unit_val _ _ _ _ a).trans ?_)
  fin_cases a
  · rfl
  · exact h.symm
  · exact Nat.zero_add _

theorem at0 (w1 w3 : FVec Ideal S1x1x1024x512 .f32) (w2 : FVec Ideal S1x1x512x1024 .f32) (X : FVec Ideal S1x2048x1024 .bf16)
    (A : FVec Ideal S1x2048x1024 .f32) (x : S1x512x1024.Idx) (r : Fin 2048) (d : Fin 1024) (h1 : (r : ℕ) = 0 + (x 1 : ℕ)) (h2 : (d : ℕ) = (x 2 : ℕ)) :
    k0_pay7 (F := Ideal) (k0_pay6 w1 w3 w2 (View.ld (Val := Elt Ideal) (e' := .bf16) X (Rect.unit (s := S1x2048x1024) ![0, 0, 0] S1x512x1024.size inb_S1x2048x1024_S1x512x1024_0_0_0)) (View.ld (Val := Elt Ideal) (e' := .f32) A (Rect.unit (s := S1x2048x1024) ![0, 0, 0] S1x512x1024.size inb_S1x2048x1024_S1x512x1024_0_0_0))) x
      = A (ix3 0 r d) + part w1 w3 w2 (fun e => X (ix3 0 r e)) d := by
  obtain ⟨ρ, δ, rfl⟩ : ∃ (ρ : Fin 512) (δ : Fin 1024), x = ix3 0 ρ δ := ⟨x 1, x 2, by blk_ext⟩
  rw [tile0]
  obtain rfl : d = δ := Fin.ext h2
  refine congrArg₂ (· + ·) ?_ (congrArg (fun f => part w1 w3 w2 f d) (funext fun e => ?_))
  · exact congrArg A (rect_at _ _ ρ d r h1)
  · exact congrArg X (rect_at _ _ ρ e r h1)

theorem at1 (w1 w3 : FVec Ideal S1x1x1024x512 .f32) (w2 : FVec Ideal S1x1x512x1024 .f32) (X : FVec Ideal S1x2048x1024 .bf16)
    (A : FVec Ideal S1x2048x1024 .f32) (x : S1x512x1024.Idx) (r : Fin 2048) (d : Fin 1024) (h1 : (r : ℕ) = 512 + (x 1 : ℕ)) (h2 : (d : ℕ) = (x 2 : ℕ)) :
    k0_pay8 (F := Ideal) (k0_pay3 w1) (k0_pay4 w3) (k0_pay5 w2) (View.ld (Val := Elt Ideal) (e' := .bf16) X (Rect.unit (s := S1x2048x1024) ![0, 512, 0] S1x512x1024.size inb_S1x2048x1024_S1x512x1024_0_512_0)) (View.ld (Val := Elt Ideal) (e' := .f32) A (Rect.unit (s := S1x2048x1024) ![0, 512, 0] S1x512x1024.size inb_S1x2048x1024_S1x512x1024_0_512_0)) x
      = A (ix3 0 r d) + part w1 w3 w2 (fun e => X (ix3 0 r e)) d := by
  obtain ⟨ρ, δ, rfl⟩ : ∃ (ρ : Fin 512) (δ : Fin 1024), x = ix3 0 ρ δ := ⟨x 1, x 2, by blk_ext⟩
  rw [tile1]
  obtain rfl : d = δ := Fin.ext h2
  refine congrArg₂ (· + ·) ?_ (congrArg (fun f => part w1 w3 w2 f d) (funext fun e => ?_))
  · exact congrArg A (rect_at _ _ ρ d r h1)
  · exact congrArg X (rect_at _ _ ρ e r h1)

theorem at2 (w1 w3 : FVec Ideal S1x1x1024x512 .f32) (w2 : FVec Ideal S1x1x512x1024 .f32) (X : FVec Ideal S1x2048x1024 .bf16)
    (A : FVec Ideal S1x2048x1024 .f32) (x : S1x512x1024.Idx) (r : Fin 2048) (d : Fin 1024) (h1 : (r : ℕ) = 1024 + (x 1 : ℕ)) (h2 : (d : ℕ) = (x 2 : ℕ)) :
    k0_pay13 (F := Ideal) (k0_pay5 w2) (k0_pay10 (k0_pay3 w1) (View.ld (Val := Elt Ideal) (e' := .bf16) X (Rect.unit (s := S1x2048x1024) ![0, 1024, 0] S1x512x1024.size inb_S1x2048x1024_S1x512x1024_0_1024_0))) (k0_pay11 (k0_pay4 w3) (View.ld (Val := Elt Ideal) (e' := .bf16) X (Rect.unit (s := S1x2048x1024) ![0, 1024, 0] S1x512x1024.size inb_S1x2048x1024_S1x512x1024_0_1024_0))) (k0_pay12 (k0_pay3 w1) (View.ld (Val := Elt Ideal) (e' := .bf16) X (Rect.unit (s := S1x2048x1024) ![0, 1024, 0] S1x512x1024.size inb_S1x2048x1024_S1x512x1024_0_1024_0)))
        (Scalar.ofBits .f32 0x3F800000#32) (View.ld (Val := Elt Ideal) (e' := .f32) A (Rect.unit (s := S1x2048x1024) ![0, 1024, 0] S1x512x1024.size inb_S1x2048x1024_S1x512x1024_0_1024_0)) x
      = A (ix3 0 r d) + part w1 w3 w2 (fun e => X (ix3 0 r e)) d := by
  obtain ⟨ρ, δ, rfl⟩ : ∃ (ρ : Fin 512) (δ : Fin 1024), x = ix3 0 ρ δ := ⟨x 1, x 2, by blk_ext⟩
  rw [tile2]
  obtain rfl : d = δ := Fin.ext h2
  refine congrArg₂ (· + ·) ?_ (congrArg (fun f => part w1 w3 w2 f d) (funext fun e => ?_))
  · exact congrArg A (rect_at _ _ ρ d r h1)
  · exact congrArg X (rect_at _ _ ρ e r h1)

theorem at3 (w1 w3 : FVec Ideal S1x1x1024x512 .f32) (w2 : FVec Ideal S1x1x512x1024 .f32) (X : FVec Ideal S1x2048x1024 .bf16)
    (A : FVec Ideal S1x2048x1024 .f32) (x : S1x512x1024.Idx) (r : Fin 2048) (d : Fin 1024) (h1 : (r : ℕ) = 1536 + (x 1 : ℕ)) (h2 : (d : ℕ) = (x 2 : ℕ)) :
    k0_pay14 (F := Ideal) (k0_pay3 w1) (k0_pay4 w3) (k0_pay5 w2) (View.ld (Val := Elt Ideal) (e' := .bf16) X (Rect.unit (s := S1x2048x1024) ![0, 1536, 0] S1x512x1024.size inb_S1x2048x1024_S1x512x1024_0_1536_0)) (View.ld (Val := Elt Ideal) (e' := .f32) A (Rect.unit (s := S1x2048x1024) ![0, 1536, 0] S1x512x1024.size inb_S1x2048x1024_S1x512x1024_0_1536_0)) x
      = A (ix3 0 r d) + part w1 w3 w2 (fun e => X (ix3 0 r e)) d := by
  obtain ⟨ρ, δ, rfl⟩ : ∃ (ρ : Fin 512) (δ : Fin 1024), x = ix3 0 ρ δ := ⟨x 1, x 2, by blk_ext⟩
  rw [tile3]
  obtain rfl : d = δ := Fin.ext h2
  refine congrArg₂ (· + ·) ?_ (congrArg (fun f => part w1 w3 w2 f d) (funext fun e => ?_))
  · exact congrArg A (rect_at _ _ ρ d r h1)
  · exact congrArg X (rect_at _ _ ρ e r h1)

end Cert.Kernel2Ideal.Ffn

end
-- ==== Proof.FfnStep.lean ====
module

public import proofs.«01_k».proof.Proof.FfnBlock

/-! One grid point of the feed-forward call: what it leaves in the carried block. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The share of the hidden channels seen at a grid point in one output element. -/
def share (c : Dev nD) (t : Fin cfg0.N) (r : Fin 2048) (d : Fin 1024) : EReal :=
  part (iblk m c 1 t) (iblk m c 2 t) (iblk m c 3 t) (fun e => X0_0 m c t (ix3 0 r e)) d

theorem rect_all (inb) (r : Fin 2048) (d : Fin 1024) :
    (Rect.unit (s := S1x2048x1024) ![0, 0, 0] S1x2048x1024.size inb).idx (ix3 0 r d) = ix3 0 r d := by
  funext a
  refine Fin.ext ((Rect.idx_unit_val _ _ _ _ a).trans ?_)
  fin_cases a <;> exact Nat.zero_add _

theorem row_of (o : ℕ) (inb) (x : S1x512x1024.Idx) :
    ((Rect.unit (s := S1x2048x1024) ![0, o, 0] S1x512x1024.size inb).idx x 1 : ℕ) = o + (x 1 : ℕ) :=
  Rect.idx_unit_val (s := S1x2048x1024) ![0, o, 0] S1x512x1024.size inb x (1 : Fin 3)

theorem col_of (o : ℕ) (inb) (x : S1x512x1024.Idx) :
    ((Rect.unit (s := S1x2048x1024) ![0, o, 0] S1x512x1024.size inb).idx x 2 : ℕ) = (x 2 : ℕ) :=
  (Rect.idx_unit_val (s := S1x2048x1024) ![0, o, 0] S1x512x1024.size inb x (2 : Fin 3)).trans (Nat.zero_add _)

/-- A row within a tile's range is one the tile stores. -/
theorem held (o : ℕ) (inb) (r : Fin 2048) (d : Fin 1024) (h0 : o ≤ r.val) (h1 : r.val < o + 512) :
    ix3 0 r d ∈ (Rect.unit (s := S1x2048x1024) ![0, o, 0] S1x512x1024.size inb).set := by
  refine Rect.mem_set_unit.mpr fun a => ?_
  fin_cases a
  · exact ⟨le_refl 0, Nat.one_pos⟩
  · exact ⟨h0, h1⟩
  · exact ⟨Nat.zero_le _, by simpa using d.isLt⟩

/-- The first point of an expert starts the block at its share. -/
theorem stepA (c : Dev nD) (t : Fin cfg0.N) (h0 : t.val % 4 = 0) (h1 : ¬ t.val % 4 = 3) (r : Fin 2048) (d : Fin 1024) :
    outsAt0 m c t.val t.isLt (ix3 0 r d) = share m c t r d := by
  refine Eq.trans ?_ (zero_add (share m c t r d))
  rw [outsAt0_A m c t h0 h1, ← zeroed (ix3 0 r d)]
  frame_open
  simp (disch := decide) only [↓ View.readCov_skip, ↓ View.readCov_cons_toLoadRect, ↓ View.readCov_fill]
  frame_out
  refine View.canon_append_of_piecesOf (Val := Elt Ideal) (s := S1x2048x1024) (e := .f32) (fun y => k0_pay2 (F := Ideal) (ix3 0 (y 1) (y 2)) + share m c t (y 1) (y 2)) [_] [_, _, _, _]
    ⟨fun x => ?_, fun x => ?_, fun x => ?_, fun x => ?_, trivial⟩ (ix3 0 r d) ?_
  · exact at3 _ _ _ _ _ x _ _ (row_of 1536 inb_S1x2048x1024_S1x512x1024_0_1536_0 x) (col_of 1536 inb_S1x2048x1024_S1x512x1024_0_1536_0 x)
  · exact at2 _ _ _ _ _ x _ _ (row_of 1024 inb_S1x2048x1024_S1x512x1024_0_1024_0 x) (col_of 1024 inb_S1x2048x1024_S1x512x1024_0_1024_0 x)
  · exact at1 _ _ _ _ _ x _ _ (row_of 512 inb_S1x2048x1024_S1x512x1024_0_512_0 x) (col_of 512 inb_S1x2048x1024_S1x512x1024_0_512_0 x)
  · exact at0 _ _ _ _ _ x _ _ (row_of 0 inb_S1x2048x1024_S1x512x1024_0_0_0 x) (col_of 0 inb_S1x2048x1024_S1x512x1024_0_0_0 x)
  · have hr := r.isLt
    rcases (by omega : 1536 ≤ r.val ∨ (1024 ≤ r.val ∧ r.val < 1536) ∨ (512 ≤ r.val ∧ r.val < 1024) ∨ r.val < 512) with h | h | h | h
    · exact ⟨_, .head _, held 1536 inb_S1x2048x1024_S1x512x1024_0_1536_0 r d (by omega) (by omega)⟩
    · exact ⟨_, .tail _ (.head _), held 1024 inb_S1x2048x1024_S1x512x1024_0_1024_0 r d (by omega) (by omega)⟩
    · exact ⟨_, .tail _ (.tail _ (.head _)), held 512 inb_S1x2048x1024_S1x512x1024_0_512_0 r d (by omega) (by omega)⟩
    · exact ⟨_, .tail _ (.tail _ (.tail _ (.head _))), held 0 inb_S1x2048x1024_S1x512x1024_0_0_0 r d (by omega) (by omega)⟩

/-- A later point adds its share. -/
theorem stepB (c : Dev nD) (t : Fin cfg0.N) (h0 : ¬ t.val % 4 = 0) (h1 : ¬ t.val % 4 = 3) (r : Fin 2048) (d : Fin 1024) :
    outsAt0 m c t.val t.isLt (ix3 0 r d)
      = outsAt0 m c (t.val - 1) (Nat.lt_of_le_of_lt (Nat.sub_le _ _) t.isLt) (ix3 0 r d) + share m c t r d := by
  rw [outsAt0_B m c t h0 h1]
  frame_out
  unfold share
  canon_tiles x hx
  case piece0 => exact at3 _ _ _ _ _ x r d (by simpa using hx1) (by simpa using hx2)
  case piece1 => exact at2 _ _ _ _ _ x r d (by simpa using hx1) (by simpa using hx2)
  case piece2 => exact at1 _ _ _ _ _ x r d (by simpa using hx1) (by simpa using hx2)
  case piece3 => exact at0 _ _ _ _ _ x r d (by simpa using hx1) (by simpa using hx2)

/-- The last point of an expert adds its share and multiplies by the row's gate. -/
theorem stepC (c : Dev nD) (t : Fin cfg0.N) (h0 : ¬ t.val % 4 = 0) (h1 : t.val % 4 = 3) (r : Fin 2048) (d : Fin 1024) :
    outsAt0 m c t.val t.isLt (ix3 0 r d)
      = (outsAt0 m c (t.val - 1) (Nat.lt_of_le_of_lt (Nat.sub_le _ _) t.isLt) (ix3 0 r d) + share m c t r d) * X0_4 m c t (ix3 0 r 0) := by
  rw [outsAt0_C m c t h0 h1]
  frame_out
  rw [scaled]
  refine congrArg (· * X0_4 m c t (ix3 0 r 0)) ?_
  rw [View.readCov_eq_canon']
  change View.canon _ ((Rect.unit (s := S1x2048x1024) ![0, 0, 0] S1x2048x1024.size inb_S1x2048x1024_S1x2048x1024_0_0_0).idx (ix3 0 r d)) = _
  rw [rect_all]
  unfold share
  canon_tiles x hx
  case piece0 => exact at3 _ _ _ _ _ x r d (by simpa using hx1) (by simpa using hx2)
  case piece1 => exact at2 _ _ _ _ _ x r d (by simpa using hx1) (by simpa using hx2)
  case piece2 => exact at1 _ _ _ _ _ x r d (by simpa using hx1) (by simpa using hx2)
  case piece3 => exact at0 _ _ _ _ _ x r d (by simpa using hx1) (by simpa using hx2)

end Cert.Kernel2Ideal.Ffn

end
-- ==== Proof.FfnArray.lean ====
module

public import proofs.«01_k».proof.Proof.FfnStep
public import proofs.«01_k».proof.Proof.Gen.Kernel2Ideal.Value

/-! The feed-forward call's output array. -/

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The arguments, by what they hold: tokens, gates and the three weight stacks. -/
abbrev aX (c : Dev nD) : FVec Ideal S16x2208x1024 .bf16 := m ((c.tc : Thread nD τ).loc main_arg0)
abbrev aG (c : Dev nD) : FVec Ideal S16x2208x1 .f32 := m ((c.tc : Thread nD τ).loc main_arg1)
abbrev aW1 (c : Dev nD) : FVec Ideal S2x16x1024x2048 .f32 := m ((c.tc : Thread nD τ).loc main_arg2)
abbrev aW3 (c : Dev nD) : FVec Ideal S2x16x1024x2048 .f32 := m ((c.tc : Thread nD τ).loc main_arg3)
abbrev aW2 (c : Dev nD) : FVec Ideal S2x16x2048x1024 .f32 := m ((c.tc : Thread nD τ).loc main_arg4)

theorem idx : ∀ t : Fin cfg0.N, win0_0.index t = ![t.val / 4, 0, 0] ∧ win0_1.index t = ![1, t.val / 4, 0, t.val % 4]
    ∧ win0_2.index t = ![1, t.val / 4, 0, t.val % 4] ∧ win0_3.index t = ![1, t.val / 4, t.val % 4, 0]
    ∧ win0_4.index t = ![t.val / 4, 0, 0] ∧ win0_5.index t = ![t.val / 4, 0, 0] :=
  (by decide +kernel : ∀ t : Fin grid0.N, _)

theorem lt64 (t : Fin cfg0.N) : t.val < 64 := lt_of_lt_of_eq t.isLt N_0

theorem rd0 (c : Dev nD) (t : Fin cfg0.N) (r : Fin 2048) (e : Fin 1024) :
    X0_0 m c t (ix3 0 r e) = aX m c (ix3 ⟨t.val / 4, by have := lt64 t; omega⟩ ⟨r.val, by omega⟩ e) := by
  have ht := lt64 t
  unfold X0_0 Pipeline.Window.fill
  rw [dif_pos (moved0_0 t _)]
  blk_point [iblk, V, idx t]

theorem rd4 (c : Dev nD) (t : Fin cfg0.N) (r : Fin 2048) :
    X0_4 m c t (ix3 0 r 0) = aG m c (ix3 ⟨t.val / 4, by have := lt64 t; omega⟩ ⟨r.val, by omega⟩ 0) := by
  have ht := lt64 t
  unfold X0_4 Pipeline.Window.fill
  rw [dif_pos (moved0_4 t _)]
  blk_point [iblk, V, idx t]

theorem rd1 (c : Dev nD) (t : Fin cfg0.N) (e : Fin 1024) (k : Fin 512) :
    iblk m c 1 t (ix4 0 0 e k) = aW1 m c (ix4 1 ⟨t.val / 4, by have := lt64 t; omega⟩ e ⟨t.val % 4 * 512 + k.val, by omega⟩) := by
  have ht := lt64 t
  blk_point [iblk, V, idx t]

theorem rd2 (c : Dev nD) (t : Fin cfg0.N) (e : Fin 1024) (k : Fin 512) :
    iblk m c 2 t (ix4 0 0 e k) = aW3 m c (ix4 1 ⟨t.val / 4, by have := lt64 t; omega⟩ e ⟨t.val % 4 * 512 + k.val, by omega⟩) := by
  have ht := lt64 t
  blk_point [iblk, V, idx t]

theorem rd3 (c : Dev nD) (t : Fin cfg0.N) (k : Fin 512) (d : Fin 1024) :
    iblk m c 3 t (ix4 0 0 k d) = aW2 m c (ix4 1 ⟨t.val / 4, by have := lt64 t; omega⟩ ⟨t.val % 4 * 512 + k.val, by omega⟩ d) := by
  have ht := lt64 t
  blk_point [iblk, V, idx t]

/-- One hidden channel's contribution to one output element of one expert. -/
def chan (c : Dev nD) (e : Fin 16) (r : Fin 2048) (d : Fin 1024) (k : Fin 2048) : EReal :=
  gated (∑ i : Fin 1024, aX m c (ix3 e ⟨r.val, by omega⟩ i) * aW1 m c (ix4 1 e i k))
    (∑ i : Fin 1024, aX m c (ix3 e ⟨r.val, by omega⟩ i) * aW3 m c (ix4 1 e i k)) * aW2 m c (ix4 1 e k d)

/-- The whole output array. -/
def whole (c : Dev nD) : FVec Ideal S16x2048x1024 .f32 := fun j =>
  (∑ k : Fin 2048, chan m c (j 0) (j 1) (j 2) k) * aG m c (ix3 (j 0) ⟨(j 1).val, by have := (j 1).isLt; simp at this; omega⟩ 0)

/-- A grid point's share, in the arrays. -/
theorem share_eq (c : Dev nD) (t : Fin cfg0.N) (r : Fin 2048) (d : Fin 1024) (e : Fin 16) (q : ℕ) (hq : q < 4) (he : t.val = 4 * e.val + q) :
    share m c t r d = ∑ k : Fin 512, chan m c e r d ⟨q * 512 + k.val, by omega⟩ := by
  unfold share part
  refine Finset.sum_congr rfl fun k _ => ?_
  have h1 : (⟨t.val / 4, by have := lt64 t; omega⟩ : Fin 16) = e := Fin.ext (by simp only; omega)
  have h2 : (⟨t.val % 4 * 512 + k.val, by omega⟩ : Fin 2048) = ⟨q * 512 + k.val, by omega⟩ := Fin.ext (by simp only; omega)
  simp only [rd0, rd1, rd2, rd3, h1, h2]
  rfl

theorem final (c : Dev nD) : (dats m 0 c).arrAt 5 cfg0.N = whole m c := by
  refine (dats m 0 c).arrAt_eq_of_covers 5 _ (by decide +kernel) fun t hf y => ?_
  have ht := lt64 t
  have h3 : t.val % 4 = 3 := (flush0_5 t).mp hf
  blk_simp
  rw [after0_5]
  obtain ⟨r, d, rfl⟩ : ∃ (r : Fin 2048) (d : Fin 1024), y = ix3 0 r d := ⟨y 1, y 2, by blk_ext⟩
  have key : outsAt0 m c t.val t.isLt (ix3 0 r d) = whole m c (ix3 ⟨t.val / 4, by omega⟩ r d) := by
    have h2 := stepB m c ⟨t.val - 1, by omega⟩ (by simp only; omega) (by simp only; omega) r d
    have h1 := stepB m c ⟨t.val - 1 - 1, by omega⟩ (by simp only; omega) (by simp only; omega) r d
    have h0 := stepA m c ⟨t.val - 1 - 1 - 1, by omega⟩ (by simp only; omega) (by simp only; omega) r d
    simp only at h2 h1 h0
    rw [stepC m c t (by omega) h3, h2, h1, h0, rd4,
      share_eq m c t r d ⟨t.val / 4, by omega⟩ 3 (by omega) (by simp only; omega),
      share_eq m c ⟨t.val - 1, by omega⟩ r d ⟨t.val / 4, by omega⟩ 2 (by omega) (by simp only; omega),
      share_eq m c ⟨t.val - 1 - 1, by omega⟩ r d ⟨t.val / 4, by omega⟩ 1 (by omega) (by simp only; omega),
      share_eq m c ⟨t.val - 1 - 1 - 1, by omega⟩ r d ⟨t.val / 4, by omega⟩ 0 (by omega) (by simp only; omega)]
    unfold whole
    refine congrArg₂ (· * ·) ?_ rfl
    rw [Fin.sum_univ_tiles 4 512 rfl, Fin.sum_univ_four]
    rfl
  rw [key]
  refine congrArg (whole m c) ?_
  blk_ext [idx t]

end Cert.Kernel2Ideal.Ffn

end
-- ==== Proof.FfnRef.lean ====
module

public import proofs.«01_k».proof.Proof.Gen.Reference2Ideal.Run
public import Idealize.ShloMosaic.Lib.Pipeline.ValueKit
public import Idealize.ShloMosaic.Lib.Pointwise

/-! The entries of the feed-forward reference's result. -/

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Value

/-- The tokens of the first `2048` places of each expert. -/
def tokens (x : FVec Ideal S16x2208x1024 .bf16) : FVec Ideal S16x2048x1024 .f32 :=
  extf .f32 (extractStridedSlice S16x2048x1024 ![0, 0, 0] x slices_S16x2208x1024_S16x2048x1024_0_0_0) bitsLt_bf16_f32

/-- The last layer's weights into the hidden channels. -/
def wUp (w : FVec Ideal S2x16x1024x2048 .f32) : FVec Ideal S16x1024x2048 .f32 :=
  shapeCast _ (extractStridedSlice S1x16x1024x2048 ![1, 0, 0, 0] w slices_S2x16x1024x2048_S1x16x1024x2048_1_0_0_0)
    shapeCasts_S1x16x1024x2048_S16x1024x2048

/-- The last layer's weights out of the hidden channels. -/
def wDown (w : FVec Ideal S2x16x2048x1024 .f32) : FVec Ideal S16x2048x1024 .f32 :=
  shapeCast _ (extractStridedSlice S1x16x2048x1024 ![1, 0, 0, 0] w slices_S2x16x2048x1024_S1x16x2048x1024_1_0_0_0)
    shapeCasts_S1x16x2048x1024_S16x2048x1024

/-- Each expert's product into the hidden channels. -/
def up (x : FVec Ideal S16x2048x1024 .f32) (w : FVec Ideal S16x1024x2048 .f32) : FVec Ideal S16x2048x2048 .f32 :=
  Host.dotGeneral dot_S16x2048x1024_S16x1024x2048_S16x2048x2048_2_1_1_2_0_0 none x w

/-- One channel through the sigmoid, times the other. -/
def glu (a b : FVec Ideal S16x2048x2048 .f32) : FVec Ideal S16x2048x2048 .f32 :=
  mulf (mulf a (Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf a))))) b

/-- The product out of the hidden channels, times the gates. -/
def down (h : FVec Ideal S16x2048x2048 .f32) (w : FVec Ideal S16x2048x1024 .f32) (g : FVec Ideal S16x2208x1 .f32) :
    FVec Ideal S16x2048x1024 .f32 :=
  mulf (Host.dotGeneral dot_S16x2048x2048_S16x2048x1024_S16x2048x1024_2_1_1_2_0_0 none h w)
    (broadcastInDim S16x2048x1024 ![0, 1, 2] bcast_S16x2048x1_S16x2048x1024_0_1_2
      (extractStridedSlice S16x2048x1 ![0, 0, 0] g slices_S16x2208x1_S16x2048x1_0_0_0))

/-- The whole reference. -/
def out (x : FVec Ideal S16x2208x1024 .bf16) (g : FVec Ideal S16x2208x1 .f32) (w1 w3 : FVec Ideal S2x16x1024x2048 .f32)
    (w2 : FVec Ideal S2x16x2048x1024 .f32) : FVec Ideal S16x2048x1024 .f32 :=
  down (glu (up (tokens x) (wUp w1)) (up (tokens x) (wUp w3))) (wDown w2) g

theorem tokens_apply (x : FVec Ideal S16x2208x1024 .bf16) (e : Fin 16) (r : Fin 2048) (i : Fin 1024) :
    tokens x (ix3 e r i) = x (ix3 e ⟨r.val, by omega⟩ i) := by
  pointwise [tokens]

theorem wUp_apply (w : FVec Ideal S2x16x1024x2048 .f32) (e : Fin 16) (i : Fin 1024) (k : Fin 2048) :
    wUp w (ix3 e i k) = w (ix4 1 e i k) := by
  pointwise [wUp]

theorem wDown_apply (w : FVec Ideal S2x16x2048x1024 .f32) (e : Fin 16) (k : Fin 2048) (d : Fin 1024) :
    wDown w (ix3 e k d) = w (ix4 1 e k d) := by
  pointwise [wDown]

theorem up_apply (x : FVec Ideal S16x2048x1024 .f32) (w : FVec Ideal S16x1024x2048 .f32) (e : Fin 16) (r : Fin 2048) (k : Fin 2048) :
    up x w (ix3 e r k) = ∑ i : Fin 1024, x (ix3 e r i) * w (ix3 e i k) := by
  pointwise [up]

theorem glu_apply (a b : FVec Ideal S16x2048x2048 .f32) (j : S16x2048x2048.Idx) :
    glu a b j = a j * Ideal.div 1 (1 + Ideal.exp (-(a j))) * b j := by
  pointwise [glu]

theorem down_apply (h : FVec Ideal S16x2048x2048 .f32) (w : FVec Ideal S16x2048x1024 .f32) (g : FVec Ideal S16x2208x1 .f32)
    (e : Fin 16) (r : Fin 2048) (d : Fin 1024) :
    down h w g (ix3 e r d) = (∑ k : Fin 2048, h (ix3 e r k) * w (ix3 e k d)) * g (ix3 e ⟨r.val, by omega⟩ 0) := by
  pointwise [down]

theorem out_apply (x : FVec Ideal S16x2208x1024 .bf16) (g : FVec Ideal S16x2208x1 .f32) (w1 w3 : FVec Ideal S2x16x1024x2048 .f32)
    (w2 : FVec Ideal S2x16x2048x1024 .f32) (e : Fin 16) (r : Fin 2048) (d : Fin 1024) :
    out x g w1 w3 w2 (ix3 e r d)
      = (∑ k : Fin 2048, (∑ i : Fin 1024, x (ix3 e ⟨r.val, by omega⟩ i) * w1 (ix4 1 e i k))
          * Ideal.div 1 (1 + Ideal.exp (-(∑ i : Fin 1024, x (ix3 e ⟨r.val, by omega⟩ i) * w1 (ix4 1 e i k))))
          * (∑ i : Fin 1024, x (ix3 e ⟨r.val, by omega⟩ i) * w3 (ix4 1 e i k)) * w2 (ix4 1 e k d))
        * g (ix3 e ⟨r.val, by omega⟩ 0) := by
  unfold out
  simp only [down_apply, glu_apply, up_apply, tokens_apply, wUp_apply, wDown_apply]

end Cert.Reference2Ideal.Ffn

end
-- ==== Proof.FfnClaim.lean ====
module

public import proofs.«01_k».proof.Defs
public import proofs.«01_k».proof.Proof.FfnArray
public import proofs.«01_k».proof.Proof.FfnRef
public import proofs.«01_k».proof.Proof.Gen.Kernel2.Frame
public import Idealize.ShloMosaic.Lib.Quiescent

/-! The feed-forward call's claims. -/

@[expose] public section

set_option maxRecDepth 16384

noncomputable section

namespace Cert.FfnClaim

open Idealize.ShloMosaic Idealize.ShloMosaic.TcCoe Idealize.SL.Sem

theorem quiescent_P : Cert.quiescent_Kernel2 := fun m ρ _ => Cert.Kernel2.Gen.frame m ρ

theorem quiescent_PI : Cert.quiescent_Kernel2Ideal := fun m ρ _ => Cert.Kernel2Ideal.Gen.frame m ρ

theorem quiescent_RI : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel's array is the reference's, of the same arguments. -/
theorem whole_eq (m : (ℓ : Loc Cert.Kernel2Ideal.nD Cert.Kernel2Ideal.τ Cert.Kernel2Ideal.sig) → Buf (Elt Ideal) ℓ)
    (c : Dev Cert.Kernel2Ideal.nD) :
    Cert.Kernel2Ideal.Ffn.whole m c = Cert.Reference2Ideal.Ffn.out (Cert.Kernel2Ideal.Ffn.aX m c) (Cert.Kernel2Ideal.Ffn.aG m c)
      (Cert.Kernel2Ideal.Ffn.aW1 m c) (Cert.Kernel2Ideal.Ffn.aW3 m c) (Cert.Kernel2Ideal.Ffn.aW2 m c) := by
  funext j
  obtain ⟨e, r, d, rfl⟩ : ∃ (e : Fin 16) (r : Fin 2048) (d : Fin 1024), j = ix3 e r d :=
    ⟨j 0, j 1, j 2, by funext a; fin_cases a <;> rfl⟩
  exact (Cert.Reference2Ideal.Ffn.out_apply _ _ _ _ _ e r d).symm

theorem algebraic : Cert.algebraic_Kernel2Ideal_Reference2Ideal := fun m ρ m' ρ' _ hag =>
  ⟨fun c => Cert.Kernel2Ideal.Ffn.whole m c,
    (θ_run Cert.Kernel2Ideal.defs _ _).mono (fun _ h c => ⟨(h c).1.trans (Cert.Kernel2Ideal.Ffn.final m c), (h c).2⟩)
      (Cert.Kernel2Ideal.Value.run_blocks m ρ),
    (θ_run Cert.Reference2Ideal.defs _ _).mono (fun _ h c => ⟨(h c).1.trans (by
        obtain ⟨h0, h1, h2, h3, h4⟩ := hag c
        rw [h0, h1, h2, h3, h4]
        exact (whole_eq m c).symm), (h c).2⟩)
      (Cert.Reference2Ideal.Value.run m' ρ')⟩

end Cert.FfnClaim

end
-- ==== Proof.ProjBlock.lean ====
module

public import proofs.«01_k».proof.Proof.Gen.Kernel3Ideal.Value
public import Idealize.ShloMosaic.Lib.Pipeline.ValueKit
public import Idealize.ShloMosaic.Lib.Pointwise

/-! The in-projection call's block: its entries, and the arrays they make up. -/

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen

/-- One over the root mean square of a row. -/
def rms (a : Fin 1024 → EReal) : EReal :=
  Ideal.rsqrt (Ideal.div (∑ e : Fin 1024, a e * a e) (Ideal.ofBits .f32 0x44800000#32) + Ideal.ofBits .f32 0x358637BD#32)

theorem pay1_apply (x : FVec Ideal S512x1024 .f32) (g : FVec Ideal S1x1024 .f32) (y : FVec Ideal S512x1024 .f32) (r : Fin 512) (e : Fin 1024) :
    k0_pay1 (F := Ideal) x g y (ix2 r e) = x (ix2 r e) + g (ix2 0 e) * y (ix2 r e) := by
  pointwise [k0_pay1]

theorem pay2_apply (x : FVec Ideal S512x1024 .f32) (g : FVec Ideal S1x1024 .f32) (y : FVec Ideal S512x1024 .f32)
    (n sc sh : FVec Ideal S1x1024 .f32) (w : FVec Ideal S1024x2944 .bf16) (r : Fin 512) (j : Fin 2944) :
    k0_pay2 (F := Ideal) x g y n sc sh w (ix2 r j)
      = ∑ e : Fin 1024, (k0_pay1 (F := Ideal) x g y (ix2 r e) * rms (fun i => k0_pay1 (F := Ideal) x g y (ix2 r i)) * n (ix2 0 e)
          * (1 + sc (ix2 0 e)) + sh (ix2 0 e)) * w (ix2 e j) := by
  unfold k0_pay2 rms
  generalize k0_pay1 (F := Ideal) x g y = a
  pointwise []

variable (m : (ℓ : Loc nD τ sig) → Buf (Elt Ideal) ℓ)

/-- The arguments, by what they hold. -/
abbrev aX (c : Dev nD) : FVec Ideal S16384x1024 .f32 := m ((c.tc : Thread nD τ).loc main_arg0)
abbrev aY (c : Dev nD) : FVec Ideal S16384x1024 .f32 := m ((c.tc : Thread nD τ).loc main_arg1)
abbrev aG (c : Dev nD) : FVec Ideal S1x1024 .f32 := m ((c.tc : Thread nD τ).loc main_arg2)
abbrev aN (c : Dev nD) : FVec Ideal S2x1024 .f32 := m ((c.tc : Thread nD τ).loc main_arg3)
abbrev aSh (c : Dev nD) : FVec Ideal S1x1024 .f32 := m ((c.tc : Thread nD τ).loc main_arg4)
abbrev aSc (c : Dev nD) : FVec Ideal S1x1024 .f32 := m ((c.tc : Thread nD τ).loc main_arg5)
abbrev aW (c : Dev nD) : FVec Ideal S2x1024x2832 .f32 := m ((c.tc : Thread nD τ).loc main_arg6)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem lt32 (t : Fin cfg0.N) : t.val < 32 := lt_of_lt_of_eq t.isLt N_0

theorem rd0 (c : Dev nD) (t : Fin cfg0.N) (r : Fin 512) (e : Fin 1024) :
    iblk m c 0 t (ix2 r e) = aX m c (ix2 ⟨t.val * 512 + r.val, by have := lt32 t; omega⟩ e) := by
  have ht := lt32 t
  blk_point [iblk, V, idx t]

theorem rd1 (c : Dev nD) (t : Fin cfg0.N) (r : Fin 512) (e : Fin 1024) :
    iblk m c 1 t (ix2 r e) = aY m c (ix2 ⟨t.val * 512 + r.val, by have := lt32 t; omega⟩ e) := by
  have ht := lt32 t
  blk_point [iblk, V, idx t]

theorem rd2 (c : Dev nD) (t : Fin cfg0.N) (e : Fin 1024) : iblk m c 2 t (ix2 0 e) = aG m c (ix2 0 e) := by
  blk_point [iblk, V, idx t]

theorem rd4 (c : Dev nD) (t : Fin cfg0.N) (e : Fin 1024) : iblk m c 4 t (ix2 0 e) = aSh m c (ix2 0 e) := by
  blk_point [iblk, V, idx t]

theorem rd5 (c : Dev nD) (t : Fin cfg0.N) (e : Fin 1024) : iblk m c 5 t (ix2 0 e) = aSc m c (ix2 0 e) := by
  blk_point [iblk, V, idx t]

/-- The gain row the host prepares. -/
theorem gain_eq (c : Dev nD) : V m c main_v6
    = shapeCast S1x1024 (shapeCast S1024 (extractStridedSlice S1x1024 ![1, 0] (aN m c) slices_S2x1024_S1x1024_1_0) shapeCasts_S1x1024_S1024)
        shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

/-- The padded weights the host prepares. -/
theorem weights_eq (c : Dev nD) : V m c main_v3
    = truncf .bf16 (pad S1024x2944 ![0, 0] ![0, 112] ![0, 0] (shapeCast S1024x2832 (extractStridedSlice S1x1024x2832 ![1, 0, 0] (aW m c)
        slices_S2x1024x2832_S1x1024x2832_1_0_0) shapeCasts_S1x1024x2832_S1024x2832) (sitofp .f32 (constantI S_ 32 0#32))
        pads_S1024x2832_S1024x2944_000_01120 h_S_) bitsLt_bf16_f32 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

theorem rd3 (c : Dev nD) (t : Fin cfg0.N) (e : Fin 1024) : iblk m c 3 t (ix2 0 e) = aN m c (ix2 1 e) := by
  have h : iblk m c 3 t (ix2 0 e) = V m c main_v6 (ix2 0 e) := by
    blk_point [iblk, idx t]
  rw [h, gain_eq]
  pointwise []

/-- The integer zero as a float. -/
theorem zero_int : (FloatOps.sitofp (F := Ideal) FTy.f32 0#32 : EReal) = 0 := by
  show (((0#32 : BitVec 32).toInt : ℝ) : EReal) = 0
  simp

theorem rd6 (c : Dev nD) (t : Fin cfg0.N) (e : Fin 1024) (j : Fin 2944) :
    iblk m c 6 t (ix2 e j) = if h : j.val < 2832 then aW m c (ix3 1 e ⟨j.val, h⟩) else 0 := by
  have h : iblk m c 6 t (ix2 e j) = V m c main_v3 (ix2 e j) := by
    blk_point [iblk, idx t]
  rw [h, weights_eq]
  pointwise []
  rw [zero_int]

/-- The residual sum. -/
def resid (c : Dev nD) : FVec Ideal S16384x1024 .f32 := fun j => aX m c j + aG m c (ix2 0 (j 1)) * aY m c j

/-- The projection, its zero columns included. -/
def whole (c : Dev nD) : FVec Ideal S16384x2944 .f32 := fun j =>
  if h : (j 1).val < 2832 then
    ∑ e : Fin 1024, (resid m c (ix2 (j 0) e) * rms (fun i => resid m c (ix2 (j 0) i)) * aN m c (ix2 1 e)
      * (1 + aSc m c (ix2 0 e)) + aSh m c (ix2 0 e)) * aW m c (ix3 1 e ⟨(j 1).val, h⟩)
  else 0

theorem pay1_eq (c : Dev nD) (t : Fin cfg0.N) (r : Fin 512) (e : Fin 1024) :
    k0_pay1 (F := Ideal) (iblk m c 0 t) (iblk m c 2 t) (iblk m c 1 t) (ix2 r e)
      = resid m c (ix2 ⟨t.val * 512 + r.val, by have := lt32 t; omega⟩ e) := by
  rw [pay1_apply, rd0, rd1, rd2]
  rfl

theorem final8 (c : Dev nD) : (dats m 0 c).arrAt 8 cfg0.N = resid m c := by
  refine (dats m 0 c).arrAt_eq_of_covers 8 _ (by decide +kernel) fun t hf y => ?_
  have ht := lt32 t
  blk_simp
  rw [after0_8]
  frame_out
  obtain ⟨r, e, rfl⟩ : ∃ (r : Fin 512) (e : Fin 1024), y = ix2 r e := ⟨y 0, y 1, by blk_ext⟩
  rw [pay1_eq]
  refine congrArg (resid m c) ?_
  blk_ext [idx t]

theorem final7 (c : Dev nD) : (dats m 0 c).arrAt 7 cfg0.N = whole m c := by
  refine (dats m 0 c).arrAt_eq_of_covers 7 _ (by decide +kernel) fun t hf y => ?_
  have ht := lt32 t
  blk_simp
  rw [after0_7]
  frame_out
  obtain ⟨r, j, rfl⟩ : ∃ (r : Fin 512) (j : Fin 2944), y = ix2 r j := ⟨y 0, y 1, by blk_ext⟩
  have key : k0_pay2 (F := Ideal) (iblk m c 0 t) (iblk m c 2 t) (iblk m c 1 t) (iblk m c 3 t) (iblk m c 5 t) (iblk m c 4 t) (iblk m c 6 t) (ix2 r j)
      = whole m c (ix2 ⟨t.val * 512 + r.val, by omega⟩ j) := by
    rw [pay2_apply]
    simp only [pay1_eq, rd3, rd4, rd5, rd6]
    by_cases h : j.val < 2832
    · have hw : whole m c (ix2 ⟨t.val * 512 + r.val, by omega⟩ j) = _ := dif_pos h
      rw [hw]
      refine Finset.sum_congr rfl fun e _ => ?_
      rw [dif_pos h]
      rfl
    · have hw : whole m c (ix2 ⟨t.val * 512 + r.val, by omega⟩ j) = _ := dif_neg h
      rw [hw]
      refine Finset.sum_eq_zero fun e _ => ?_
      rw [dif_neg h, mul_zero]
  rw [key]
  refine congrArg (whole m c) ?_
  blk_ext [idx t]

end Cert.Kernel3Ideal.Proj

end
-- ==== Proof.ProjRef.lean ====
module

public import proofs.«01_k».proof.Proof.Gen.Reference3Ideal.Run
public import Idealize.ShloMosaic.Lib.Pipeline.ValueKit
public import Idealize.ShloMosaic.Lib.Pointwise

/-! The entries of the in-projection reference's results. -/

@[expose] public section

set_option maxRecDepth 16384

noncomputable section

namespace Cert.Reference3Ideal.Proj

open Idealize.ShloMosaic Idealize.ShloMosaic.TcCoe Idealize.SL.Sem
open Cert.Reference3Ideal Cert.Reference3Ideal.Gen Cert.Reference3Ideal.Value

/-- The residual sum. -/
def resid (x y : FVec Ideal S16384x1024 .f32) (g : FVec Ideal S1x1024 .f32) : FVec Ideal S16384x1024 .f32 :=
  addf x (mulf (broadcastInDim S16384x1024 ![0, 1] bcast_S1x1024_S16384x1024_0_1 g) y)

/-- One over the root mean square of each row. -/
def rms (a : FVec Ideal S16384x1024 .f32) : FVec Ideal S16384x1 .f32 :=
  Host.rsqrt (addf (Host.divf (broadcastInDim S16384x1 ![0] bcast_S16384_S16384x1_0
      (Host.reduceAdd (mulf a a) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

/-- The rows normalised, scaled and shifted. -/
def hid (a : FVec Ideal S16384x1024 .f32) (ρ : FVec Ideal S16384x1 .f32) (n : FVec Ideal S2x1024 .f32) (sh sc : FVec Ideal S1x1024 .f32) :
    FVec Ideal S16384x1024 .f32 :=
  addf (mulf (mulf (mulf a (broadcastInDim S16384x1024 ![0, 1] bcast_S16384x1_S16384x1024_0_1 ρ))
      (broadcastInDim S16384x1024 ![0, 1] bcast_S1x1024_S16384x1024_0_1 (broadcastInDim S1x1024 ![1] bcast_S1024_S1x1024_1
        (shapeCast _ (extractStridedSlice S1x1024 ![1, 0] n slices_S2x1024_S1x1024_1_0) shapeCasts_S1x1024_S1024))))
      (broadcastInDim S16384x1024 ![0, 1] bcast_S1x1024_S16384x1024_0_1
        (addf (broadcastInDim S1x1024 ![] bcast_S_S1x1024 (constant S_ .f32 0x3F800000#32)) sc)))
    (broadcastInDim S16384x1024 ![0, 1] bcast_S1x1024_S16384x1024_0_1 sh)

/-- The projection. -/
def proj (h : FVec Ideal S16384x1024 .f32) (w : FVec Ideal S2x1024x2832 .f32) : FVec Ideal S16384x2832 .f32 :=
  Host.dotGeneral dot_S16384x1024_S1024x2832_S16384x2832_1_0_0_1_n_n none h
    (shapeCast _ (extractStridedSlice S1x1024x2832 ![1, 0, 0] w slices_S2x1024x2832_S1x1024x2832_1_0_0) shapeCasts_S1x1024x2832_S1024x2832)

/-- The projection with zero columns after it. -/
def padded (z : FVec Ideal S16384x2832 .f32) : FVec Ideal S16384x2944 .f32 :=
  pad S16384x2944 ![0, 0] ![0, 112] ![0, 0] z (sitofp .f32 (constantI S_ 32 0#32)) pads_S16384x2832_S16384x2944_000_01120 h_S_

/-- The first result. -/
def out (x y : FVec Ideal S16384x1024 .f32) (g : FVec Ideal S1x1024 .f32) (n : FVec Ideal S2x1024 .f32) (sh sc : FVec Ideal S1x1024 .f32)
    (w : FVec Ideal S2x1024x2832 .f32) : FVec Ideal S16384x2944 .f32 :=
  padded (proj (hid (resid x y g) (rms (resid x y g)) n sh sc) w)

theorem resid_apply (x y : FVec Ideal S16384x1024 .f32) (g : FVec Ideal S1x1024 .f32) (r : Fin 16384) (e : Fin 1024) :
    resid x y g (ix2 r e) = x (ix2 r e) + g (ix2 0 e) * y (ix2 r e) := by
  pointwise [resid]

theorem rms_apply (a : FVec Ideal S16384x1024 .f32) (r : Fin 16384) :
    rms a (ix2 r 0) = Ideal.rsqrt (Ideal.div (∑ e : Fin 1024, a (ix2 r e) * a (ix2 r e)) (Ideal.ofBits .f32 0x44800000#32)
      + Ideal.ofBits .f32 0x358637BD#32) := by
  pointwise [rms]

theorem hid_apply (a : FVec Ideal S16384x1024 .f32) (ρ : FVec Ideal S16384x1 .f32) (n : FVec Ideal S2x1024 .f32)
    (sh sc : FVec Ideal S1x1024 .f32) (r : Fin 16384) (e : Fin 1024) :
    hid a ρ n sh sc (ix2 r e) = a (ix2 r e) * ρ (ix2 r 0) * n (ix2 1 e) * (1 + sc (ix2 0 e)) + sh (ix2 0 e) := by
  pointwise [hid]

theorem proj_apply (h : FVec Ideal S16384x1024 .f32) (w : FVec Ideal S2x1024x2832 .f32) (r : Fin 16384) (j : Fin 2832) :
    proj h w (ix2 r j) = ∑ e : Fin 1024, h (ix2 r e) * w (ix3 1 e j) := by
  pointwise [proj]

/-- The integer zero as a float. -/
theorem zero_int : (FloatOps.sitofp (F := Ideal) FTy.f32 0#32 : EReal) = 0 := by
  show (((0#32 : BitVec 32).toInt : ℝ) : EReal) = 0
  simp

theorem padded_apply (z : FVec Ideal S16384x2832 .f32) (r : Fin 16384) (j : Fin 2944) :
    padded z (ix2 r j) = if h : j.val < 2832 then z (ix2 r ⟨j.val, h⟩) else 0 := by
  pointwise [padded]
  rw [zero_int]

theorem out_apply (x y : FVec Ideal S16384x1024 .f32) (g : FVec Ideal S1x1024 .f32) (n : FVec Ideal S2x1024 .f32)
    (sh sc : FVec Ideal S1x1024 .f32) (w : FVec Ideal S2x1024x2832 .f32) (r : Fin 16384) (j : Fin 2944) :
    out x y g n sh sc w (ix2 r j) = if h : j.val < 2832 then
      ∑ e : Fin 1024, (resid x y g (ix2 r e) * Ideal.rsqrt (Ideal.div (∑ i : Fin 1024, resid x y g (ix2 r i) * resid x y g (ix2 r i))
          (Ideal.ofBits .f32 0x44800000#32) + Ideal.ofBits .f32 0x358637BD#32) * n (ix2 1 e) * (1 + sc (ix2 0 e)) + sh (ix2 0 e))
        * w (ix3 1 e ⟨j.val, h⟩) else 0 := by
  unfold out
  rw [padded_apply]
  simp only [proj_apply, hid_apply, rms_apply]

end Cert.Reference3Ideal.Proj

end
-- ==== Proof.ProjClaim.lean ====
module

public import proofs.«01_k».proof.Defs
public import proofs.«01_k».proof.Proof.ProjBlock
public import proofs.«01_k».proof.Proof.ProjRef
public import proofs.«01_k».proof.Proof.Gen.Kernel3.Frame
public import Idealize.ShloMosaic.Lib.Quiescent

/-! The in-projection call's claims. -/

@[expose] public section

set_option maxRecDepth 16384

noncomputable section

namespace Cert.ProjClaim

open Idealize.ShloMosaic Idealize.ShloMosaic.TcCoe Idealize.SL.Sem

theorem quiescent_P : Cert.quiescent_Kernel3 := fun m ρ _ => Cert.Kernel3.Gen.frame m ρ

theorem quiescent_PI : Cert.quiescent_Kernel3Ideal := fun m ρ _ => Cert.Kernel3Ideal.Gen.frame m ρ

theorem quiescent_RI : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem resid_eq (m : (ℓ : Loc Cert.Kernel3Ideal.nD Cert.Kernel3Ideal.τ Cert.Kernel3Ideal.sig) → Buf (Elt Ideal) ℓ)
    (c : Dev Cert.Kernel3Ideal.nD) :
    Cert.Kernel3Ideal.Proj.resid m c = Cert.Reference3Ideal.Proj.resid (Cert.Kernel3Ideal.Proj.aX m c) (Cert.Kernel3Ideal.Proj.aY m c)
      (Cert.Kernel3Ideal.Proj.aG m c) := by
  funext j
  obtain ⟨r, e, rfl⟩ : ∃ (r : Fin 16384) (e : Fin 1024), j = ix2 r e := ⟨j 0, j 1, by funext a; fin_cases a <;> rfl⟩
  exact (Cert.Reference3Ideal.Proj.resid_apply _ _ _ r e).symm

theorem whole_eq (m : (ℓ : Loc Cert.Kernel3Ideal.nD Cert.Kernel3Ideal.τ Cert.Kernel3Ideal.sig) → Buf (Elt Ideal) ℓ)
    (c : Dev Cert.Kernel3Ideal.nD) :
    Cert.Kernel3Ideal.Proj.whole m c = Cert.Reference3Ideal.Proj.out (Cert.Kernel3Ideal.Proj.aX m c) (Cert.Kernel3Ideal.Proj.aY m c)
      (Cert.Kernel3Ideal.Proj.aG m c) (Cert.Kernel3Ideal.Proj.aN m c) (Cert.Kernel3Ideal.Proj.aSh m c) (Cert.Kernel3Ideal.Proj.aSc m c)
      (Cert.Kernel3Ideal.Proj.aW m c) := by
  funext j
  obtain ⟨r, e, rfl⟩ : ∃ (r : Fin 16384) (e : Fin 2944), j = ix2 r e := ⟨j 0, j 1, by funext a; fin_cases a <;> rfl⟩
  rw [Cert.Reference3Ideal.Proj.out_apply, ← resid_eq]
  rfl

theorem algebraic : Cert.algebraic_Kernel3Ideal_Reference3Ideal := fun m ρ m' ρ' _ hag =>
  ⟨fun c => Cert.Kernel3Ideal.Proj.whole m c, fun c => Cert.Kernel3Ideal.Proj.resid m c,
    (θ_run Cert.Kernel3Ideal.defs _ _).mono (fun _ h c => ⟨(h c).1.trans (Cert.Kernel3Ideal.Proj.final7 m c),
        (h c).2.1.trans (Cert.Kernel3Ideal.Proj.final8 m c), (h c).2.2⟩)
      (Cert.Kernel3Ideal.Value.run_blocks m ρ),
    (θ_run Cert.Reference3Ideal.defs _ _).mono (fun _ h c => ⟨(h c).1.trans (by
        obtain ⟨h0, h1, h2, h3, h4, h5, h6⟩ := hag c
        rw [h0, h1, h2, h3, h4, h5, h6]
        exact (whole_eq m c).symm), (h c).2.1.trans (by
        obtain ⟨h0, h1, h2, h3, h4, h5, h6⟩ := hag c
        rw [h0, h1, h2]
        exact (resid_eq m c).symm), (h c).2.2⟩)
      (Cert.Reference3Ideal.Value.run m' ρ')⟩

end Cert.ProjClaim

end
-- ==== Proof.OutEntry.lean ====
module

public import proofs.«01_k».proof.Proof.Gen.Kernel4Ideal.Value
public import proofs.«01_k».proof.Proof.FlashMath
public import Idealize.ShloMosaic.Lib.Pipeline.ValueKit
public import Idealize.ShloMosaic.Lib.Pointwise

/-! The out-projection call's payloads, entry by entry. -/

@[expose] public section

set_option maxRecDepth 16384

noncomputable section

namespace Cert.Kernel4Ideal.Out

open Idealize.ShloMosaic Idealize.ShloMosaic.TcCoe Idealize.SL.Sem
open Cert.Kernel4Ideal Cert.Kernel4Ideal.Gen

/-- One over the root mean square of a row. -/
def rms (a : Fin 1024 → EReal) : EReal :=
  Ideal.rsqrt (Ideal.div (∑ e : Fin 1024, a e * a e) (Ideal.ofBits .f32 0x44800000#32) + Ideal.ofBits .f32 0x358637BD#32)

theorem pay2_apply (z : FVec Ideal S512x256 .f32) (r : Fin 512) (e : Fin 256) :
    k0_pay2 (F := Ideal) z (ix2 r e) = Ideal.div 1 (1 + Ideal.exp (-z (ix2 r e))) := by
  pointwise [k0_pay2]
  rw [zero_sub]

/-- The matrix that averages over a head's channels. -/
def headMat : FVec Ideal S256x256 .bf16 :=
  truncf .bf16 (select (cmpi .eq (shrsi (iota .tc S256x256 32 [0] iota_S256x256_d0_w32) (broadcast S256x256 6#32))
    (shrsi (iota .tc S256x256 32 [1] iota_S256x256_d1_w32) (broadcast S256x256 6#32)))
    (broadcast S256x256 (Scalar.ofBits .f32 0x3C800000#32)) (broadcast S256x256 (Scalar.ofBits .f32 0x00000000#32))) bitsLt_bf16_f32

theorem shift_word : ∀ l : Fin 256, IntOp.shrsi .vector (BitVec.ofNat 32 l.val) 6#32 = BitVec.ofNat 32 (l.val / 64) := by
  decide +kernel

theorem eq_word : ∀ a b : Fin 4, IntOp.cmpi CmpIPredicate.eq (BitVec.ofNat 32 a.val) (BitVec.ofNat 32 b.val) = if a = b then 1#1 else 0#1 := by
  decide

theorem headMat_apply (k e : Fin 256) : headMat (ix2 k e) = if k.val / 64 = e.val / 64 then Ideal.ofBits .f32 0x3C800000#32 else 0 := by
  pointwise [headMat]
  rw [shift_word, shift_word, eq_word ⟨k.val / 64, by omega⟩ ⟨e.val / 64, by omega⟩]
  by_cases h : k.val / 64 = e.val / 64
  · rw [if_pos h, if_pos (Fin.ext h)]; rfl
  · rw [if_neg h, if_neg fun q => h (congrArg Fin.val q)]; rfl

/-- The squares' three pieces against a matrix. -/
def split3 (q : FVec Ideal S512x256 .f32) (w : FVec Ideal S256x256 .bf16) : FVec Ideal S512x256 .f32 :=
  addf (addf (addf (broadcast S512x256 (Scalar.ofBits .f32 0x00000000#32))
    (matmul dot_S512x256_S256x256_S512x256_1_0_0_1_n_n none (truncf .bf16 q bitsLt_bf16_f32) w (constant S512x256 .f32 0x00000000#32)))
    (matmul dot_S512x256_S256x256_S512x256_1_0_0_1_n_n none (truncf .bf16 (subf q (extf .f32 (truncf .bf16 q bitsLt_bf16_f32) bitsLt_bf16_f32)) bitsLt_bf16_f32) w
      (constant S512x256 .f32 0x00000000#32)))
    (matmul dot_S512x256_S256x256_S512x256_1_0_0_1_n_n none (truncf .bf16 (subf (subf q (extf .f32 (truncf .bf16 q bitsLt_bf16_f32) bitsLt_bf16_f32))
        (extf .f32 (truncf .bf16 (subf q (extf .f32 (truncf .bf16 q bitsLt_bf16_f32) bitsLt_bf16_f32)) bitsLt_bf16_f32) bitsLt_bf16_f32)) bitsLt_bf16_f32) w
      (constant S512x256 .f32 0x00000000#32))

theorem split3_apply (q : FVec Ideal S512x256 .f32) (w : FVec Ideal S256x256 .bf16) (r : Fin 512) (e : Fin 256) :
    split3 q w (ix2 r e) = ∑ k : Fin 256, q (ix2 r k) * w (ix2 k e) + ∑ k : Fin 256, (q (ix2 r k) - q (ix2 r k)) * w (ix2 k e)
      + ∑ k : Fin 256, (q (ix2 r k) - q (ix2 r k) - (q (ix2 r k) - q (ix2 r k))) * w (ix2 k e) := by
  pointwise [split3]

/-- The head sums normalised, from their mean squares. -/
def normed (s ms : FVec Ideal S512x256 .f32) : FVec Ideal S512x256 .f32 :=
  mulf s (rsqrt (addf ms (broadcast S512x256 (Scalar.ofBits .f32 0x358637BD#32))))

theorem pay3_eq (a b : FVec Ideal S512x256 .f32) :
    k0_pay3 (F := Ideal) a b = normed (addf a b) (split3 (mulf (addf a b) (addf a b)) headMat) := rfl

theorem normed_apply (s ms : FVec Ideal S512x256 .f32) (r : Fin 512) (e : Fin 256) :
    normed s ms (ix2 r e) = s (ix2 r e) * Ideal.rsqrt (ms (ix2 r e) + Ideal.ofBits .f32 0x358637BD#32) := by
  pointwise [normed]

theorem pay4_apply (s y : FVec Ideal S512x256 .f32) (n : FVec Ideal S1x256 .f32) (a b c : FVec Ideal S512x256 .f32)
    (w0 w1 w2 w3 : FVec Ideal S256x1024 .bf16) (x : FVec Ideal S512x1024 .f32) (g : FVec Ideal S1x1024 .f32) (r : Fin 512) (e : Fin 1024) :
    k0_pay4 (F := Ideal) s y n a b c w0 w1 w2 w3 x g (ix2 r e) = x (ix2 r e) + g (ix2 0 e)
      * (∑ k : Fin 256, a (ix2 r k) * w0 (ix2 k e) + ∑ k : Fin 256, b (ix2 r k) * w1 (ix2 k e) + ∑ k : Fin 256, c (ix2 r k) * w2 (ix2 k e)
        + ∑ k : Fin 256, s (ix2 r k) * (y (ix2 r k) * n (ix2 0 k)) * w3 (ix2 k e)) := by
  pointwise [k0_pay4]

theorem pay5_apply (a : FVec Ideal S512x1024 .f32) (n sc sh : FVec Ideal S1x1024 .f32) (r : Fin 512) (e : Fin 1024) :
    k0_pay5 (F := Ideal) a n sc sh (ix2 r e) = a (ix2 r e) * rms (fun i => a (ix2 r i)) * n (ix2 0 e) * (1 + sc (ix2 0 e)) + sh (ix2 0 e) := by
  unfold rms
  pointwise [k0_pay5]

/-- The router's scores from the two pieces of each factor. -/
def split2 (h : FVec Ideal S512x1024 .f32) (w : FVec Ideal S1024x128 .f32) : FVec Ideal S512x128 .f32 :=
  addf (addf (matmul dot_S512x1024_S1024x128_S512x128_1_0_0_1_n_n none (truncf .bf16 h bitsLt_bf16_f32) (truncf .bf16 w bitsLt_bf16_f32) (constant S512x128 .f32 0x00000000#32))
    (matmul dot_S512x1024_S1024x128_S512x128_1_0_0_1_n_n none (truncf .bf16 (subf h (extf .f32 (truncf .bf16 h bitsLt_bf16_f32) bitsLt_bf16_f32)) bitsLt_bf16_f32)
      (truncf .bf16 w bitsLt_bf16_f32) (constant S512x128 .f32 0x00000000#32)))
    (matmul dot_S512x1024_S1024x128_S512x128_1_0_0_1_n_n none (truncf .bf16 h bitsLt_bf16_f32)
      (truncf .bf16 (subf w (extf .f32 (truncf .bf16 w bitsLt_bf16_f32) bitsLt_bf16_f32)) bitsLt_bf16_f32) (constant S512x128 .f32 0x00000000#32))

theorem pay7_eq (a : FVec Ideal S512x1024 .f32) (n sc sh : FVec Ideal S1x1024 .f32) (w : FVec Ideal S1024x128 .f32) :
    k0_pay7 (F := Ideal) a n sc sh w = split2 (k0_pay5 (F := Ideal) a n sc sh) (shapeCast S1024x128 w shapeCasts_S1024x128_S1024x128) := rfl

theorem split2_apply (h : FVec Ideal S512x1024 .f32) (w : FVec Ideal S1024x128 .f32) (r : Fin 512) (j : Fin 128) :
    split2 h (shapeCast S1024x128 w shapeCasts_S1024x128_S1024x128) (ix2 r j)
      = ∑ e : Fin 1024, h (ix2 r e) * w (ix2 e j) + ∑ e : Fin 1024, (h (ix2 r e) - h (ix2 r e)) * w (ix2 e j)
        + ∑ e : Fin 1024, h (ix2 r e) * (w (ix2 e j) - w (ix2 e j)) := by
  pointwise [split2]

/-- The scores an expert to a row. -/
def turned (l : FVec Ideal S512x128 .f32) : FVec Ideal S16x512 .f32 :=
  extractStridedSlice S16x512 ![0, 0] (transpose S128x512 [1, 0] l transposes_S512x128_p1_0_S128x512) slices_S128x512_o0_0_S16x512

/-- The greatest score of each token. -/
def top (l : FVec Ideal S16x512 .f32) : FVec Ideal S512 .f32 :=
  multiReduction .maximumf [0] S512 l 0xFF800000#32 reduces_S16x512_S512 (.inl rfl) rfl

/-- The scores less what is given for their token, exponentiated. -/
def expo (l : FVec Ideal S16x512 .f32) (M : FVec Ideal S512 .f32) : FVec Ideal S16x512 .f32 :=
  exp (subf l (broadcastTo S16x512 (shapeCast S1x512 M shapeCasts_S512_S1x512) broadcasts_S1x512_S16x512))

/-- Each token's exponentials over their sum. -/
def share (e : FVec Ideal S16x512 .f32) : FVec Ideal S16x512 .f32 :=
  divf e (broadcastTo S16x512 (shapeCast S1x512 (multiReduction .add [0] S512 e 0x00000000#32 reduces_S16x512_S512 (.inl rfl) rfl) shapeCasts_S512_S1x512)
    broadcasts_S1x512_S16x512)

theorem pay1_eq (l : FVec Ideal S512x128 .f32) : k0_pay1 (F := Ideal) l = share (expo (turned l) (top (turned l))) := rfl

theorem turned_apply (l : FVec Ideal S512x128 .f32) (j : Fin 16) (r : Fin 512) : turned l (ix2 j r) = l (ix2 r ⟨j.val, by omega⟩) := by
  pointwise [turned]

theorem top_apply (l : FVec Ideal S16x512 .f32) (r : Fin 512) :
    top l (ix1 r) = Finset.fold max (Ideal.ofBits .f32 0xFF800000#32) (fun j : Fin 16 => l (ix2 j r)) Finset.univ := by
  unfold top
  pointwise

theorem expo_apply (l : FVec Ideal S16x512 .f32) (M : FVec Ideal S512 .f32) (j : Fin 16) (r : Fin 512) :
    expo l M (ix2 j r) = Ideal.exp (l (ix2 j r) - M (ix1 r)) := by
  pointwise [expo]

theorem share_apply (e : FVec Ideal S16x512 .f32) (j : Fin 16) (r : Fin 512) :
    share e (ix2 j r) = Ideal.div (e (ix2 j r)) (∑ i : Fin 16, e (ix2 i r)) := by
  pointwise [share]

end Cert.Kernel4Ideal.Out

end
-- ==== Proof.OutRef.lean ====
module

public import proofs.«01_k».proof.Proof.Gen.Reference4Ideal.Run
public import Idealize.ShloMosaic.Lib.Pipeline.ValueKit
public import Idealize.ShloMosaic.Lib.Pointwise

/-! The entries of the out-projection reference's results. -/

@[expose] public section

set_option maxRecDepth 16384

noncomputable section

namespace Cert.Reference4Ideal.Out

open Idealize.ShloMosaic Idealize.ShloMosaic.TcCoe Idealize.SL.Sem
open Cert.Reference4Ideal Cert.Reference4Ideal.Gen Cert.Reference4Ideal.Value

/-- One over the root mean square of each head's 64 channels. -/
def headInv (s : FVec Ideal S16384x256 .f32) : FVec Ideal S16384x4x1 .f32 :=
  Host.rsqrt (addf (Host.divf (broadcastInDim S16384x4x1 ![0, 1] bcast_S16384x4_S16384x4x1_0_1
      (Host.reduceAdd (mulf (shapeCast _ s shapeCasts_S16384x256_S16384x4x64) (shapeCast _ s shapeCasts_S16384x256_S16384x4x64))
        (constant S_ .f32 0x00000000#32) reducesTo_S16384x4x64_S16384x4_d2 h_S_))
    (broadcastInDim S16384x4x1 ![] bcast_S_S16384x4x1 (constant S_ .f32 0x42800000#32)))
    (broadcastInDim S16384x4x1 ![] bcast_S_S16384x4x1 (constant S_ .f32 0x358637BD#32)))

/-- The heads normalised, scaled, and gated by the sigmoid. -/
def gated (s : FVec Ideal S16384x256 .f32) (ρ : FVec Ideal S16384x4x1 .f32) (z : FVec Ideal S16384x2944 .f32) (n : FVec Ideal S2x256 .f32) :
    FVec Ideal S16384x256 .f32 :=
  mulf (Host.divf (broadcastInDim S16384x256 ![] bcast_S_S16384x256 (constant S_ .f32 0x3F800000#32))
      (addf (broadcastInDim S16384x256 ![] bcast_S_S16384x256 (constant S_ .f32 0x3F800000#32))
        (Host.exp (Host.negf (extractStridedSlice S16384x256 ![0, 2560] z slices_S16384x2944_S16384x256_0_2560)))))
    (mulf (shapeCast _ (mulf (shapeCast _ s shapeCasts_S16384x256_S16384x4x64)
        (broadcastInDim S16384x4x64 ![0, 1, 2] bcast_S16384x4x1_S16384x4x64_0_1_2 ρ)) shapeCasts_S16384x4x64_S16384x256)
      (broadcastInDim S16384x256 ![0, 1] bcast_S1x256_S16384x256_0_1 (broadcastInDim S1x256 ![1] bcast_S256_S1x256_1
        (shapeCast _ (extractStridedSlice S1x256 ![1, 0] n slices_S2x256_S1x256_1_0) shapeCasts_S1x256_S256))))

/-- The four parts side by side. -/
def joined (a b c d : FVec Ideal S16384x256 .f32) : FVec Ideal S16384x1024 .f32 :=
  concatenate S16384x1024 1 [⟨S16384x256, a⟩, ⟨S16384x256, b⟩, ⟨S16384x256, c⟩, ⟨S16384x256, d⟩]
    concatenates_S16384x256_S16384x256_S16384x256_S16384x256_S16384x1024_d1

/-- The projection, gated, added to the stream. -/
def resid (x : FVec Ideal S16384x1024 .f32) (g : FVec Ideal S1x1024 .f32) (u : FVec Ideal S16384x1024 .f32) (w : FVec Ideal S2x1024x1024 .f32) :
    FVec Ideal S16384x1024 .f32 :=
  addf x (mulf (broadcastInDim S16384x1024 ![0, 1] bcast_S1x1024_S16384x1024_0_1 g)
    (Host.dotGeneral dot_S16384x1024_S1024x1024_S16384x1024_1_0_0_1_n_n none u
      (shapeCast _ (extractStridedSlice S1x1024x1024 ![1, 0, 0] w slices_S2x1024x1024_S1x1024x1024_1_0_0) shapeCasts_S1x1024x1024_S1024x1024)))

/-- One over the root mean square of each row. -/
def rms (a : FVec Ideal S16384x1024 .f32) : FVec Ideal S16384x1 .f32 :=
  Host.rsqrt (addf (Host.divf (broadcastInDim S16384x1 ![0] bcast_S16384_S16384x1_0
      (Host.reduceAdd (mulf a a) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

/-- The rows normalised, scaled and shifted. -/
def hid (a : FVec Ideal S16384x1024 .f32) (ρ : FVec Ideal S16384x1 .f32) (n : FVec Ideal S2x1024 .f32) (sh sc : FVec Ideal S1x1024 .f32) :
    FVec Ideal S16384x1024 .f32 :=
  addf (mulf (mulf (mulf a (broadcastInDim S16384x1024 ![0, 1] bcast_S16384x1_S16384x1024_0_1 ρ))
      (broadcastInDim S16384x1024 ![0, 1] bcast_S1x1024_S16384x1024_0_1 (broadcastInDim S1x1024 ![1] bcast_S1024_S1x1024_1
        (shapeCast _ (extractStridedSlice S1x1024 ![1, 0] n slices_S2x1024_S1x1024_1_0) shapeCasts_S1x1024_S1024))))
      (broadcastInDim S16384x1024 ![0, 1] bcast_S1x1024_S16384x1024_0_1
        (addf (broadcastInDim S1x1024 ![] bcast_S_S1x1024 (constant S_ .f32 0x3F800000#32)) sc)))
    (broadcastInDim S16384x1024 ![0, 1] bcast_S1x1024_S16384x1024_0_1 sh)

/-- The router's scores. -/
def logits (h : FVec Ideal S16384x1024 .f32) (w : FVec Ideal S2x1024x16 .f32) : FVec Ideal S16384x16 .f32 :=
  Host.dotGeneral dot_S16384x1024_S1024x16_S16384x16_1_0_0_1_n_n none h
    (shapeCast _ (extractStridedSlice S1x1024x16 ![1, 0, 0] w slices_S2x1024x16_S1x1024x16_1_0_0) shapeCasts_S1x1024x16_S1024x16)

/-- The greatest score of each row. -/
def rowMax (l : FVec Ideal S16384x16 .f32) : FVec Ideal S16384 .f32 :=
  Host.reduce FloatOps.maximumf l (constant S_ .f32 0xFF800000#32) reducesTo_S16384x16_S16384_d1 h_S_

/-- The scores less what is given for their row, exponentiated. -/
def expo (l : FVec Ideal S16384x16 .f32) (M : FVec Ideal S16384 .f32) : FVec Ideal S16384x16 .f32 :=
  Host.exp (subf l (broadcastInDim S16384x16 ![0, 1] bcast_S16384x1_S16384x16_0_1 (broadcastInDim S16384x1 ![0] bcast_S16384_S16384x1_0
    (maximumf (broadcastInDim S16384 ![] bcast_S_S16384 (constant S_ .f32 0xFF800000#32)) M))))

/-- The rows of exponentials over their sums, an expert to a row. -/
def share (e : FVec Ideal S16384x16 .f32) : FVec Ideal S16x16384 .f32 :=
  transpose S16x16384 [1, 0] (Host.divf e (broadcastInDim S16384x16 ![0, 1] bcast_S16384x1_S16384x16_0_1
    (broadcastInDim S16384x1 ![0] bcast_S16384_S16384x1_0 (Host.reduceAdd e (constant S_ .f32 0x00000000#32) reducesTo_S16384x16_S16384_d1 h_S_))))
    transposes_S16384x16_S16x16384_1_0

theorem headInv_apply (s : FVec Ideal S16384x256 .f32) (r : Fin 16384) (h : Fin 4) :
    headInv s (ix3 r h 0) = Ideal.rsqrt (Ideal.div (∑ d : Fin 64, s (ix2 r ⟨h.val * 64 + d.val, by omega⟩) * s (ix2 r ⟨h.val * 64 + d.val, by omega⟩))
      (Ideal.ofBits .f32 0x42800000#32) + Ideal.ofBits .f32 0x358637BD#32) := by
  pointwise [headInv]

theorem gated_apply (s : FVec Ideal S16384x256 .f32) (ρ : FVec Ideal S16384x4x1 .f32) (z : FVec Ideal S16384x2944 .f32) (n : FVec Ideal S2x256 .f32)
    (r : Fin 16384) (e : Fin 256) :
    gated s ρ z n (ix2 r e) = Ideal.div 1 (1 + Ideal.exp (-z (ix2 r ⟨2560 + e.val, by omega⟩)))
      * (s (ix2 r e) * ρ (ix3 r ⟨e.val / 64, by omega⟩ 0) * n (ix2 1 e)) := by
  pointwise [gated]

theorem joined_apply (a b c d : FVec Ideal S16384x256 .f32) (r : Fin 16384) (j : Fin 4) (e : Fin 256) :
    joined a b c d (ix2 r ⟨j.val * 256 + e.val, by omega⟩) = ![a, b, c, d] j (ix2 r e) := by
  fin_cases j <;> pointwise [joined]
  · rw [dif_neg (by omega), dif_neg (by omega), dif_pos (by omega)]
    exact congrArg c (by blk_ext)
  · rw [dif_neg (by omega), dif_neg (by omega), dif_neg (by omega)]
    exact congrArg d (by blk_ext)

theorem resid_apply (x : FVec Ideal S16384x1024 .f32) (g : FVec Ideal S1x1024 .f32) (u : FVec Ideal S16384x1024 .f32)
    (w : FVec Ideal S2x1024x1024 .f32) (r : Fin 16384) (e : Fin 1024) :
    resid x g u w (ix2 r e) = x (ix2 r e) + g (ix2 0 e) * ∑ k : Fin 1024, u (ix2 r k) * w (ix3 1 k e) := by
  pointwise [resid]

theorem rms_apply (a : FVec Ideal S16384x1024 .f32) (r : Fin 16384) :
    rms a (ix2 r 0) = Ideal.rsqrt (Ideal.div (∑ e : Fin 1024, a (ix2 r e) * a (ix2 r e)) (Ideal.ofBits .f32 0x44800000#32)
      + Ideal.ofBits .f32 0x358637BD#32) := by
  pointwise [rms]

theorem hid_apply (a : FVec Ideal S16384x1024 .f32) (ρ : FVec Ideal S16384x1 .f32) (n : FVec Ideal S2x1024 .f32)
    (sh sc : FVec Ideal S1x1024 .f32) (r : Fin 16384) (e : Fin 1024) :
    hid a ρ n sh sc (ix2 r e) = a (ix2 r e) * ρ (ix2 r 0) * n (ix2 1 e) * (1 + sc (ix2 0 e)) + sh (ix2 0 e) := by
  pointwise [hid]

theorem logits_apply (h : FVec Ideal S16384x1024 .f32) (w : FVec Ideal S2x1024x16 .f32) (r : Fin 16384) (j : Fin 16) :
    logits h w (ix2 r j) = ∑ e : Fin 1024, h (ix2 r e) * w (ix3 1 e j) := by
  pointwise [logits]

theorem rowMax_apply (l : FVec Ideal S16384x16 .f32) (r : Fin 16384) :
    rowMax l (ix1 r) = Finset.fold max (Ideal.ofBits .f32 0xFF800000#32) (fun j : Fin 16 => l (ix2 r j)) Finset.univ := by
  unfold rowMax
  pointwise

theorem expo_apply (l : FVec Ideal S16384x16 .f32) (M : FVec Ideal S16384 .f32) (r : Fin 16384) (j : Fin 16) :
    expo l M (ix2 r j) = Ideal.exp (l (ix2 r j) - max (Ideal.ofBits .f32 0xFF800000#32) (M (ix1 r))) := by
  pointwise [expo]

theorem share_apply (e : FVec Ideal S16384x16 .f32) (j : Fin 16) (r : Fin 16384) :
    share e (ix2 j r) = Ideal.div (e (ix2 r j)) (∑ i : Fin 16, e (ix2 r i)) := by
  pointwise [share]

/-- The first result, of the arguments. -/
def out0 (a b c hf hb : FVec Ideal S16384x256 .f32) (z : FVec Ideal S16384x2944 .f32) (mn : FVec Ideal S2x256 .f32)
    (w : FVec Ideal S2x1024x1024 .f32) (x : FVec Ideal S16384x1024 .f32) (g : FVec Ideal S1x1024 .f32) : FVec Ideal S16384x1024 .f32 :=
  resid x g (joined a b c (gated (addf hf hb) (headInv (addf hf hb)) z mn)) w

/-- The second result before its cast, of the first. -/
def out1 (a : FVec Ideal S16384x1024 .f32) (n : FVec Ideal S2x1024 .f32) (sh sc : FVec Ideal S1x1024 .f32) : FVec Ideal S16384x1024 .f32 :=
  hid a (rms a) n sh sc

/-- The third result, of the second. -/
def out2 (h : FVec Ideal S16384x1024 .f32) (w : FVec Ideal S2x1024x16 .f32) : FVec Ideal S16x16384 .f32 :=
  share (expo (logits h w) (rowMax (logits h w)))

variable (m : (ℓ : Loc nD τ sig) → Buf (Elt Ideal) ℓ)

/-- The reference's first result of the memory. -/
def first (c : Dev nD) : FVec Ideal S16384x1024 .f32 :=
  out0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The reference's second result of the memory, before its cast. -/
def second (c : Dev nD) : FVec Ideal S16384x1024 .f32 :=
  out1 (first m c) (m ((c.tc : Thread nD τ).loc main_arg10)) (m ((c.tc : Thread nD τ).loc main_arg11)) (m ((c.tc : Thread nD τ).loc main_arg12))

theorem out1_eq (c : Dev nD) : res_out1 m c = truncf .bf16 (second m c) bitsLt_bf16_f32 := rfl

theorem out2_eq (c : Dev nD) : res_out2 m c = out2 (second m c) (m ((c.tc : Thread nD τ).loc main_arg13)) := rfl

end Cert.Reference4Ideal.Out

end
-- ==== Proof.OutMath.lean ====
module

public import proofs.«01_k».proof.Proof.FlashMath
public import Idealize.ShloMosaic.Lib.Pointwise

/-! The arithmetic of the out-projection call: split sums of reals, and the normalised row's finiteness. -/

@[expose] public section

noncomputable section

namespace Cert.OutMath

open Idealize.ShloMosaic

theorem c64 : Ideal.ofBits .f32 0x42800000#32 = ((64 : ℝ) : EReal) := by
  simp [Ideal.ofBits, Ideal.ieee, -EReal.coe_mul]
  norm_num

theorem c1024 : Ideal.ofBits .f32 0x44800000#32 = ((1024 : ℝ) : EReal) := by
  simp [Ideal.ofBits, Ideal.ieee, -EReal.coe_mul]
  norm_num

theorem cInv64 : Ideal.ofBits .f32 0x3C800000#32 = (((64 : ℝ)⁻¹ : ℝ) : EReal) := by
  simp [Ideal.ofBits, Ideal.ieee, -EReal.coe_mul]
  norm_num

theorem cEps : ∃ ε : ℝ, 0 < ε ∧ Ideal.ofBits .f32 0x358637BD#32 = (ε : EReal) := by
  refine ⟨8796093 * (2 : ℝ) ^ (-43 : ℤ), by positivity, ?_⟩
  simp [Ideal.ofBits, Ideal.ieee, -EReal.coe_mul]

theorem sub_self_real (x : EReal) (h : ∃ r : ℝ, x = r) : x - x = 0 := by
  obtain ⟨r, rfl⟩ := h
  rw [← EReal.coe_sub, sub_self, EReal.coe_zero]

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem div_real (x : EReal) (y : ℝ) (hy : y ≠ 0) : Ideal.div x (y : EReal) = x * ((y⁻¹ : ℝ) : EReal) := by
  unfold Ideal.div
  rw [if_neg (by exact_mod_cast hy), EReal.coe_inv]

/-- A sum over the channels that a mask keeps is a sum over the head's own channels. -/
theorem head_sum (q : Fin 256 → EReal) (c : EReal) (e : Fin 256) :
    ∑ k : Fin 256, q k * (if k.val / 64 = e.val / 64 then c else 0)
      = ∑ d : Fin 64, q ⟨e.val / 64 * 64 + d.val, by omega⟩ * c := by
  rw [Fin.sum_univ_tiles 4 64 rfl, Finset.sum_eq_single (⟨e.val / 64, by omega⟩ : Fin 4)]
  · refine Finset.sum_congr rfl fun d _ => ?_
    rw [if_pos (show (e.val / 64 * 64 + d.val) / 64 = e.val / 64 by omega)]
  · intro j _ hj
    refine Finset.sum_eq_zero fun d _ => ?_
    have : ¬ (j.val * 64 + d.val) / 64 = e.val / 64 := fun h => hj (Fin.ext (show j.val = e.val / 64 by omega))
    rw [if_neg this, mul_zero]
  · exact fun h => absurd (Finset.mem_univ _) h

/-- The mean square over a head's channels, from the three pieces of each square. -/
theorem mean_split (q : Fin 256 → EReal) (hq : ∀ k, ∃ r : ℝ, q k = r) (e : Fin 256) :
    ∑ k : Fin 256, q k * (if k.val / 64 = e.val / 64 then Ideal.ofBits .f32 0x3C800000#32 else 0)
      + ∑ k : Fin 256, (q k - q k) * (if k.val / 64 = e.val / 64 then Ideal.ofBits .f32 0x3C800000#32 else 0)
      + ∑ k : Fin 256, (q k - q k - (q k - q k)) * (if k.val / 64 = e.val / 64 then Ideal.ofBits .f32 0x3C800000#32 else 0)
      = Ideal.div (∑ d : Fin 64, q ⟨e.val / 64 * 64 + d.val, by omega⟩) (Ideal.ofBits .f32 0x42800000#32) := by
  have h1 : ∀ k, q k - q k = 0 := fun k => sub_self_real _ (hq k)
  simp only [h1, sub_zero, zero_mul, Finset.sum_const_zero, add_zero]
  rw [head_sum, c64, cInv64, div_real _ _ (by norm_num), FlashMath.sum_mul_of_nonneg _ _ (by
    exact_mod_cast (by norm_num : (0 : ℝ) ≤ 64⁻¹)) (EReal.coe_ne_top _)]

/-- A product of split factors, when both are real. -/
theorem dot_split {n : ℕ} (h w : Fin n → EReal) (hh : ∀ e, ∃ r : ℝ, h e = r) (hw : ∀ e, ∃ r : ℝ, w e = r) :
    ∑ e, h e * w e + ∑ e, (h e - h e) * w e + ∑ e, h e * (w e - w e) = ∑ e, h e * w e := by
  have h1 : ∀ e, h e - h e = 0 := fun e => sub_self_real _ (hh e)
  have h2 : ∀ e, w e - w e = 0 := fun e => sub_self_real _ (hw e)
  simp only [h1, h2, zero_mul, mul_zero, Finset.sum_const_zero, add_zero]

theorem sq_nonneg' (x : EReal) : 0 ≤ x * x := by
  induction x with
  | bot => simp
  | top => simp
  | coe r => exact_mod_cast mul_self_nonneg r

theorem rsqrt_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- An entry of a row over the row's root mean square is a real, whatever the row. -/
theorem unit_real (a : Fin 1024 → EReal) (e : Fin 1024) :
    ∃ r : ℝ, a e * Ideal.rsqrt (Ideal.div (∑ i : Fin 1024, a i * a i) (Ideal.ofBits .f32 0x44800000#32)
      + Ideal.ofBits .f32 0x358637BD#32) = r := by
  obtain ⟨ε, hε, hεe⟩ := cEps
  rw [c1024, div_real _ _ (by norm_num), hεe]
  by_cases h : ∀ i, ∃ r : ℝ, a i = r
  · choose α hα using h
    have hs : ∑ i : Fin 1024, a i * a i = ((∑ i : Fin 1024, α i * α i : ℝ) : EReal) := by
      rw [← FlashMath.sum_real]
      exact Finset.sum_congr rfl fun i _ => by rw [hα i, EReal.coe_mul]
    have hp : 0 < (∑ i : Fin 1024, α i * α i) * (1024 : ℝ)⁻¹ + ε :=
      add_pos_of_nonneg_of_pos (mul_nonneg (Finset.sum_nonneg fun i _ => mul_self_nonneg _) (by norm_num)) hε
    rw [hs, hα e, ← EReal.coe_mul, ← EReal.coe_add]
    exact mul_real ⟨_, rfl⟩ ⟨_, rsqrt_pos hp⟩
  · obtain ⟨i, hi⟩ := not_forall.mp h
    have ht : a i * a i = ⊤ := by
      generalize a i = x at hi
      induction x with
      | bot => rfl
      | top => rfl
      | coe r => exact absurd ⟨r, rfl⟩ hi
    have hs : ∑ i : Fin 1024, a i * a i = ⊤ :=
      top_le_iff.mp (ht ▸ Finset.single_le_sum (f := fun i => a i * a i) (fun j _ => sq_nonneg' (a j)) (Finset.mem_univ i))
    rw [hs, EReal.top_mul_coe_of_pos (by norm_num), EReal.top_add_coe]
    exact ⟨0, by show a e * 0 = _; rw [mul_zero, EReal.coe_zero]⟩

end Cert.OutMath

end
-- ==== Proof.OutBlock.lean ====
module

public import proofs.«01_k».proof.Proof.OutEntry
public import proofs.«01_k».proof.Proof.OutRef
public import proofs.«01_k».proof.Proof.OutMath

/-! The out-projection call's blocks against the reference's arrays. -/

@[expose] public section

set_option maxRecDepth 16384

noncomputable section

namespace Cert.Kernel4Ideal.Out

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The arguments, by what they hold. -/
abbrev aC (c : Dev nD) : FVec Ideal S16384x256 .f32 := m ((c.tc : Thread nD τ).loc main_arg0)
abbrev aM (c : Dev nD) : FVec Ideal S16384x256 .f32 := m ((c.tc : Thread nD τ).loc main_arg1)
abbrev aA (c : Dev nD) : FVec Ideal S16384x256 .f32 := m ((c.tc : Thread nD τ).loc main_arg2)
abbrev aF (c : Dev nD) : FVec Ideal S16384x256 .f32 := m ((c.tc : Thread nD τ).loc main_arg3)
abbrev aB (c : Dev nD) : FVec Ideal S16384x256 .f32 := m ((c.tc : Thread nD τ).loc main_arg4)
abbrev aZ (c : Dev nD) : FVec Ideal S16384x2944 .f32 := m ((c.tc : Thread nD τ).loc main_arg5)
abbrev aL (c : Dev nD) : FVec Ideal S2x256 .f32 := m ((c.tc : Thread nD τ).loc main_arg6)
abbrev aW (c : Dev nD) : FVec Ideal S2x1024x1024 .f32 := m ((c.tc : Thread nD τ).loc main_arg7)
abbrev aX (c : Dev nD) : FVec Ideal S16384x1024 .f32 := m ((c.tc : Thread nD τ).loc main_arg8)
abbrev aG (c : Dev nD) : FVec Ideal S1x1024 .f32 := m ((c.tc : Thread nD τ).loc main_arg9)
abbrev aN (c : Dev nD) : FVec Ideal S2x1024 .f32 := m ((c.tc : Thread nD τ).loc main_arg10)
abbrev aSh (c : Dev nD) : FVec Ideal S1x1024 .f32 := m ((c.tc : Thread nD τ).loc main_arg11)
abbrev aSc (c : Dev nD) : FVec Ideal S1x1024 .f32 := m ((c.tc : Thread nD τ).loc main_arg12)
abbrev aR (c : Dev nD) : FVec Ideal S2x1024x16 .f32 := m ((c.tc : Thread nD τ).loc main_arg13)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 10] ∧ win0_6.index t = ![0, 0]
    ∧ win0_7.index t = ![0, 0] ∧ win0_8.index t = ![t.val, 0] ∧ win0_9.index t = ![0, 0] ∧ win0_10.index t = ![0, 0]
    ∧ win0_11.index t = ![0, 0] ∧ win0_12.index t = ![0, 0] ∧ win0_13.index t = ![0, 0]
    ∧ win0_14.index t = ![t.val, 0] ∧ win0_15.index t = ![t.val, 0] ∧ win0_16.index t = ![0, t.val] :=
  (by decide +kernel : ∀ t : Fin grid0.N, _)

theorem lt32 (t : Fin cfg0.N) : t.val < 32 := lt_of_lt_of_eq t.isLt N_0

/-- The place of a block's row in the array. -/
def at_ (t : Fin cfg0.N) (r : Fin 512) : Fin 16384 := ⟨t.val * 512 + r.val, by have := lt32 t; omega⟩

theorem rd0 (c : Dev nD) (t : Fin cfg0.N) (r : Fin 512) (e : Fin 256) : iblk m c 0 t (ix2 r e) = aC m c (ix2 (at_ t r) e) := by
  unfold at_
  blk_point [iblk, V, idx t]

theorem rd1 (c : Dev nD) (t : Fin cfg0.N) (r : Fin 512) (e : Fin 256) : iblk m c 1 t (ix2 r e) = aM m c (ix2 (at_ t r) e) := by
  unfold at_
  blk_point [iblk, V, idx t]

theorem rd2 (c : Dev nD) (t : Fin cfg0.N) (r : Fin 512) (e : Fin 256) : iblk m c 2 t (ix2 r e) = aA m c (ix2 (at_ t r) e) := by
  unfold at_
  blk_point [iblk, V, idx t]

theorem rd3 (c : Dev nD) (t : Fin cfg0.N) (r : Fin 512) (e : Fin 256) : iblk m c 3 t (ix2 r e) = aF m c (ix2 (at_ t r) e) := by
  unfold at_
  blk_point [iblk, V, idx t]

theorem rd4 (c : Dev nD) (t : Fin cfg0.N) (r : Fin 512) (e : Fin 256) : iblk m c 4 t (ix2 r e) = aB m c (ix2 (at_ t r) e) := by
  unfold at_
  blk_point [iblk, V, idx t]

theorem rd5 (c : Dev nD) (t : Fin cfg0.N) (r : Fin 512) (e : Fin 256) :
    X0_5 m c t (ix2 r e) = aZ m c (ix2 (at_ t r) ⟨2560 + e.val, by omega⟩) := by
  unfold at_ X0_5 Pipeline.Window.fill
  rw [dif_pos (moved0_5 t _)]
  blk_point [iblk, V, idx t]

theorem rd8 (c : Dev nD) (t : Fin cfg0.N) (r : Fin 512) (e : Fin 1024) : iblk m c 8 t (ix2 r e) = aX m c (ix2 (at_ t r) e) := by
  unfold at_
  blk_point [iblk, V, idx t]

theorem rd9 (c : Dev nD) (t : Fin cfg0.N) (e : Fin 1024) : iblk m c 9 t (ix2 0 e) = aG m c (ix2 0 e) := by
  blk_point [iblk, V, idx t]

theorem rd11 (c : Dev nD) (t : Fin cfg0.N) (e : Fin 1024) : iblk m c 11 t (ix2 0 e) = aSh m c (ix2 0 e) := by
  blk_point [iblk, V, idx t]

theorem rd12 (c : Dev nD) (t : Fin cfg0.N) (e : Fin 1024) : iblk m c 12 t (ix2 0 e) = aSc m c (ix2 0 e) := by
  blk_point [iblk, V, idx t]

/-- The rows the host prepares. -/
theorem headGain_eq (c : Dev nD) : V m c main_v8
    = shapeCast S1x256 (shapeCast S256 (extractStridedSlice S1x256 ![1, 0] (aL m c) slices_S2x256_S1x256_1_0) shapeCasts_S1x256_S256)
        shapeCasts_S256_S1x256 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

theorem gain_eq (c : Dev nD) : V m c main_v11
    = shapeCast S1x1024 (shapeCast S1024 (extractStridedSlice S1x1024 ![1, 0] (aN m c) slices_S2x1024_S1x1024_1_0) shapeCasts_S1x1024_S1024)
        shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

/-- The weights the host prepares. -/
theorem weights_eq (c : Dev nD) : V m c main_v2
    = truncf .bf16 (shapeCast S1024x1024 (extractStridedSlice S1x1024x1024 ![1, 0, 0] (aW m c) slices_S2x1024x1024_S1x1024x1024_1_0_0)
        shapeCasts_S1x1024x1024_S1024x1024) bitsLt_bf16_f32 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

/-- The padded router the host prepares. -/
theorem router_eq (c : Dev nD) : V m c main_v5
    = pad S1024x128 ![0, 0] ![0, 112] ![0, 0] (shapeCast S1024x16 (extractStridedSlice S1x1024x16 ![1, 0, 0] (aR m c)
        slices_S2x1024x16_S1x1024x16_1_0_0) shapeCasts_S1x1024x16_S1024x16) (sitofp .f32 (constantI S_ 32 0#32))
        pads_S1024x16_S1024x128_000_01120 h_S_ := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  all_goals rfl

theorem rd6 (c : Dev nD) (t : Fin cfg0.N) (e : Fin 256) : iblk m c 6 t (ix2 0 e) = aL m c (ix2 1 e) := by
  have h : iblk m c 6 t (ix2 0 e) = V m c main_v8 (ix2 0 e) := by
    blk_point [iblk, idx t]
  rw [h, headGain_eq]
  pointwise []

theorem rd10 (c : Dev nD) (t : Fin cfg0.N) (e : Fin 1024) : iblk m c 10 t (ix2 0 e) = aN m c (ix2 1 e) := by
  have h : iblk m c 10 t (ix2 0 e) = V m c main_v11 (ix2 0 e) := by
    blk_point [iblk, idx t]
  rw [h, gain_eq]
  pointwise []

theorem rd7 (c : Dev nD) (t : Fin cfg0.N) (k e : Fin 1024) : iblk m c 7 t (ix2 k e) = aW m c (ix3 1 k e) := by
  have h : iblk m c 7 t (ix2 k e) = V m c main_v2 (ix2 k e) := by
    blk_point [iblk, idx t]
  rw [h, weights_eq]
  pointwise []

theorem rd13 (c : Dev nD) (t : Fin cfg0.N) (e : Fin 1024) (j : Fin 16) :
    iblk m c 13 t (ix2 e ⟨j.val, by omega⟩) = aR m c (ix3 1 e j) := by
  have h : iblk m c 13 t (ix2 e ⟨j.val, by omega⟩) = V m c main_v5 (ix2 e ⟨j.val, by omega⟩) := by
    blk_point [iblk, idx t]
  rw [h, router_eq]
  pointwise []

/-- The rows of the weights that go with one part. -/
def rows (B : FVec Ideal S1024x1024 .bf16) : ℕ → FVec Ideal S256x1024 .bf16
  | 0 => View.ld (Val := Elt Ideal) (e' := .bf16) B (Rect.unit ![0, 0] ![256, 1024] inb_S1024x1024_S256x1024_0_0)
  | 1 => View.ld (Val := Elt Ideal) (e' := .bf16) B (Rect.unit ![256, 0] ![256, 1024] inb_S1024x1024_S256x1024_256_0)
  | 2 => View.ld (Val := Elt Ideal) (e' := .bf16) B (Rect.unit ![512, 0] ![256, 1024] inb_S1024x1024_S256x1024_512_0)
  | _ => View.ld (Val := Elt Ideal) (e' := .bf16) B (Rect.unit ![768, 0] ![256, 1024] inb_S1024x1024_S256x1024_768_0)

theorem rows_apply (B : FVec Ideal S1024x1024 .bf16) (j : Fin 4) (k : Fin 256) (e : Fin 1024) :
    rows B j.val (ix2 k e) = B (ix2 ⟨j.val * 256 + k.val, by omega⟩ e) := by
  fin_cases j
  all_goals pointwise [rows]

/-- The first block of results. -/
def blk0 (c : Dev nD) (t : Fin cfg0.N) : FVec Ideal S512x1024 .f32 :=
  k0_pay4 (F := Ideal) (k0_pay2 (X0_5 m c t)) (k0_pay3 (iblk m c 3 t) (iblk m c 4 t)) (iblk m c 6 t) (iblk m c 0 t) (iblk m c 1 t)
    (iblk m c 2 t) (rows (iblk m c 7 t) 0) (rows (iblk m c 7 t) 1) (rows (iblk m c 7 t) 2) (rows (iblk m c 7 t) 3) (iblk m c 8 t) (iblk m c 9 t)

/-- The second, before its cast. -/
def blk1 (c : Dev nD) (t : Fin cfg0.N) : FVec Ideal S512x1024 .f32 :=
  k0_pay5 (F := Ideal) (blk0 m c t) (iblk m c 10 t) (iblk m c 12 t) (iblk m c 11 t)

/-- The router's scores. -/
def blkL (c : Dev nD) (t : Fin cfg0.N) : FVec Ideal S512x128 .f32 :=
  k0_pay7 (F := Ideal) (blk0 m c t) (iblk m c 10 t) (iblk m c 12 t) (iblk m c 11 t) (iblk m c 13 t)

theorem outs0 (c : Dev nD) (t : Fin cfg0.N) : (outsAt0 m c t).1 = blk0 m c t := by
  unfold outsAt0
  frame_out
  rfl

theorem outs1 (c : Dev nD) (t : Fin cfg0.N) : (outsAt0 m c t).2.1 = truncf .bf16 (blk1 m c t) bitsLt_bf16_f32 := by
  unfold outsAt0
  frame_out
  rfl

theorem outs2 (c : Dev nD) (t : Fin cfg0.N) : (outsAt0 m c t).2.2 = k0_pay1 (F := Ideal) (blkL m c t) := by
  unfold outsAt0
  frame_out
  rfl

/-- The reference's arrays, of the arguments. -/
def whole0 (c : Dev nD) : FVec Ideal S16384x1024 .f32 :=
  Cert.Reference4Ideal.Out.out0 (aC m c) (aM m c) (aA m c) (aF m c) (aB m c) (aZ m c) (aL m c) (aW m c) (aX m c) (aG m c)

def whole1 (c : Dev nD) : FVec Ideal S16384x1024 .f32 :=
  Cert.Reference4Ideal.Out.out1 (whole0 m c) (aN m c) (aSh m c) (aSc m c)

def whole2 (c : Dev nD) : FVec Ideal S16x16384 .f32 := Cert.Reference4Ideal.Out.out2 (whole1 m c) (aR m c)

section
variable (c : Dev nD) (hF : ∀ i, ∃ r : ℝ, aF m c i = r) (hB : ∀ i, ∃ r : ℝ, aB m c i = r)
include hF hB

theorem heads (t : Fin cfg0.N) (r : Fin 512) (e : Fin 256) :
    k0_pay3 (F := Ideal) (iblk m c 3 t) (iblk m c 4 t) (ix2 r e) = addf (aF m c) (aB m c) (ix2 (at_ t r) e)
      * Cert.Reference4Ideal.Out.headInv (addf (aF m c) (aB m c)) (ix3 (at_ t r) ⟨e.val / 64, by omega⟩ 0) := by
  have hs : ∀ k : Fin 256, addf (iblk m c 3 t) (iblk m c 4 t) (ix2 r k) = addf (aF m c) (aB m c) (ix2 (at_ t r) k) := fun k =>
    congrArg₂ (fun x y : EReal => x + y) (rd3 m c t r k) (rd4 m c t r k)
  have hq : ∀ k : Fin 256, mulf (addf (iblk m c 3 t) (iblk m c 4 t)) (addf (iblk m c 3 t) (iblk m c 4 t)) (ix2 r k)
      = addf (aF m c) (aB m c) (ix2 (at_ t r) k) * addf (aF m c) (aB m c) (ix2 (at_ t r) k) := fun k => by
    rw [← hs k]; rfl
  have hr : ∀ k : Fin 256, ∃ ρ : ℝ, addf (aF m c) (aB m c) (ix2 (at_ t r) k) = ρ := fun k => OutMath.add_real (hF _) (hB _)
  rw [pay3_eq, normed_apply, split3_apply, hs e]
  simp only [hq, headMat_apply]
  rw [OutMath.mean_split (fun k => addf (aF m c) (aB m c) (ix2 (at_ t r) k) * addf (aF m c) (aB m c) (ix2 (at_ t r) k))
    (fun k => OutMath.mul_real (hr k) (hr k)) e, Cert.Reference4Ideal.Out.headInv_apply]

theorem blk0_apply (t : Fin cfg0.N) (r : Fin 512) (e : Fin 1024) : blk0 m c t (ix2 r e) = whole0 m c (ix2 (at_ t r) e) := by
  unfold blk0 whole0 Cert.Reference4Ideal.Out.out0
  rw [pay4_apply, Cert.Reference4Ideal.Out.resid_apply, rd8, rd9, Fin.sum_univ_tiles 4 256 rfl, Fin.sum_univ_four]
  simp only [Cert.Reference4Ideal.Out.joined_apply, rd0, rd1, rd2, rd6, heads m c hF hB, pay2_apply, rd5]
  refine congrArg (fun z => aX m c (ix2 (at_ t r) e) + aG m c (ix2 0 e) * z) ?_
  refine congrArg₂ (· + ·) (congrArg₂ (· + ·) (congrArg₂ (· + ·) ?_ ?_) ?_) ?_
  · refine Finset.sum_congr rfl fun k _ => congrArg₂ (· * ·) rfl ?_
    exact (rows_apply _ 0 k e).trans (rd7 m c t _ e)
  · refine Finset.sum_congr rfl fun k _ => congrArg₂ (· * ·) rfl ?_
    exact (rows_apply _ 1 k e).trans (rd7 m c t _ e)
  · refine Finset.sum_congr rfl fun k _ => congrArg₂ (· * ·) rfl ?_
    exact (rows_apply _ 2 k e).trans (rd7 m c t _ e)
  · refine Finset.sum_congr rfl fun k _ => congrArg₂ (· * ·) ?_ ?_
    · exact (Cert.Reference4Ideal.Out.gated_apply _ _ _ _ (at_ t r) k).symm
    · exact (rows_apply _ 3 k e).trans (rd7 m c t _ e)

theorem blk1_apply (t : Fin cfg0.N) (r : Fin 512) (e : Fin 1024) : blk1 m c t (ix2 r e) = whole1 m c (ix2 (at_ t r) e) := by
  unfold blk1 whole1 Cert.Reference4Ideal.Out.out1
  rw [pay5_apply, Cert.Reference4Ideal.Out.hid_apply, Cert.Reference4Ideal.Out.rms_apply, rd10, rd11, rd12]
  simp only [blk0_apply m c hF hB]
  rfl

theorem final14 : (dats m 0 c).arrAt 14 cfg0.N = whole0 m c := by
  refine (dats m 0 c).arrAt_eq_of_covers 14 _ (by decide +kernel) fun t hf y => ?_
  blk_simp
  rw [after0_14, outs0]
  obtain ⟨r, e, rfl⟩ : ∃ (r : Fin 512) (e : Fin 1024), y = ix2 r e := ⟨y 0, y 1, by blk_ext⟩
  rw [blk0_apply m c hF hB]
  refine congrArg (whole0 m c) ?_
  unfold at_
  blk_ext [idx t]

theorem final15 : (dats m 0 c).arrAt 15 cfg0.N = (truncf .bf16 (whole1 m c) bitsLt_bf16_f32 : FVec Ideal S16384x1024 .bf16) := by
  refine (dats m 0 c).arrAt_eq_of_covers 15 _ (by decide +kernel) fun t hf y => ?_
  blk_simp
  rw [after0_15, outs1]
  obtain ⟨r, e, rfl⟩ : ∃ (r : Fin 512) (e : Fin 1024), y = ix2 r e := ⟨y 0, y 1, by blk_ext⟩
  refine (blk1_apply m c hF hB t r e).trans (congrArg (whole1 m c) ?_)
  unfold at_
  blk_ext [idx t]

variable (hN : ∀ i, ∃ r : ℝ, aN m c i = r) (hSh : ∀ i, ∃ r : ℝ, aSh m c i = r) (hSc : ∀ i, ∃ r : ℝ, aSc m c i = r)
  (hR : ∀ i, ∃ r : ℝ, aR m c i = r)
include hN hSh hSc hR

omit hF hB hR in
theorem whole1_real (r : Fin 16384) (e : Fin 1024) : ∃ ρ : ℝ, whole1 m c (ix2 r e) = ρ := by
  unfold whole1 Cert.Reference4Ideal.Out.out1
  rw [Cert.Reference4Ideal.Out.hid_apply, Cert.Reference4Ideal.Out.rms_apply]
  exact OutMath.add_real (OutMath.mul_real (OutMath.mul_real (OutMath.unit_real (fun i => whole0 m c (ix2 r i)) e) (hN _))
    (OutMath.add_real ⟨1, rfl⟩ (hSc _))) (hSh _)

theorem score (t : Fin cfg0.N) (r : Fin 512) (j : Fin 16) :
    turned (blkL m c t) (ix2 j r) = Cert.Reference4Ideal.Out.logits (whole1 m c) (aR m c) (ix2 (at_ t r) j) := by
  rw [turned_apply, Cert.Reference4Ideal.Out.logits_apply]
  unfold blkL
  rw [pay7_eq, split2_apply]
  have h : ∀ e : Fin 1024, k0_pay5 (F := Ideal) (blk0 m c t) (iblk m c 10 t) (iblk m c 12 t) (iblk m c 11 t) (ix2 r e)
      = whole1 m c (ix2 (at_ t r) e) := blk1_apply m c hF hB t r
  simp only [h, rd13]
  exact OutMath.dot_split (fun e => whole1 m c (ix2 (at_ t r) e)) (fun e => aR m c (ix3 1 e j)) (whole1_real m c hN hSh hSc _) (fun e => hR _)

theorem final16 : (dats m 0 c).arrAt 16 cfg0.N = whole2 m c := by
  refine (dats m 0 c).arrAt_eq_of_covers 16 _ (by decide +kernel) fun t hf y => ?_
  blk_simp
  rw [after0_16, outs2]
  obtain ⟨j, r, rfl⟩ : ∃ (j : Fin 16) (r : Fin 512), y = ix2 j r := ⟨y 0, y 1, by blk_ext⟩
  have key : k0_pay1 (F := Ideal) (blkL m c t) (ix2 j r) = whole2 m c (ix2 j (at_ t r)) := by
    unfold whole2 Cert.Reference4Ideal.Out.out2
    rw [pay1_eq, share_apply, Cert.Reference4Ideal.Out.share_apply]
    have hb : max (Ideal.ofBits .f32 0xFF800000#32) (Finset.fold max (Ideal.ofBits .f32 0xFF800000#32)
        (fun j : Fin 16 => Cert.Reference4Ideal.Out.logits (whole1 m c) (aR m c) (ix2 (at_ t r) j)) Finset.univ)
        = Finset.fold max (Ideal.ofBits .f32 0xFF800000#32)
          (fun j : Fin 16 => Cert.Reference4Ideal.Out.logits (whole1 m c) (aR m c) (ix2 (at_ t r) j)) Finset.univ :=
      max_eq_right ((Finset.le_fold_max _).mpr (.inl le_rfl))
    simp only [expo_apply, Cert.Reference4Ideal.Out.expo_apply, top_apply, Cert.Reference4Ideal.Out.rowMax_apply,
      score m c hF hB hN hSh hSc hR, hb]
  rw [key]
  refine congrArg (whole2 m c) ?_
  unfold at_
  blk_ext [idx t]

end

end Cert.Kernel4Ideal.Out

end
-- ==== Proof.OutClaim.lean ====
module

public import proofs.«01_k».proof.Defs
public import proofs.«01_k».proof.Proof.OutBlock
public import proofs.«01_k».proof.Proof.FlashClaim
public import proofs.«01_k».proof.Proof.Gen.Kernel4.Frame
public import Idealize.ShloMosaic.Lib.Quiescent

/-! The out-projection call's claims. -/

@[expose] public section

set_option maxRecDepth 16384

noncomputable section

namespace Cert.OutClaim

open Idealize.ShloMosaic Idealize.ShloMosaic.TcCoe Idealize.SL.Sem
open Cert.FlashClaim (real_of_lt)

/-- The precondition's own shape facts. -/
instance preFacts : Cert.Pre_finite_router.Facts where
  bcast_S_S16384x256 := by decide
  bcast_S_S2x1024 := by decide
  bcast_S_S1x1024 := by decide
  bcast_S_S2x1024x16 := by decide

theorem quiescent_P : Cert.quiescent_Kernel4 := fun m ρ _ => Cert.Kernel4.Gen.frame m ρ

theorem quiescent_PI : Cert.quiescent_Kernel4Ideal := fun m ρ _ => Cert.Kernel4Ideal.Gen.frame m ρ

theorem quiescent_PI_pre : Cert.quiescent_Kernel4Ideal_pre_finite_router := fun m ρ _ => Cert.Kernel4Ideal.Gen.frame m ρ

theorem quiescent_RI : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

theorem quiescent_RI_pre : Cert.quiescent_Reference4Ideal_pre_finite_router := fun m ρ _ =>
  (θ_run Cert.Reference4Ideal.defs _ _).mono (fun r h => ⟨fun c => (h c).2.2.2, sem_eq_zero_of_no_sems (by decide) r.2⟩)
    (Cert.Reference4Ideal.Value.run m ρ)

section
variable (m : (ℓ : Loc Cert.Kernel4Ideal.nD Cert.Kernel4Ideal.τ Cert.Kernel4Ideal.sig) → Buf (Elt Ideal) ℓ)
  (hpre : Cert.Pre_Kernel4Ideal_finite_router m) (c : Dev Cert.Kernel4Ideal.nD)
include hpre

theorem fin14 : (Cert.Kernel4Ideal.Gen.dats m 0 c).arrAt 14 Cert.Kernel4Ideal.cfg0.N = Cert.Kernel4Ideal.Out.whole0 m c :=
  Cert.Kernel4Ideal.Out.final14 m c (fun j => real_of_lt _ (congrFun (hpre c).1 j)) (fun j => real_of_lt _ (congrFun (hpre c).2.1 j))

theorem fin15 : (Cert.Kernel4Ideal.Gen.dats m 0 c).arrAt 15 Cert.Kernel4Ideal.cfg0.N
    = (truncf .bf16 (Cert.Kernel4Ideal.Out.whole1 m c) (by decide) : FVec Ideal Cert.Kernel4Ideal.S16384x1024 .bf16) :=
  Cert.Kernel4Ideal.Out.final15 m c (fun j => real_of_lt _ (congrFun (hpre c).1 j)) (fun j => real_of_lt _ (congrFun (hpre c).2.1 j))

theorem fin16 : (Cert.Kernel4Ideal.Gen.dats m 0 c).arrAt 16 Cert.Kernel4Ideal.cfg0.N = Cert.Kernel4Ideal.Out.whole2 m c :=
  Cert.Kernel4Ideal.Out.final16 m c (fun j => real_of_lt _ (congrFun (hpre c).1 j)) (fun j => real_of_lt _ (congrFun (hpre c).2.1 j))
    (fun j => real_of_lt _ (congrFun (hpre c).2.2.1 j)) (fun j => real_of_lt _ (congrFun (hpre c).2.2.2.1 j))
    (fun j => real_of_lt _ (congrFun (hpre c).2.2.2.2.1 j)) (fun j => real_of_lt _ (congrFun (hpre c).2.2.2.2.2 j))

end

theorem algebraic : Cert.algebraic_Kernel4Ideal_Reference4Ideal_pre_finite_router := fun m ρ m' ρ' hpre hag =>
  ⟨fun c => Cert.Kernel4Ideal.Out.whole0 m c, fun c => (truncf .bf16 (Cert.Kernel4Ideal.Out.whole1 m c) (by decide) : FVec Ideal Cert.Kernel4Ideal.S16384x1024 .bf16),
    fun c => Cert.Kernel4Ideal.Out.whole2 m c,
    (θ_run Cert.Kernel4Ideal.defs _ _).mono (fun _ h c => ⟨(h c).1.trans (fin14 m hpre c), (h c).2.1.trans (fin15 m hpre c),
        (h c).2.2.1.trans (fin16 m hpre c), (h c).2.2.2⟩) (Cert.Kernel4Ideal.Value.run_blocks m ρ),
    (θ_run Cert.Reference4Ideal.defs _ _).mono (fun _ h c => by
        obtain ⟨h0, h1, h2, h3, h4, h5, h6, h7, h8, h9, h10, h11, h12, h13⟩ := hag c
        have e0 : Cert.Reference4Ideal.Out.first m' c = Cert.Kernel4Ideal.Out.whole0 m c := by
          unfold Cert.Reference4Ideal.Out.first
          rw [h0, h1, h2, h3, h4, h5, h6, h7, h8, h9]
          rfl
        have e1 : Cert.Reference4Ideal.Out.second m' c = Cert.Kernel4Ideal.Out.whole1 m c := by
          unfold Cert.Reference4Ideal.Out.second
          rw [e0, h10, h11, h12]
          rfl
        refine ⟨(h c).1.trans e0, (h c).2.1.trans ?_, (h c).2.2.1.trans ?_, (h c).2.2.2⟩
        · exact (Cert.Reference4Ideal.Out.out1_eq m' c).trans (congrArg (fun a : FVec Ideal Cert.Kernel4Ideal.S16384x1024 .f32 =>
            (truncf .bf16 a (by decide) : FVec Ideal Cert.Kernel4Ideal.S16384x1024 .bf16)) e1)
        · refine (Cert.Reference4Ideal.Out.out2_eq m' c).trans ?_
          rw [e1, h13]
          rfl) (Cert.Reference4Ideal.Value.run m' ρ')⟩

end Cert.OutClaim

end
-- ==== Proof.FinalBlock.lean ====
module

public import proofs.«01_k».proof.Proof.Gen.Kernel5Ideal.Value
public import Idealize.ShloMosaic.Lib.Pipeline.ValueKit
public import Idealize.ShloMosaic.Lib.Pointwise

/-! The final norm's block: its entries, and the array they make up. -/

@[expose] public section

set_option maxRecDepth 16384

noncomputable section

namespace Cert.Kernel5Ideal.Final

open Idealize.ShloMosaic Idealize.ShloMosaic.TcCoe Idealize.SL.Sem
open Idealize.ShloMosaic.Pipeline (Dat)
open Cert.Kernel5Ideal Cert.Kernel5Ideal.Gen

/-- One over the root mean square of a row. -/
def rms (a : Fin 1024 → EReal) : EReal :=
  Ideal.rsqrt (Ideal.div (∑ e : Fin 1024, a e * a e) (Ideal.ofBits .f32 0x44800000#32) + Ideal.ofBits .f32 0x358637BD#32)

theorem pay1_apply (x : FVec Ideal S512x1024 .f32) (g : FVec Ideal S1x1024 .f32) (y : FVec Ideal S512x1024 .f32) (n : FVec Ideal S1x1024 .f32)
    (r : Fin 512) (e : Fin 1024) :
    k0_pay1 (F := Ideal) x g y n (ix2 r e) = (x (ix2 r e) + g (ix2 0 e) * y (ix2 r e))
      * rms (fun i => x (ix2 r i) + g (ix2 0 i) * y (ix2 r i)) * n (ix2 0 e) := by
  unfold rms
  pointwise [k0_pay1]

variable (m : (ℓ : Loc nD τ sig) → Buf (Elt Ideal) ℓ)

/-- The arguments, by what they hold. -/
abbrev aX (c : Dev nD) : FVec Ideal S16384x1024 .f32 := m ((c.tc : Thread nD τ).loc main_arg0)
abbrev aY (c : Dev nD) : FVec Ideal S16384x1024 .f32 := m ((c.tc : Thread nD τ).loc main_arg1)
abbrev aG (c : Dev nD) : FVec Ideal S1x1024 .f32 := m ((c.tc : Thread nD τ).loc main_arg2)
abbrev aN (c : Dev nD) : FVec Ideal S1024 .f32 := m ((c.tc : Thread nD τ).loc main_arg3)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem lt32 (t : Fin cfg0.N) : t.val < 32 := lt_of_lt_of_eq t.isLt N_0

theorem rd0 (c : Dev nD) (t : Fin cfg0.N) (r : Fin 512) (e : Fin 1024) :
    iblk m c 0 t (ix2 r e) = aX m c (ix2 ⟨t.val * 512 + r.val, by have := lt32 t; omega⟩ e) := by
  have ht := lt32 t
  blk_point [iblk, V, idx t]

theorem rd1 (c : Dev nD) (t : Fin cfg0.N) (r : Fin 512) (e : Fin 1024) :
    iblk m c 1 t (ix2 r e) = aY m c (ix2 ⟨t.val * 512 + r.val, by have := lt32 t; omega⟩ e) := by
  have ht := lt32 t
  blk_point [iblk, V, idx t]

theorem rd2 (c : Dev nD) (t : Fin cfg0.N) (e : Fin 1024) : iblk m c 2 t (ix2 0 e) = aG m c (ix2 0 e) := by
  blk_point [iblk, V, idx t]

/-- The gain row the host prepares. -/
theorem gain_eq (c : Dev nD) : V m c main_v0 = shapeCast S1x1024 (aN m c) shapeCasts_S1024_S1x1024 := by
  entry_read
  rfl

theorem rd3 (c : Dev nD) (t : Fin cfg0.N) (e : Fin 1024) : iblk m c 3 t (ix2 0 e) = aN m c (ix1 e) := by
  have h : iblk m c 3 t (ix2 0 e) = V m c main_v0 (ix2 0 e) := by
    blk_point [iblk, idx t]
  rw [h, gain_eq]
  pointwise []

/-- The residual sum. -/
def resid (c : Dev nD) : FVec Ideal S16384x1024 .f32 := fun j => aX m c j + aG m c (ix2 0 (j 1)) * aY m c j

/-- The rows of the residual sum, normalised and scaled. -/
def whole (c : Dev nD) : FVec Ideal S16384x1024 .f32 := fun j =>
  resid m c j * rms (fun i => resid m c (ix2 (j 0) i)) * aN m c (ix1 (j 1))

theorem final4 (c : Dev nD) : (dats m 0 c).arrAt 4 cfg0.N = whole m c := by
  refine (dats m 0 c).arrAt_eq_of_covers 4 _ (by decide +kernel) fun t hf y => ?_
  have ht := lt32 t
  blk_simp
  rw [after0_4]
  frame_out
  obtain ⟨r, e, rfl⟩ : ∃ (r : Fin 512) (e : Fin 1024), y = ix2 r e := ⟨y 0, y 1, by blk_ext⟩
  have key : k0_pay1 (F := Ideal) (iblk m c 0 t) (iblk m c 2 t) (iblk m c 1 t) (iblk m c 3 t) (ix2 r e)
      = whole m c (ix2 ⟨t.val * 512 + r.val, by omega⟩ e) := by
    rw [pay1_apply]
    simp only [rd0, rd1, rd2, rd3]
    rfl
  rw [key]
  refine congrArg (whole m c) ?_
  blk_ext [idx t]

end Cert.Kernel5Ideal.Final

end
-- ==== Proof.FinalClaim.lean ====
module

public import proofs.«01_k».proof.Defs
public import proofs.«01_k».proof.Proof.FinalBlock
public import proofs.«01_k».proof.Proof.Gen.Kernel5.Frame
public import proofs.«01_k».proof.Proof.Gen.Reference5Ideal.Run
public import Idealize.ShloMosaic.Lib.Quiescent

/-! The final norm's reference, entry by entry, and its claims. -/

@[expose] public section

set_option maxRecDepth 16384

noncomputable section

namespace Cert.Reference5Ideal.Final

open Idealize.ShloMosaic Idealize.ShloMosaic.TcCoe Idealize.SL.Sem
open Cert.Reference5Ideal Cert.Reference5Ideal.Gen Cert.Reference5Ideal.Value

/-- The residual sum. -/
def resid (x y : FVec Ideal S16384x1024 .f32) (g : FVec Ideal S1x1024 .f32) : FVec Ideal S16384x1024 .f32 :=
  addf x (mulf (broadcastInDim S16384x1024 ![0, 1] bcast_S1x1024_S16384x1024_0_1 g) y)

/-- The rows normalised and scaled. -/
def norm (a : FVec Ideal S16384x1024 .f32) (n : FVec Ideal S1024 .f32) : FVec Ideal S16384x1024 .f32 :=
  mulf (mulf a (broadcastInDim S16384x1024 ![0, 1] bcast_S16384x1_S16384x1024_0_1
      (Host.rsqrt (addf (Host.divf (broadcastInDim S16384x1 ![0] bcast_S16384_S16384x1_0
        (Host.reduceAdd (mulf a a) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 n))

theorem resid_apply (x y : FVec Ideal S16384x1024 .f32) (g : FVec Ideal S1x1024 .f32) (r : Fin 16384) (e : Fin 1024) :
    resid x y g (ix2 r e) = x (ix2 r e) + g (ix2 0 e) * y (ix2 r e) := by
  pointwise [resid]

theorem norm_apply (a : FVec Ideal S16384x1024 .f32) (n : FVec Ideal S1024 .f32) (r : Fin 16384) (e : Fin 1024) :
    norm a n (ix2 r e) = a (ix2 r e) * Ideal.rsqrt (Ideal.div (∑ i : Fin 1024, a (ix2 r i) * a (ix2 r i)) (Ideal.ofBits .f32 0x44800000#32)
      + Ideal.ofBits .f32 0x358637BD#32) * n (ix1 e) := by
  pointwise [norm]

end Cert.Reference5Ideal.Final

namespace Cert.FinalClaim

open Idealize.ShloMosaic Idealize.ShloMosaic.TcCoe Idealize.SL.Sem

theorem quiescent_P : Cert.quiescent_Kernel5 := fun m ρ _ => Cert.Kernel5.Gen.frame m ρ

theorem quiescent_PI : Cert.quiescent_Kernel5Ideal := fun m ρ _ => Cert.Kernel5Ideal.Gen.frame m ρ

theorem quiescent_RI : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem whole_eq (m : (ℓ : Loc Cert.Kernel5Ideal.nD Cert.Kernel5Ideal.τ Cert.Kernel5Ideal.sig) → Buf (Elt Ideal) ℓ)
    (c : Dev Cert.Kernel5Ideal.nD) :
    Cert.Kernel5Ideal.Final.whole m c = Cert.Reference5Ideal.Final.norm (Cert.Reference5Ideal.Final.resid (Cert.Kernel5Ideal.Final.aX m c)
      (Cert.Kernel5Ideal.Final.aY m c) (Cert.Kernel5Ideal.Final.aG m c)) (Cert.Kernel5Ideal.Final.aN m c) := by
  funext j
  obtain ⟨r, e, rfl⟩ : ∃ (r : Fin 16384) (e : Fin 1024), j = ix2 r e := ⟨j 0, j 1, by funext a; fin_cases a <;> rfl⟩
  rw [Cert.Reference5Ideal.Final.norm_apply]
  simp only [Cert.Reference5Ideal.Final.resid_apply]
  rfl

theorem algebraic : Cert.algebraic_Kernel5Ideal_Reference5Ideal := fun m ρ m' ρ' _ hag =>
  ⟨fun c => Cert.Kernel5Ideal.Final.whole m c,
    (θ_run Cert.Kernel5Ideal.defs _ _).mono (fun _ h c => ⟨(h c).1.trans (Cert.Kernel5Ideal.Final.final4 m c), (h c).2⟩)
      (Cert.Kernel5Ideal.Value.run_blocks m ρ),
    (θ_run Cert.Reference5Ideal.defs _ _).mono (fun _ h c => ⟨(h c).1.trans (by
        obtain ⟨h0, h1, h2, h3⟩ := hag c
        rw [h0, h1, h2, h3]
        exact (whole_eq m c).symm), (h c).2⟩)
      (Cert.Reference5Ideal.Value.run m' ρ')⟩

end Cert.FinalClaim

end
-- ==== Proof.ModBlock.lean ====
module

public import proofs.«01_k».proof.Proof.Gen.Kernel6Ideal.Value
public import Idealize.ShloMosaic.Lib.Pipeline.ValueKit
public import Idealize.ShloMosaic.Lib.Pointwise

/-! The modulation call's block: its entries, and the array they make up. -/

@[expose] public section

set_option maxRecDepth 16384

noncomputable section

namespace Cert.Kernel6Ideal.Mod

open Idealize.ShloMosaic Idealize.ShloMosaic.TcCoe Idealize.SL.Sem
open Idealize.ShloMosaic.Pipeline (Dat)
open Cert.Kernel6Ideal Cert.Kernel6Ideal.Gen

/-- The sigmoid-weighted unit. -/
def silu (x : EReal) : EReal := x * Ideal.div 1 (1 + Ideal.exp (-x))

theorem pay1_apply (v : FVec Ideal S1024x2 .f32) (d : Fin 1024) (a : Fin 2) :
    k0_pay1 (F := Ideal) v (ix2 d a) = silu (v (ix2 d a)) := by
  unfold silu
  pointwise [k0_pay1]
  simp only [zero_sub]

theorem pay4_apply (v : FVec Ideal S1024x2 .f32) (w : FVec Ideal S1x1024x1536 .f32) (b : FVec Ideal S1x1x1536 .f32) (j : Fin 1536) :
    k0_pay4 (F := Ideal) v w b (ix3 0 0 j) = (∑ d : Fin 1024, w (ix3 0 d j) * silu (v (ix2 d 0))) + b (ix3 0 0 j) := by
  simp only [← pay1_apply]
  unfold k0_pay4
  generalize k0_pay1 (F := Ideal) v = s
  pointwise [k0_pay2, k0_pay3]

theorem pay5_apply (v : FVec Ideal S1024x2 .f32) (w : FVec Ideal S1x1024x1536 .f32) (b : FVec Ideal S1x1x1536 .f32) (j : Fin 1536) :
    k0_pay5 (F := Ideal) v w b (ix3 0 0 j) = (∑ d : Fin 1024, w (ix3 0 d j) * silu (v (ix2 d 1))) + b (ix3 0 0 j) := by
  simp only [← pay1_apply]
  unfold k0_pay5
  generalize k0_pay1 (F := Ideal) v = s
  pointwise [k0_pay2, k0_pay3]

variable (m : (ℓ : Loc nD τ sig) → Buf (Elt Ideal) ℓ)

/-- The arguments, by what they hold. -/
abbrev aC (c : Dev nD) : FVec Ideal S1x1024 .f32 := m ((c.tc : Thread nD τ).loc main_arg0)
abbrev aD (c : Dev nD) : FVec Ideal S1024 .f32 := m ((c.tc : Thread nD τ).loc main_arg1)
abbrev aW (c : Dev nD) : FVec Ideal S2x1024x6144 .f32 := m ((c.tc : Thread nD τ).loc main_arg2)
abbrev aB (c : Dev nD) : FVec Ideal S2x6144 .f32 := m ((c.tc : Thread nD τ).loc main_arg3)

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem lt8 (t : Fin cfg0.N) : t.val < 8 := lt_of_lt_of_eq t.isLt N_0

/-- The two conditioning rows, by number. -/
def cond (c : Dev nD) (a : Fin 2) (d : Fin 1024) : EReal := if a.val < 1 then aC m c (ix2 0 d) else aD m c (ix1 d)

/-- The host's two columns. -/
theorem cols_eq (c : Dev nD) : V m c main_v3
    = concatenate S1024x2 1 [⟨S1024x1, broadcastInDim S1024x1 ![0] bcast_S1024_S1024x1_0 (shapeCast S1024 (aC m c) shapeCasts_S1x1024_S1024)⟩,
        ⟨S1024x1, broadcastInDim S1024x1 ![0] bcast_S1024_S1024x1_0 (aD m c)⟩] concatenates_S1024x1_S1024x1_S1024x2_d1 := by
  entry_read
  all_goals rfl

/-- The host's bias, with a row axis. -/
theorem bias_eq (c : Dev nD) : V m c main_v4 = shapeCast S2x1x6144 (aB m c) shapeCasts_S2x6144_S2x1x6144 := by
  entry_read
  all_goals rfl

theorem rd0 (c : Dev nD) (t : Fin cfg0.N) (d : Fin 1024) (a : Fin 2) : iblk m c 0 t (ix2 d a) = cond m c a d := by
  have h : iblk m c 0 t (ix2 d a) = V m c main_v3 (ix2 d a) := by
    blk_point [iblk, idx t]
  rw [h, cols_eq]
  unfold cond
  pointwise []
  rfl

theorem rd1 (c : Dev nD) (t : Fin cfg0.N) (d : Fin 1024) (j : Fin 1536) :
    iblk m c 1 t (ix3 0 d j) = aW m c (ix3 ⟨t.val / 4, by have := lt8 t; omega⟩ d ⟨t.val % 4 * 1536 + j.val, by omega⟩) := by
  have ht := lt8 t
  blk_point [iblk, V, idx t]

theorem rd2 (c : Dev nD) (t : Fin cfg0.N) (j : Fin 1536) :
    iblk m c 2 t (ix3 0 0 j) = aB m c (ix2 ⟨t.val / 4, by have := lt8 t; omega⟩ ⟨t.val % 4 * 1536 + j.val, by omega⟩) := by
  have ht := lt8 t
  have h : iblk m c 2 t (ix3 0 0 j) = V m c main_v4 (ix3 ⟨t.val / 4, by omega⟩ 0 ⟨t.val % 4 * 1536 + j.val, by omega⟩) := by
    blk_point [iblk, idx t]
  rw [h, bias_eq]
  pointwise []

/-- The modulation rows. -/
def whole (c : Dev nD) : FVec Ideal S2x2x6144 .f32 := fun y =>
  (∑ d : Fin 1024, silu (cond m c (y 1) d) * aW m c (ix3 (y 0) d (y 2))) + aB m c (ix2 (y 0) (y 2))

theorem key4 (c : Dev nD) (t : Fin cfg0.N) (j : Fin 1536) :
    k0_pay4 (F := Ideal) (iblk m c 0 t) (iblk m c 1 t) (iblk m c 2 t) (ix3 0 0 j)
      = whole m c (ix3 ⟨t.val / 4, by have := lt8 t; omega⟩ 0 ⟨t.val % 4 * 1536 + j.val, by omega⟩) := by
  rw [pay4_apply]
  refine congrArg₂ (fun x y : EReal => x + y) (Finset.sum_congr rfl fun d _ => ?_) (rd2 m c t j)
  rw [rd0, rd1, mul_comm]
  rfl

theorem key5 (c : Dev nD) (t : Fin cfg0.N) (j : Fin 1536) :
    k0_pay5 (F := Ideal) (iblk m c 0 t) (iblk m c 1 t) (iblk m c 2 t) (ix3 0 0 j)
      = whole m c (ix3 ⟨t.val / 4, by have := lt8 t; omega⟩ 1 ⟨t.val % 4 * 1536 + j.val, by omega⟩) := by
  rw [pay5_apply]
  refine congrArg₂ (fun x y : EReal => x + y) (Finset.sum_congr rfl fun d _ => ?_) (rd2 m c t j)
  rw [rd0, rd1, mul_comm]
  rfl

theorem final3 (c : Dev nD) : (dats m 0 c).arrAt 3 cfg0.N = whole m c := by
  refine (dats m 0 c).arrAt_eq_of_covers 3 _ (by decide +kernel) fun t hf y => ?_
  have ht := lt8 t
  blk_simp
  rw [after0_3]
  frame_out
  canon_tiles x hx
  case piece0 =>
    obtain ⟨j, rfl⟩ : ∃ j : Fin 1536, x = ix3 0 0 j := ⟨x 2, by blk_ext⟩
    rw [key5]
    refine congrArg (whole m c) ?_
    blk_ext [idx t, hx0, hx1, hx2]
  case piece1 =>
    obtain ⟨j, rfl⟩ : ∃ j : Fin 1536, x = ix3 0 0 j := ⟨x 2, by blk_ext⟩
    rw [key4]
    refine congrArg (whole m c) ?_
    blk_ext [idx t, hx0, hx1, hx2]

end Cert.Kernel6Ideal.Mod

end
-- ==== Proof.ModRef.lean ====
module

public import proofs.«01_k».proof.Proof.Gen.Reference6Ideal.Run
public import Idealize.ShloMosaic.Lib.Pipeline.ValueKit
public import Idealize.ShloMosaic.Lib.Pointwise

/-! The entries of the modulation reference's result. -/

@[expose] public section

set_option maxRecDepth 16384

noncomputable section

namespace Cert.Reference6Ideal.Mod

open Idealize.ShloMosaic Idealize.ShloMosaic.TcCoe Idealize.SL.Sem
open Cert.Reference6Ideal Cert.Reference6Ideal.Gen Cert.Reference6Ideal.Value

/-- The sigmoid-weighted unit of the first conditioning row, and of the second. -/
def siluA (x : FVec Ideal S1x1024 .f32) : FVec Ideal S1x1024 .f32 :=
  mulf x (Host.divf (broadcastInDim S1x1024 ![] bcast_S_S1x1024 (constant S_ .f32 0x3F800000#32))
    (addf (broadcastInDim S1x1024 ![] bcast_S_S1x1024 (constant S_ .f32 0x3F800000#32)) (Host.exp (Host.negf x))))
def siluB (x : FVec Ideal S1024 .f32) : FVec Ideal S1024 .f32 :=
  mulf x (Host.divf (broadcastInDim S1024 ![] bcast_S_S1024 (constant S_ .f32 0x3F800000#32))
    (addf (broadcastInDim S1024 ![] bcast_S_S1024 (constant S_ .f32 0x3F800000#32)) (Host.exp (Host.negf x))))

/-- One row's modulation, from its weights and bias: the first row's, and the second's. -/
def rowA (s : FVec Ideal S1x1024 .f32) (w : FVec Ideal S1024x6144 .f32) (b : FVec Ideal S6144 .f32) : FVec Ideal S1x6144 .f32 :=
  addf (Host.dotGeneral dot_S1x1024_S1024x6144_S1x6144_1_0_0_1_n_n none s w) (broadcastInDim S1x6144 ![1] bcast_S6144_S1x6144_1 b)
def rowB (s : FVec Ideal S1024 .f32) (w : FVec Ideal S1024x6144 .f32) (b : FVec Ideal S6144 .f32) : FVec Ideal S1x6144 .f32 :=
  broadcastInDim S1x6144 ![1] bcast_S6144_S1x6144_1 (addf (Host.dotGeneral dot_S1024_S1024x6144_S6144_0_0_n_1_n_n none s w) b)

/-- The two rows of a layer. -/
def pair (a b : FVec Ideal S1x6144 .f32) : FVec Ideal S1x2x6144 .f32 :=
  broadcastInDim S1x2x6144 ![1, 2] bcast_S2x6144_S1x2x6144_1_2
    (concatenate S2x6144 0 [⟨S1x6144, a⟩, ⟨S1x6144, b⟩] concatenates_S1x6144_S1x6144_S2x6144_d0)

/-- The weights and the bias of each layer. -/
def w0 (w : FVec Ideal S2x1024x6144 .f32) : FVec Ideal S1024x6144 .f32 :=
  shapeCast _ (extractStridedSlice S1x1024x6144 ![0, 0, 0] w slices_S2x1024x6144_S1x1024x6144_0_0_0) shapeCasts_S1x1024x6144_S1024x6144
def w1 (w : FVec Ideal S2x1024x6144 .f32) : FVec Ideal S1024x6144 .f32 :=
  shapeCast _ (extractStridedSlice S1x1024x6144 ![1, 0, 0] w slices_S2x1024x6144_S1x1024x6144_1_0_0) shapeCasts_S1x1024x6144_S1024x6144
def b0 (b : FVec Ideal S2x6144 .f32) : FVec Ideal S6144 .f32 :=
  shapeCast _ (extractStridedSlice S1x6144 ![0, 0] b slices_S2x6144_S1x6144_0_0) shapeCasts_S1x6144_S6144
def b1 (b : FVec Ideal S2x6144 .f32) : FVec Ideal S6144 .f32 :=
  shapeCast _ (extractStridedSlice S1x6144 ![1, 0] b slices_S2x6144_S1x6144_1_0) shapeCasts_S1x6144_S6144

/-- The two layers together. -/
def both (a b : FVec Ideal S1x2x6144 .f32) : FVec Ideal S2x2x6144 .f32 :=
  concatenate S2x2x6144 0 [⟨S1x2x6144, a⟩, ⟨S1x2x6144, b⟩] concatenates_S1x2x6144_S1x2x6144_S2x2x6144_d0

/-- The result. -/
def out (x : FVec Ideal S1x1024 .f32) (y : FVec Ideal S1024 .f32) (w : FVec Ideal S2x1024x6144 .f32) (b : FVec Ideal S2x6144 .f32) :
    FVec Ideal S2x2x6144 .f32 :=
  both (pair (rowA (siluA x) (w0 w) (b0 b)) (rowB (siluB y) (w0 w) (b0 b)))
    (pair (rowA (siluA x) (w1 w) (b1 b)) (rowB (siluB y) (w1 w) (b1 b)))

theorem siluA_apply (x : FVec Ideal S1x1024 .f32) (d : Fin 1024) :
    siluA x (ix2 0 d) = x (ix2 0 d) * Ideal.div 1 (1 + Ideal.exp (-x (ix2 0 d))) := by
  pointwise [siluA]

theorem siluB_apply (x : FVec Ideal S1024 .f32) (d : Fin 1024) :
    siluB x (ix1 d) = x (ix1 d) * Ideal.div 1 (1 + Ideal.exp (-x (ix1 d))) := by
  pointwise [siluB]

theorem rowA_apply (s : FVec Ideal S1x1024 .f32) (w : FVec Ideal S1024x6144 .f32) (b : FVec Ideal S6144 .f32) (j : Fin 6144) :
    rowA s w b (ix2 0 j) = (∑ d : Fin 1024, s (ix2 0 d) * w (ix2 d j)) + b (ix1 j) := by
  pointwise [rowA]

theorem rowB_apply (s : FVec Ideal S1024 .f32) (w : FVec Ideal S1024x6144 .f32) (b : FVec Ideal S6144 .f32) (j : Fin 6144) :
    rowB s w b (ix2 0 j) = (∑ d : Fin 1024, s (ix1 d) * w (ix2 d j)) + b (ix1 j) := by
  pointwise [rowB]

theorem pair_apply (a b : FVec Ideal S1x6144 .f32) (k : Fin 2) (j : Fin 6144) :
    pair a b (ix3 0 k j) = if k.val < 1 then a (ix2 0 j) else b (ix2 0 j) := by
  fin_cases k <;> pointwise [pair]

theorem both_apply (a b : FVec Ideal S1x2x6144 .f32) (l k : Fin 2) (j : Fin 6144) :
    both a b (ix3 l k j) = if l.val < 1 then a (ix3 0 k j) else b (ix3 0 k j) := by
  fin_cases l <;> pointwise [both]

theorem w0_apply (w : FVec Ideal S2x1024x6144 .f32) (d : Fin 1024) (j : Fin 6144) : w0 w (ix2 d j) = w (ix3 0 d j) := by
  pointwise [w0]
theorem w1_apply (w : FVec Ideal S2x1024x6144 .f32) (d : Fin 1024) (j : Fin 6144) : w1 w (ix2 d j) = w (ix3 1 d j) := by
  pointwise [w1]
theorem b0_apply (b : FVec Ideal S2x6144 .f32) (j : Fin 6144) : b0 b (ix1 j) = b (ix2 0 j) := by
  pointwise [b0]
theorem b1_apply (b : FVec Ideal S2x6144 .f32) (j : Fin 6144) : b1 b (ix1 j) = b (ix2 1 j) := by
  pointwise [b1]

theorem out_apply (x : FVec Ideal S1x1024 .f32) (y : FVec Ideal S1024 .f32) (w : FVec Ideal S2x1024x6144 .f32) (b : FVec Ideal S2x6144 .f32)
    (l k : Fin 2) (j : Fin 6144) :
    out x y w b (ix3 l k j) = (∑ d : Fin 1024, (if k.val < 1 then x (ix2 0 d) * Ideal.div 1 (1 + Ideal.exp (-x (ix2 0 d)))
        else y (ix1 d) * Ideal.div 1 (1 + Ideal.exp (-y (ix1 d)))) * w (ix3 l d j)) + b (ix2 l j) := by
  unfold out
  rw [both_apply]
  fin_cases l
  · fin_cases k
    · exact (pair_apply _ _ 0 j).trans ((rowA_apply _ _ _ j).trans (by simp only [siluA_apply, w0_apply, b0_apply]; rfl))
    · exact (pair_apply _ _ 1 j).trans ((rowB_apply _ _ _ j).trans (by simp only [siluB_apply, w0_apply, b0_apply]; rfl))
  · fin_cases k
    · exact (pair_apply _ _ 0 j).trans ((rowA_apply _ _ _ j).trans (by simp only [siluA_apply, w1_apply, b1_apply]; rfl))
    · exact (pair_apply _ _ 1 j).trans ((rowB_apply _ _ _ j).trans (by simp only [siluB_apply, w1_apply, b1_apply]; rfl))

end Cert.Reference6Ideal.Mod

end
-- ==== Proof.ModClaim.lean ====
module

public import proofs.«01_k».proof.Defs
public import proofs.«01_k».proof.Proof.ModBlock
public import proofs.«01_k».proof.Proof.ModRef
public import proofs.«01_k».proof.Proof.Gen.Kernel6.Frame
public import Idealize.ShloMosaic.Lib.Quiescent

/-! The modulation call's claims. -/

@[expose] public section

set_option maxRecDepth 16384

noncomputable section

namespace Cert.ModClaim

open Idealize.ShloMosaic Idealize.ShloMosaic.TcCoe Idealize.SL.Sem

theorem quiescent_P : Cert.quiescent_Kernel6 := fun m ρ _ => Cert.Kernel6.Gen.frame m ρ

theorem quiescent_PI : Cert.quiescent_Kernel6Ideal := fun m ρ _ => Cert.Kernel6Ideal.Gen.frame m ρ

theorem quiescent_RI : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem whole_eq (m : (ℓ : Loc Cert.Kernel6Ideal.nD Cert.Kernel6Ideal.τ Cert.Kernel6Ideal.sig) → Buf (Elt Ideal) ℓ)
    (c : Dev Cert.Kernel6Ideal.nD) :
    Cert.Kernel6Ideal.Mod.whole m c = Cert.Reference6Ideal.Mod.out (Cert.Kernel6Ideal.Mod.aC m c) (Cert.Kernel6Ideal.Mod.aD m c)
      (Cert.Kernel6Ideal.Mod.aW m c) (Cert.Kernel6Ideal.Mod.aB m c) := by
  funext y
  obtain ⟨l, k, j, rfl⟩ : ∃ (l k : Fin 2) (j : Fin 6144), y = ix3 l k j := ⟨y 0, y 1, y 2, by funext a; fin_cases a <;> rfl⟩
  rw [Cert.Reference6Ideal.Mod.out_apply]
  refine congrArg₂ (fun x y : EReal => x + y) (Finset.sum_congr rfl fun d _ => ?_) rfl
  refine congrArg (fun s : EReal => s * Cert.Kernel6Ideal.Mod.aW m c (ix3 l d j)) ?_
  show Cert.Kernel6Ideal.Mod.silu (Cert.Kernel6Ideal.Mod.cond m c k d) = _
  unfold Cert.Kernel6Ideal.Mod.silu Cert.Kernel6Ideal.Mod.cond
  by_cases h : k.val < 1
  · rw [if_pos h, if_pos h]
  · rw [if_neg h, if_neg h]

theorem algebraic : Cert.algebraic_Kernel6Ideal_Reference6Ideal := fun m ρ m' ρ' _ hag =>
  ⟨fun c => Cert.Kernel6Ideal.Mod.whole m c,
    (θ_run Cert.Kernel6Ideal.defs _ _).mono (fun _ h c => ⟨(h c).1.trans (Cert.Kernel6Ideal.Mod.final3 m c), (h c).2⟩)
      (Cert.Kernel6Ideal.Value.run_blocks m ρ),
    (θ_run Cert.Reference6Ideal.defs _ _).mono (fun _ h c => ⟨(h c).1.trans (by
        obtain ⟨h0, h1, h2, h3⟩ := hag c
        rw [h0, h1, h2, h3]
        exact (whole_eq m c).symm), (h c).2⟩)
      (Cert.Reference6Ideal.Value.run m' ρ')⟩

end Cert.ModClaim

end
-- ==== Proof.LocalBlock.lean ====
module

public import proofs.«01_k».proof.Proof.Gen.Kernel7Ideal.Value
public import Idealize.ShloMosaic.Lib.Pipeline.ValueKit
public import Idealize.ShloMosaic.Lib.Pointwise

/-! The local mixers' block: its entries. -/

@[expose] public section

set_option maxRecDepth 16384

noncomputable section

namespace Cert.Kernel7Ideal.Local

open Idealize.ShloMosaic Idealize.ShloMosaic.TcCoe Idealize.SL.Sem
open Idealize.ShloMosaic.Pipeline (Dat)
open Cert.Kernel7Ideal Cert.Kernel7Ideal.Gen

theorem first_word : ∀ r : Fin 256, IntOp.cmpi CmpIPredicate.eq (BitVec.ofNat 32 r.val) 0#32 = if r.val = 0 then 1#1 else 0#1 := by
  decide +kernel

theorem last_word : ∀ r : Fin 256, IntOp.cmpi CmpIPredicate.eq (BitVec.ofNat 32 r.val) 255#32 = if r.val = 255 then 1#1 else 0#1 := by
  decide +kernel

theorem first_tile : ∀ r : Fin 64, Scalar.cmpi CmpIPredicate.eq (BitVec.ofNat 32 r.val) 0#32 = if r.val = 0 then 1#1 else 0#1 := by
  decide +kernel

theorem last_tile : ∀ r : Fin 64, Scalar.cmpi CmpIPredicate.eq (BitVec.ofNat 32 r.val) 63#32 = if r.val = 63 then 1#1 else 0#1 := by
  decide +kernel

/-- The rows above: the block's rows moved down by one, the row before the block first. -/
theorem up_apply (i : grid0.Coords) (a b : FVec Ideal S256x256 .f32) (p q : FVec Ideal S8x256 .f32) (r j : Fin 256) :
    k0_pay3 (F := Ideal) i a b p q (ix2 r j) = if r.val = 0 then (if (i 0).val = 0 then 0 else p (ix2 7 j) * q (ix2 7 j))
      else a (ix2 ⟨(r.val + 255) % 256, by omega⟩ j) * b (ix2 ⟨(r.val + 255) % 256, by omega⟩ j) := by
  pointwise [k0_pay3, k0_pay2]
  rw [first_word, first_tile (i 0)]
  by_cases h : r.val = 0
  · rw [if_pos h, if_pos h]
    by_cases k : (i 0).val = 0
    · rw [if_pos k, if_pos k]
      rfl
    · rw [if_neg k, if_neg k]
      rfl
  · rw [if_neg h, if_neg h]
    rfl

/-- The rows below: the block's rows moved up by one, the row after the block last. -/
theorem dn_apply (i : grid0.Coords) (a b : FVec Ideal S256x256 .f32) (p q : FVec Ideal S8x256 .f32) (r j : Fin 256) :
    k0_pay4 (F := Ideal) i a b p q (ix2 r j) = if r.val = 255 then (if (i 0).val = 63 then 0 else p (ix2 0 j) * q (ix2 0 j))
      else a (ix2 ⟨(r.val + 1) % 256, by omega⟩ j) * b (ix2 ⟨(r.val + 1) % 256, by omega⟩ j) := by
  pointwise [k0_pay4, k0_pay2]
  rw [last_word, last_tile (i 0)]
  by_cases h : r.val = 255
  · rw [if_pos h, if_pos h]
    by_cases k : (i 0).val = 63
    · rw [if_pos k, if_pos k]
      rfl
    · rw [if_neg k, if_neg k]
      rfl
  · rw [if_neg h, if_neg h]
    rfl

theorem conv_apply (y u d : FVec Ideal S256x256 .f32) (w : FVec Ideal S3x256 .f32) (g : FVec Ideal S256x256 .f32) (r j : Fin 256) :
    k0_pay6 (F := Ideal) y u d w g (ix2 r j)
      = g (ix2 r j) * (w (ix2 0 j) * u (ix2 r j) + w (ix2 1 j) * y (ix2 r j) + w (ix2 2 j) * d (ix2 r j)) := by
  pointwise [k0_pay6]

/-- A row normalised. -/
theorem norm_apply (v : FVec Ideal S256x256 .f32) (g : FVec Ideal S1x256 .f32) (r j : Fin 256) :
    k0_pay7 (F := Ideal) v g (ix2 r j) = v (ix2 r j) * Ideal.rsqrt (Ideal.div (∑ e : Fin 256, v (ix2 r e) * v (ix2 r e))
      (Ideal.ofBits .f32 0x43800000#32) + Ideal.ofBits .f32 0x358637BD#32) * g (ix2 0 j) := by
  pointwise [k0_pay7]

/-- The rows of a chunk at one head's channels, zero elsewhere. -/
def only (h : BitVec 32) (x : FVec Ideal S128x256 .f32) : FVec Ideal S128x256 .bf16 :=
  truncf .bf16 (select (broadcastTo S128x256 (shapeCast S1x256 (cmpi .eq k0_pay8 (broadcast S1x256 h)) shapeCasts_S1x256_S1x256)
    broadcasts_S1x256_S128x256) x (broadcast S128x256 (Scalar.ofBits .f32 0x00000000#32))) bitsLt_bf16_f32

/-- One head's product. -/
def prod (w : FVec Ideal S1x128x128 .bf16) (x : FVec Ideal S128x256 .bf16) : FVec Ideal S128x256 .f32 :=
  matmul dot_S128x128_S128x256_S128x256_1_0_0_1_n_n none (shapeCast S128x128 w shapeCasts_S1x128x128_S128x128) x
    (constant S128x256 .f32 0x00000000#32)

theorem shift_word : ∀ l : Fin 256, IntOp.shrsi .vector (BitVec.ofNat 32 l.val) 6#32 = BitVec.ofNat 32 (l.val / 64) := by
  decide +kernel

theorem eq_word : ∀ a b : Fin 4, IntOp.cmpi CmpIPredicate.eq (BitVec.ofNat 32 a.val) (BitVec.ofNat 32 b.val)
    = if a.val = b.val then 1#1 else 0#1 := by
  decide

theorem only_apply (h : Fin 4) (x : FVec Ideal S128x256 .f32) (s : Fin 128) (j : Fin 256) :
    only (BitVec.ofNat 32 h.val) x (ix2 s j) = if j.val / 64 = h.val then x (ix2 s j) else 0 := by
  pointwise [only, k0_pay8]
  rw [shift_word, eq_word ⟨j.val / 64, by omega⟩ h]
  by_cases hh : j.val / 64 = h.val
  · rw [if_pos hh, if_pos hh]
    rfl
  · rw [if_neg hh, if_neg hh]
    rfl

theorem prod_apply (w : FVec Ideal S1x128x128 .bf16) (x : FVec Ideal S128x256 .bf16) (t : Fin 128) (j : Fin 256) :
    prod w x (ix2 t j) = ∑ s : Fin 128, w (ix3 0 t s) * x (ix2 s j) := by
  pointwise [prod]

/-- The four heads' products, of which one is not zero. -/
theorem heads (b : EReal) (w : Fin 4 → Fin 128 → EReal) (x : Fin 128 → EReal) (k : Fin 4) :
    b + (∑ s, w 0 s * if k.val = 0 then x s else 0) + (∑ s, w 1 s * if k.val = 1 then x s else 0)
      + (∑ s, w 2 s * if k.val = 2 then x s else 0) + (∑ s, w 3 s * if k.val = 3 then x s else 0) = b + ∑ s, w k s * x s := by
  fin_cases k <;> simp

/-- The weights of the four heads. -/
def wts (w0 w1 w2 w3 : FVec Ideal S1x128x128 .bf16) (t : Fin 128) : Fin 4 → Fin 128 → EReal
  | 0, s => w0 (ix3 0 t s)
  | 1, s => w1 (ix3 0 t s)
  | 2, s => w2 (ix3 0 t s)
  | 3, s => w3 (ix3 0 t s)

theorem chunk (x b u : FVec Ideal S128x256 .f32) (w0 w1 w2 w3 : FVec Ideal S1x128x128 .bf16) (t : Fin 128) (j : Fin 256) :
    mulf u (addf (addf (addf (addf b (prod w0 (only 0#32 x))) (prod w1 (only 1#32 x))) (prod w2 (only 2#32 x))) (prod w3 (only 3#32 x))) (ix2 t j)
      = u (ix2 t j) * (b (ix2 t j) + ∑ s : Fin 128, wts w0 w1 w2 w3 t ⟨j.val / 64, by omega⟩ s * x (ix2 s j)) := by
  show u (ix2 t j) * (b (ix2 t j) + prod w0 (only 0#32 x) (ix2 t j) + prod w1 (only 1#32 x) (ix2 t j) + prod w2 (only 2#32 x) (ix2 t j)
    + prod w3 (only 3#32 x) (ix2 t j)) = _
  refine congrArg (fun a : EReal => u (ix2 t j) * a) ?_
  simp only [prod_apply]
  refine Eq.trans ?_ (heads (b (ix2 t j)) (wts w0 w1 w2 w3 t) (fun s => x (ix2 s j)) ⟨j.val / 64, by omega⟩)
  have h0 : ∀ s, only 0#32 x (ix2 s j) = if j.val / 64 = 0 then x (ix2 s j) else 0 := fun s => only_apply 0 x s j
  have h1 : ∀ s, only 1#32 x (ix2 s j) = if j.val / 64 = 1 then x (ix2 s j) else 0 := fun s => only_apply 1 x s j
  have h2 : ∀ s, only 2#32 x (ix2 s j) = if j.val / 64 = 2 then x (ix2 s j) else 0 := fun s => only_apply 2 x s j
  have h3 : ∀ s, only 3#32 x (ix2 s j) = if j.val / 64 = 3 then x (ix2 s j) else 0 := fun s => only_apply 3 x s j
  simp only [h0, h1, h2, h3]
  rfl

theorem pay13_apply (v : FVec Ideal S256x256 .f32) (g : FVec Ideal S1x256 .f32) (b u : FVec Ideal S128x256 .f32)
    (w0 w1 w2 w3 : FVec Ideal S1x128x128 .bf16) (t : Fin 128) (j : Fin 256) :
    k0_pay13 (F := Ideal) (k0_pay12 (F := Ideal) k0_pay8 (k0_pay9 (F := Ideal) v g) (k0_pay10 (F := Ideal) b) (k0_pay11 (F := Ideal) v g) w0 w1 w2 w3) u (ix2 t j)
      = u (ix2 t j) * (b (ix2 t j) + ∑ s : Fin 128, wts w0 w1 w2 w3 t ⟨j.val / 64, by omega⟩ s
          * k0_pay7 (F := Ideal) v g (ix2 ⟨s.val, by omega⟩ j)) := by
  have e : k0_pay10 (F := Ideal) b = b := by
    funext y
    obtain ⟨p, q, rfl⟩ : ∃ (p : Fin 128) (q : Fin 256), y = ix2 p q := ⟨y 0, y 1, by blk_ext⟩
    pointwise [k0_pay10]
  rw [e]
  refine (chunk (k0_pay9 (F := Ideal) v g) b u w0 w1 w2 w3 t j).trans ?_
  unfold k0_pay9
  generalize k0_pay7 (F := Ideal) v g = x
  generalize wts w0 w1 w2 w3 t = w
  pointwise []

theorem pay1_apply (x : FVec Ideal S256x256 .f32) (b u : FVec Ideal S128x256 .f32)
    (w0 w1 w2 w3 : FVec Ideal S1x128x128 .bf16) (t : Fin 128) (j : Fin 256) :
    k0_pay1 (F := Ideal) k0_pay8 (k0_pay14 (F := Ideal) x) (k0_pay15 (F := Ideal) x k0_pay8 b w0 w1) (k0_pay16 (F := Ideal) x k0_pay8 w2) w3 u (ix2 t j)
      = u (ix2 t j) * (b (ix2 t j) + ∑ s : Fin 128, wts w0 w1 w2 w3 t ⟨j.val / 64, by omega⟩ s
          * x (ix2 ⟨128 + s.val, by omega⟩ j)) := by
  have e : shapeCast S128x256 b shapeCasts_S128x256_S128x256 = b := by
    funext y
    obtain ⟨p, q, rfl⟩ : ∃ (p : Fin 128) (q : Fin 256), y = ix2 p q := ⟨y 0, y 1, by blk_ext⟩
    pointwise []
  unfold k0_pay15
  rw [e]
  refine (chunk (k0_pay14 (F := Ideal) x) b u w0 w1 w2 w3 t j).trans ?_
  unfold k0_pay14
  generalize wts w0 w1 w2 w3 t = w
  pointwise []

end Cert.Kernel7Ideal.Local

end
-- ==== Proof.LocalArray.lean ====
module

public import proofs.«01_k».proof.Proof.LocalBlock
public import Idealize.ShloMosaic.Lib.Pipeline.ValueKit
public import Idealize.ShloMosaic.Lib.Pointwise

/-! The local mixers' arrays. -/

@[expose] public section

set_option maxRecDepth 16384

noncomputable section

namespace Cert.Kernel7Ideal.Local

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The arguments, by what they hold. -/
abbrev aZ (c : Dev nD) : FVec Ideal S16384x2944 .f32 := m ((c.tc : Thread nD τ).loc main_arg0)
abbrev aK (c : Dev nD) : FVec Ideal S2x3x256 .f32 := m ((c.tc : Thread nD τ).loc main_arg1)
abbrev aG (c : Dev nD) : FVec Ideal S2x256 .f32 := m ((c.tc : Thread nD τ).loc main_arg2)
abbrev aW (c : Dev nD) : FVec Ideal S2x4x128x128 .f32 := m ((c.tc : Thread nD τ).loc main_arg3)
abbrev aB (c : Dev nD) : FVec Ideal S2x4x128 .f32 := m ((c.tc : Thread nD τ).loc main_arg4)

theorem idx : ∀ t : Fin cfg0.N, win0_0.index t = ![t.val, 0] ∧ win0_1.index t = ![t.val, 1] ∧ win0_2.index t = ![t.val, 2]
    ∧ win0_3.index t = ![t.val, 3] ∧ win0_4.index t = ![t.val, 4] ∧ win0_5.index t = ![t.val * 32 - 1, 0]
    ∧ win0_6.index t = ![t.val * 32 - 1, 2] ∧ win0_7.index t = ![min (t.val * 32 + 32) 2047, 0]
    ∧ win0_8.index t = ![min (t.val * 32 + 32) 2047, 2] ∧ win0_9.index t = ![0, 0] ∧ win0_10.index t = ![0, 0]
    ∧ win0_11.index t = ![0, 0, 0] ∧ win0_12.index t = ![0, 0] ∧ win0_13.index t = ![t.val, 0] ∧ win0_14.index t = ![t.val, 0] :=
  (by decide +kernel : ∀ t : Fin grid0.N, _)

theorem coord : ∀ t : Fin cfg0.N, (grid0.coords t 0).val = t.val := (by decide +kernel : ∀ t : Fin grid0.N, _)

theorem lt64 (t : Fin cfg0.N) : t.val < 64 := lt_of_lt_of_eq t.isLt N_0

theorem rd0 (c : Dev nD) (t : Fin cfg0.N) (r j : Fin 256) :
    X0_0 m c t (ix2 r j) = aZ m c (ix2 ⟨t.val * 256 + r.val, by have := lt64 t; omega⟩ ⟨j.val, by omega⟩) := by
  have ht := lt64 t
  unfold X0_0 Pipeline.Window.fill
  rw [dif_pos (moved0_0 t _)]
  blk_point [iblk, V, idx t]

theorem rd1 (c : Dev nD) (t : Fin cfg0.N) (r j : Fin 256) :
    X0_1 m c t (ix2 r j) = aZ m c (ix2 ⟨t.val * 256 + r.val, by have := lt64 t; omega⟩ ⟨256 + j.val, by omega⟩) := by
  have ht := lt64 t
  unfold X0_1 Pipeline.Window.fill
  rw [dif_pos (moved0_1 t _)]
  blk_point [iblk, V, idx t]

theorem rd2 (c : Dev nD) (t : Fin cfg0.N) (r j : Fin 256) :
    X0_2 m c t (ix2 r j) = aZ m c (ix2 ⟨t.val * 256 + r.val, by have := lt64 t; omega⟩ ⟨512 + j.val, by omega⟩) := by
  have ht := lt64 t
  unfold X0_2 Pipeline.Window.fill
  rw [dif_pos (moved0_2 t _)]
  blk_point [iblk, V, idx t]

theorem rd3 (c : Dev nD) (t : Fin cfg0.N) (r j : Fin 256) :
    X0_3 m c t (ix2 r j) = aZ m c (ix2 ⟨t.val * 256 + r.val, by have := lt64 t; omega⟩ ⟨768 + j.val, by omega⟩) := by
  have ht := lt64 t
  unfold X0_3 Pipeline.Window.fill
  rw [dif_pos (moved0_3 t _)]
  blk_point [iblk, V, idx t]

theorem rd4 (c : Dev nD) (t : Fin cfg0.N) (r j : Fin 256) :
    X0_4 m c t (ix2 r j) = aZ m c (ix2 ⟨t.val * 256 + r.val, by have := lt64 t; omega⟩ ⟨1024 + j.val, by omega⟩) := by
  have ht := lt64 t
  unfold X0_4 Pipeline.Window.fill
  rw [dif_pos (moved0_4 t _)]
  blk_point [iblk, V, idx t]

theorem rd5 (c : Dev nD) (t : Fin cfg0.N) (r : Fin 8) (j : Fin 256) :
    X0_5 m c t (ix2 r j) = aZ m c (ix2 ⟨(t.val * 32 - 1) * 8 + r.val, by have := lt64 t; omega⟩ ⟨j.val, by omega⟩) := by
  have ht := lt64 t
  unfold X0_5 Pipeline.Window.fill
  rw [dif_pos (moved0_5 t _)]
  blk_point [iblk, V, idx t]

theorem rd6 (c : Dev nD) (t : Fin cfg0.N) (r : Fin 8) (j : Fin 256) :
    X0_6 m c t (ix2 r j) = aZ m c (ix2 ⟨(t.val * 32 - 1) * 8 + r.val, by have := lt64 t; omega⟩ ⟨512 + j.val, by omega⟩) := by
  have ht := lt64 t
  unfold X0_6 Pipeline.Window.fill
  rw [dif_pos (moved0_6 t _)]
  blk_point [iblk, V, idx t]

theorem rd7 (c : Dev nD) (t : Fin cfg0.N) (r : Fin 8) (j : Fin 256) :
    X0_7 m c t (ix2 r j) = aZ m c (ix2 ⟨min (t.val * 32 + 32) 2047 * 8 + r.val, by have := lt64 t; omega⟩ ⟨j.val, by omega⟩) := by
  have ht := lt64 t
  unfold X0_7 Pipeline.Window.fill
  rw [dif_pos (moved0_7 t _)]
  blk_point [iblk, V, idx t]

theorem rd8 (c : Dev nD) (t : Fin cfg0.N) (r : Fin 8) (j : Fin 256) :
    X0_8 m c t (ix2 r j) = aZ m c (ix2 ⟨min (t.val * 32 + 32) 2047 * 8 + r.val, by have := lt64 t; omega⟩ ⟨512 + j.val, by omega⟩) := by
  have ht := lt64 t
  unfold X0_8 Pipeline.Window.fill
  rw [dif_pos (moved0_8 t _)]
  blk_point [iblk, V, idx t]

/-- The operands the host prepares. -/
theorem taps_eq (c : Dev nD) : V m c main_v9
    = shapeCast S3x256 (extractStridedSlice S1x3x256 ![1, 0, 0] (aK m c) slices_S2x3x256_S1x3x256_1_0_0) shapeCasts_S1x3x256_S3x256 := by
  entry_read
  all_goals rfl

theorem gain_eq (c : Dev nD) : V m c main_v12
    = shapeCast S1x256 (shapeCast S256 (extractStridedSlice S1x256 ![1, 0] (aG m c) slices_S2x256_S1x256_1_0) shapeCasts_S1x256_S256)
        shapeCasts_S256_S1x256 := by
  entry_read
  all_goals rfl

theorem weights_eq (c : Dev nD) : V m c main_v2
    = truncf .bf16 (shapeCast S4x128x128 (extractStridedSlice S1x4x128x128 ![1, 0, 0, 0] (aW m c) slices_S2x4x128x128_S1x4x128x128_1_0_0_0)
        shapeCasts_S1x4x128x128_S4x128x128) bitsLt_bf16_f32 := by
  entry_read
  all_goals rfl

theorem bias_eq (c : Dev nD) : V m c main_v7
    = shapeCast S128x256 (broadcastInDim S128x4x64 ![0, 1] bcast_S128x4_S128x4x64_0_1 (transpose S128x4 [1, 0]
        (shapeCast S4x128 (extractStridedSlice S1x4x128 ![1, 0, 0] (aB m c) slices_S2x4x128_S1x4x128_1_0_0) shapeCasts_S1x4x128_S4x128)
        transposes_S4x128_S128x4_1_0)) shapeCasts_S128x4x64_S128x256 := by
  entry_read
  all_goals rfl

theorem rd9 (c : Dev nD) (t : Fin cfg0.N) (k : Fin 3) (j : Fin 256) : iblk m c 9 t (ix2 k j) = aK m c (ix3 1 k j) := by
  have h : iblk m c 9 t (ix2 k j) = V m c main_v9 (ix2 k j) := by
    blk_point [iblk, idx t]
  rw [h, taps_eq]
  pointwise []

theorem rd10 (c : Dev nD) (t : Fin cfg0.N) (j : Fin 256) : iblk m c 10 t (ix2 0 j) = aG m c (ix2 1 j) := by
  have h : iblk m c 10 t (ix2 0 j) = V m c main_v12 (ix2 0 j) := by
    blk_point [iblk, idx t]
  rw [h, gain_eq]
  pointwise []

theorem rd11 (c : Dev nD) (t : Fin cfg0.N) (h : Fin 4) (p s : Fin 128) : iblk m c 11 t (ix3 h p s) = aW m c (ix4 1 h p s) := by
  have e : iblk m c 11 t (ix3 h p s) = V m c main_v2 (ix3 h p s) := by
    blk_point [iblk, idx t]
  rw [e, weights_eq]
  pointwise []

theorem rd12 (c : Dev nD) (t : Fin cfg0.N) (p : Fin 128) (j : Fin 256) :
    iblk m c 12 t (ix2 p j) = aB m c (ix3 1 ⟨j.val / 64, by omega⟩ p) := by
  have e : iblk m c 12 t (ix2 p j) = V m c main_v7 (ix2 p j) := by
    blk_point [iblk, idx t]
  rw [e, bias_eq]
  pointwise []

/-- The gated input, zero before the first row and after the last. -/
def gate (z : FVec Ideal S16384x2944 .f32) (r : ℕ) (j : Fin 256) : EReal :=
  if h : 1 ≤ r ∧ r < 16385 then z (ix2 ⟨r - 1, by omega⟩ ⟨512 + j.val, by omega⟩) * z (ix2 ⟨r - 1, by omega⟩ ⟨j.val, by omega⟩) else 0

/-- The first result. -/
def conv (c : Dev nD) : FVec Ideal S16384x256 .f32 := fun y =>
  aZ m c (ix2 (y 0) ⟨256 + (y 1).val, by have := (y 1).isLt; simp at this; omega⟩)
    * (aK m c (ix3 1 0 (y 1)) * gate (aZ m c) (y 0).val (y 1) + aK m c (ix3 1 1 (y 1)) * gate (aZ m c) (1 + (y 0).val) (y 1)
      + aK m c (ix3 1 2 (y 1)) * gate (aZ m c) (2 + (y 0).val) (y 1))

theorem gate_of (z : FVec Ideal S16384x2944 .f32) (n k : ℕ) (hk : k < 16384) (hn : n = k + 1) (j : Fin 256) :
    z (ix2 ⟨k, hk⟩ ⟨512 + j.val, by omega⟩) * z (ix2 ⟨k, hk⟩ ⟨j.val, by omega⟩) = gate z n j := by
  subst hn
  unfold gate
  rw [dif_pos ⟨by omega, by omega⟩]
  rfl

theorem gate_first (z : FVec Ideal S16384x2944 .f32) (n : ℕ) (hn : n = 0) (j : Fin 256) : 0 = gate z n j := by
  unfold gate
  rw [dif_neg (by omega)]

theorem gate_last (z : FVec Ideal S16384x2944 .f32) (n : ℕ) (hn : n = 16385) (j : Fin 256) : 0 = gate z n j := by
  unfold gate
  rw [dif_neg (by omega)]

theorem up_eq (c : Dev nD) (t : Fin cfg0.N) (r j : Fin 256) :
    k0_pay3 (F := Ideal) (grid0.coords t) (X0_2 m c t) (X0_0 m c t) (X0_6 m c t) (X0_5 m c t) (ix2 r j)
      = gate (aZ m c) (t.val * 256 + r.val) j := by
  have ht := lt64 t
  have hc := coord t
  rw [up_apply]
  by_cases h : r.val = 0
  · rw [if_pos h]
    by_cases k : t.val = 0
    · rw [if_pos (hc.trans k)]
      exact gate_first _ _ (by omega) j
    · rw [if_neg (fun e => k (hc.symm.trans e)), rd6, rd5]
      exact gate_of _ _ ((t.val * 32 - 1) * 8 + 7) (by omega) (by omega) j
  · rw [if_neg h, rd2, rd0]
    exact gate_of _ _ (t.val * 256 + (r.val + 255) % 256) (by omega) (by omega) j

theorem dn_eq (c : Dev nD) (t : Fin cfg0.N) (r j : Fin 256) :
    k0_pay4 (F := Ideal) (grid0.coords t) (X0_2 m c t) (X0_0 m c t) (X0_8 m c t) (X0_7 m c t) (ix2 r j)
      = gate (aZ m c) (2 + (t.val * 256 + r.val)) j := by
  have ht := lt64 t
  have hc := coord t
  rw [dn_apply]
  by_cases h : r.val = 255
  · rw [if_pos h]
    by_cases k : t.val = 63
    · rw [if_pos (hc.trans k)]
      exact gate_last _ _ (by omega) j
    · rw [if_neg (fun e => k (hc.symm.trans e)), rd8, rd7]
      exact gate_of _ _ (min (t.val * 32 + 32) 2047 * 8 + 0) (by omega) (by omega) j
  · rw [if_neg h, rd2, rd0]
    exact gate_of _ _ (t.val * 256 + (r.val + 1) % 256) (by omega) (by omega) j

theorem mid_eq (c : Dev nD) (t : Fin cfg0.N) (r j : Fin 256) :
    k0_pay2 (F := Ideal) (X0_2 m c t) (X0_0 m c t) (ix2 r j) = gate (aZ m c) (1 + (t.val * 256 + r.val)) j := by
  have ht := lt64 t
  have h : ∀ a b : FVec Ideal S256x256 .f32, k0_pay2 (F := Ideal) a b (ix2 r j) = a (ix2 r j) * b (ix2 r j) := fun a b => by
    pointwise [k0_pay2]
  rw [h, rd2, rd0]
  exact gate_of _ _ (t.val * 256 + r.val) (by omega) (by omega) j

theorem key13 (c : Dev nD) (t : Fin cfg0.N) (r j : Fin 256) :
    k0_pay6 (F := Ideal) (k0_pay2 (F := Ideal) (X0_2 m c t) (X0_0 m c t))
      (k0_pay3 (F := Ideal) (grid0.coords t) (X0_2 m c t) (X0_0 m c t) (X0_6 m c t) (X0_5 m c t))
      (k0_pay4 (F := Ideal) (grid0.coords t) (X0_2 m c t) (X0_0 m c t) (X0_8 m c t) (X0_7 m c t)) (k0_pay5 (F := Ideal) (iblk m c 9 t))
      (X0_1 m c t) (ix2 r j) = conv m c (ix2 ⟨t.val * 256 + r.val, by have := lt64 t; omega⟩ j) := by
  have h5 : ∀ (w : FVec Ideal S3x256 .f32) (k : Fin 3), k0_pay5 (F := Ideal) w (ix2 k j) = w (ix2 k j) := fun w k => by
    pointwise [k0_pay5]
  rw [conv_apply, up_eq, dn_eq, mid_eq, rd1, h5, h5, h5, rd9, rd9, rd9]
  rfl

theorem final13 (c : Dev nD) : (dats m 0 c).arrAt 13 cfg0.N = conv m c := by
  refine (dats m 0 c).arrAt_eq_of_covers 13 _ (by decide +kernel) fun t hf y => ?_
  have ht := lt64 t
  blk_simp
  rw [after0_13]
  unfold outsAt0
  frame_out
  obtain ⟨r, j, rfl⟩ : ∃ r j : Fin 256, y = ix2 r j := ⟨y 0, y 1, by funext a; fin_cases a <;> rfl⟩
  refine (key13 m c t r j).trans ?_
  refine congrArg (conv m c) ?_
  blk_ext [idx t]

/-- A row normalised. -/
def nrm (z : FVec Ideal S16384x2944 .f32) (g : FVec Ideal S2x256 .f32) (r : Fin 16384) (j : Fin 256) : EReal :=
  z (ix2 r ⟨1024 + j.val, by omega⟩) * Ideal.rsqrt (Ideal.div (∑ e : Fin 256, z (ix2 r ⟨1024 + e.val, by omega⟩) * z (ix2 r ⟨1024 + e.val, by omega⟩))
    (Ideal.ofBits .f32 0x43800000#32) + Ideal.ofBits .f32 0x358637BD#32) * g (ix2 1 j)

/-- The second result, by chunk, position and channel. -/
def gout (c : Dev nD) (n p : Fin 128) (j : Fin 256) : EReal :=
  aZ m c (ix2 ⟨n.val * 128 + p.val, by omega⟩ ⟨768 + j.val, by omega⟩)
    * (aB m c (ix3 1 ⟨j.val / 64, by omega⟩ p)
      + ∑ s : Fin 128, aW m c (ix4 1 ⟨j.val / 64, by omega⟩ p s) * nrm (aZ m c) (aG m c) ⟨n.val * 128 + s.val, by omega⟩ j)

/-- The second result. -/
def gated (c : Dev nD) : FVec Ideal S16384x256 .f32 := fun y =>
  gout m c ⟨(y 0).val / 128, by have := (y 0).isLt; simp at this; omega⟩ ⟨(y 0).val % 128, by omega⟩ (y 1)

theorem gout_eq (c : Dev nD) (n p : Fin 128) (j : Fin 256) :
    gout m c n p j = gated m c (ix2 ⟨n.val * 128 + p.val, by omega⟩ j) := by
  have h0 : (⟨(n.val * 128 + p.val) / 128, by omega⟩ : Fin 128) = n := Fin.ext (show (n.val * 128 + p.val) / 128 = n.val by omega)
  have h1 : (⟨(n.val * 128 + p.val) % 128, by omega⟩ : Fin 128) = p := Fin.ext (show (n.val * 128 + p.val) % 128 = p.val by omega)
  show _ = gout m c ⟨(n.val * 128 + p.val) / 128, by omega⟩ ⟨(n.val * 128 + p.val) % 128, by omega⟩ j
  rw [h0, h1]

theorem nrm_eq (c : Dev nD) (t : Fin cfg0.N) (r j : Fin 256) :
    k0_pay7 (F := Ideal) (X0_4 m c t) (iblk m c 10 t) (ix2 r j)
      = nrm (aZ m c) (aG m c) ⟨t.val * 256 + r.val, by have := lt64 t; omega⟩ j := by
  rw [norm_apply, rd10]
  simp only [rd4]
  rfl

theorem wts_ld (B : FVec Ideal S4x128x128 .bf16) (h : Fin 4) (p s : Fin 128) :
    wts (View.ld (Val := Elt Ideal) (e' := .bf16) B (Rect.unit ![0, 0, 0] ![1, 128, 128] inb_S4x128x128_S1x128x128_0_0_0))
      (View.ld (Val := Elt Ideal) (e' := .bf16) B (Rect.unit ![1, 0, 0] ![1, 128, 128] inb_S4x128x128_S1x128x128_1_0_0))
      (View.ld (Val := Elt Ideal) (e' := .bf16) B (Rect.unit ![2, 0, 0] ![1, 128, 128] inb_S4x128x128_S1x128x128_2_0_0))
      (View.ld (Val := Elt Ideal) (e' := .bf16) B (Rect.unit ![3, 0, 0] ![1, 128, 128] inb_S4x128x128_S1x128x128_3_0_0)) p h s
      = B (ix3 h p s) := by
  fin_cases h
  all_goals pointwise [wts]

theorem lo_ld (B : FVec Ideal S256x256 .f32) (p : Fin 128) (j : Fin 256) :
    View.ld (Val := Elt Ideal) (e' := .f32) B (Rect.unit ![0, 0] ![128, 256] inb_S256x256_S128x256_0_0) (ix2 p j)
      = B (ix2 ⟨p.val, by omega⟩ j) := by
  pointwise []

theorem hi_ld (B : FVec Ideal S256x256 .f32) (p : Fin 128) (j : Fin 256) :
    View.ld (Val := Elt Ideal) (e' := .f32) B (Rect.unit ![128, 0] ![128, 256] inb_S256x256_S128x256_128_0) (ix2 p j)
      = B (ix2 ⟨128 + p.val, by omega⟩ j) := by
  pointwise []

theorem final14 (c : Dev nD) : (dats m 0 c).arrAt 14 cfg0.N = gated m c := by
  refine (dats m 0 c).arrAt_eq_of_covers 14 _ (by decide +kernel) fun t hf y => ?_
  have ht := lt64 t
  blk_simp
  rw [after0_14]
  unfold outsAt0
  frame_out
  canon_tiles x hx
  case piece0 =>
    obtain ⟨p, j, rfl⟩ : ∃ (p : Fin 128) (j : Fin 256), x = ix2 p j := ⟨x 0, x 1, by blk_ext⟩
    refine Eq.trans (b := gout m c ⟨t.val * 2 + 1, by omega⟩ p j) ?_ ((gout_eq m c _ p j).trans (congrArg (gated m c) ?_))
    · rw [pay1_apply, hi_ld, rd3, rd12]
      simp only [wts_ld, rd11, nrm_eq]
      unfold gout
      refine congrArg₂ (fun x y : EReal => x * y) (congrArg (aZ m c) ?_) (congrArg₂ (fun x y : EReal => x + y) rfl (Finset.sum_congr rfl fun s _ =>
        congrArg₂ (fun x y : EReal => x * y) rfl (congrArg (fun r => nrm (aZ m c) (aG m c) r j) (Fin.ext ?_))))
      · blk_ext
      · show t.val * 256 + (128 + s.val) = (t.val * 2 + 1) * 128 + s.val
        omega
    · blk_ext [idx t, hx0, hx1]
  case piece1 =>
    obtain ⟨p, j, rfl⟩ : ∃ (p : Fin 128) (j : Fin 256), x = ix2 p j := ⟨x 0, x 1, by blk_ext⟩
    refine Eq.trans (b := gout m c ⟨t.val * 2, by omega⟩ p j) ?_ ((gout_eq m c _ p j).trans (congrArg (gated m c) ?_))
    · rw [pay13_apply, lo_ld, rd3, rd12]
      simp only [wts_ld, rd11, nrm_eq]
      unfold gout
      refine congrArg₂ (fun x y : EReal => x * y) (congrArg (aZ m c) ?_) (congrArg₂ (fun x y : EReal => x + y) rfl (Finset.sum_congr rfl fun s _ =>
        congrArg₂ (fun x y : EReal => x * y) rfl (congrArg (fun r => nrm (aZ m c) (aG m c) r j) (Fin.ext ?_))))
      · blk_ext
      · show t.val * 256 + s.val = t.val * 2 * 128 + s.val
        omega
    · blk_ext [idx t, hx0, hx1]

end Cert.Kernel7Ideal.Local

end
-- ==== Proof.LocalRef.lean ====
module

public import proofs.«01_k».proof.Proof.Gen.Reference7Ideal.Run
public import Idealize.ShloMosaic.Lib.Pipeline.ValueKit
public import Idealize.ShloMosaic.Lib.Pointwise

/-! The entries of the local mixers' reference's results. -/

@[expose] public section

set_option maxRecDepth 16384

noncomputable section

namespace Cert.Reference7Ideal.Local

open Idealize.ShloMosaic Idealize.ShloMosaic.TcCoe Idealize.SL.Sem
open Cert.Reference7Ideal Cert.Reference7Ideal.Gen Cert.Reference7Ideal.Value

/-- The gated input with a zero row before and after it. -/
def padded (z : FVec Ideal S16384x2944 .f32) : FVec Ideal S16386x256 .f32 :=
  pad S16386x256 ![1, 0] ![1, 0] ![0, 0] (mulf (extractStridedSlice S16384x256 ![0, 512] z slices_S16384x2944_S16384x256_0_512)
    (extractStridedSlice S16384x256 ![0, 0] z slices_S16384x2944_S16384x256_0_0)) (sitofp .f32 (constantI S_ 32 0#32))
    pads_S16384x256_S16386x256_110_000 h_S_

/-- The layer's three weight rows. -/
def taps (w : FVec Ideal S2x3x256 .f32) : FVec Ideal S3x256 .f32 :=
  shapeCast _ (extractStridedSlice S1x3x256 ![1, 0, 0] w slices_S2x3x256_S1x3x256_1_0_0) shapeCasts_S1x3x256_S3x256

/-- A row of weights at every row. -/
def spread (w : FVec Ideal S1x256 .f32) : FVec Ideal S16384x256 .f32 :=
  broadcastInDim S16384x256 ![0, 1] bcast_S1x256_S16384x256_0_1 (broadcastInDim S1x256 ![1] bcast_S256_S1x256_1
    (shapeCast _ w shapeCasts_S1x256_S256))

/-- The first result. -/
def conv (z : FVec Ideal S16384x2944 .f32) (w : FVec Ideal S2x3x256 .f32) : FVec Ideal S16384x256 .f32 :=
  mulf (extractStridedSlice S16384x256 ![0, 256] z slices_S16384x2944_S16384x256_0_256)
    (addf (addf (mulf (extractStridedSlice S16384x256 ![0, 0] (padded z) slices_S16386x256_S16384x256_0_0)
        (spread (extractStridedSlice S1x256 ![0, 0] (taps w) slices_S3x256_S1x256_0_0)))
      (mulf (extractStridedSlice S16384x256 ![1, 0] (padded z) slices_S16386x256_S16384x256_1_0)
        (spread (extractStridedSlice S1x256 ![1, 0] (taps w) slices_S3x256_S1x256_1_0))))
      (mulf (extractStridedSlice S16384x256 ![2, 0] (padded z) slices_S16386x256_S16384x256_2_0)
        (spread (extractStridedSlice S1x256 ![2, 0] (taps w) slices_S3x256_S1x256_2_0))))

/-- The gated rows normalised. -/
def norm (v : FVec Ideal S16384x256 .f32) (g : FVec Ideal S2x256 .f32) : FVec Ideal S16384x256 .f32 :=
  mulf (mulf v (broadcastInDim S16384x256 ![0, 1] bcast_S16384x1_S16384x256_0_1 (Host.rsqrt (addf (Host.divf
    (broadcastInDim S16384x1 ![0] bcast_S16384_S16384x1_0 (Host.reduceAdd (mulf v v) (constant S_ .f32 0x00000000#32)
      reducesTo_S16384x256_S16384_d1 h_S_)) (broadcastInDim S16384x1 ![] bcast_S_S16384x1 (constant S_ .f32 0x43800000#32)))
    (broadcastInDim S16384x1 ![] bcast_S_S16384x1 (constant S_ .f32 0x358637BD#32))))))
    (spread (extractStridedSlice S1x256 ![1, 0] g slices_S2x256_S1x256_1_0))

/-- The rows by chunk and head. -/
def split (v : FVec Ideal S16384x256 .f32) : FVec Ideal S128x128x4x64 .f32 := shapeCast _ v shapeCasts_S16384x256_S128x128x4x64

/-- The heads' products. -/
def mix (v : FVec Ideal S128x128x4x64 .f32) (w : FVec Ideal S2x4x128x128 .f32) : FVec Ideal S128x128x4x64 .f32 :=
  transpose S128x128x4x64 [1, 3, 0, 2] (Host.dotGeneral dot_S128x128x4x64_S4x128x128_S4x128x64x128_1_2_03_1_2_0 none v
    (shapeCast _ (extractStridedSlice S1x4x128x128 ![1, 0, 0, 0] w slices_S2x4x128x128_S1x4x128x128_1_0_0_0) shapeCasts_S1x4x128x128_S4x128x128))
    transposes_S4x128x64x128_S128x128x4x64_1_3_0_2

/-- The bias at every channel. -/
def bias (b : FVec Ideal S2x4x128 .f32) : FVec Ideal S128x128x4x64 .f32 :=
  broadcastInDim S128x128x4x64 ![0, 1, 2, 3] bcast_S1x128x4x1_S128x128x4x64_0_1_2_3 (broadcastInDim S1x128x4x1 ![1, 2] bcast_S128x4_S1x128x4x1_1_2
    (transpose S128x4 [1, 0] (shapeCast _ (extractStridedSlice S1x4x128 ![1, 0, 0] b slices_S2x4x128_S1x4x128_1_0_0) shapeCasts_S1x4x128_S4x128)
      transposes_S4x128_S128x4_1_0))

/-- The second result. -/
def gated (z : FVec Ideal S16384x2944 .f32) (g : FVec Ideal S2x256 .f32) (w : FVec Ideal S2x4x128x128 .f32) (b : FVec Ideal S2x4x128 .f32) :
    FVec Ideal S16384x256 .f32 :=
  mulf (extractStridedSlice S16384x256 ![0, 768] z slices_S16384x2944_S16384x256_0_768)
    (shapeCast _ (addf (mix (split (norm (extractStridedSlice S16384x256 ![0, 1024] z slices_S16384x2944_S16384x256_0_1024) g)) w) (bias b))
      shapeCasts_S128x128x4x64_S16384x256)

/-- The integer zero as a float. -/
theorem zero_int : (FloatOps.sitofp (F := Ideal) FTy.f32 0#32 : EReal) = 0 := by
  show (((0#32 : BitVec 32).toInt : ℝ) : EReal) = 0
  simp

theorem padded_apply (z : FVec Ideal S16384x2944 .f32) (r : Fin 16386) (j : Fin 256) :
    padded z (ix2 r j) = if h : 1 ≤ r.val ∧ r.val < 16385 then
      z (ix2 ⟨r.val - 1, by omega⟩ ⟨512 + j.val, by omega⟩) * z (ix2 ⟨r.val - 1, by omega⟩ ⟨j.val, by omega⟩) else 0 := by
  pointwise [padded]
  rw [zero_int]
  by_cases h : 1 ≤ r.val ∧ r.val < 16385
  · rw [dif_pos h, dif_pos ⟨h.1, by omega⟩]
  · rw [dif_neg h, dif_neg (fun k => h ⟨k.1, by omega⟩)]

theorem taps_apply (w : FVec Ideal S2x3x256 .f32) (k : Fin 3) (j : Fin 256) : taps w (ix2 k j) = w (ix3 1 k j) := by
  pointwise [taps]

theorem spread_apply (w : FVec Ideal S1x256 .f32) (r : Fin 16384) (j : Fin 256) : spread w (ix2 r j) = w (ix2 0 j) := by
  pointwise [spread]

theorem conv_apply (z : FVec Ideal S16384x2944 .f32) (w : FVec Ideal S2x3x256 .f32) (r : Fin 16384) (j : Fin 256) :
    conv z w (ix2 r j) = z (ix2 r ⟨256 + j.val, by omega⟩) * (padded z (ix2 ⟨r.val, by omega⟩ j) * w (ix3 1 0 j)
      + padded z (ix2 ⟨1 + r.val, by omega⟩ j) * w (ix3 1 1 j) + padded z (ix2 ⟨2 + r.val, by omega⟩ j) * w (ix3 1 2 j)) := by
  simp only [← taps_apply]
  unfold conv
  generalize padded z = p
  generalize taps w = k
  pointwise [spread]

theorem norm_apply (v : FVec Ideal S16384x256 .f32) (g : FVec Ideal S2x256 .f32) (r : Fin 16384) (j : Fin 256) :
    norm v g (ix2 r j) = v (ix2 r j) * Ideal.rsqrt (Ideal.div (∑ e : Fin 256, v (ix2 r e) * v (ix2 r e))
      (Ideal.ofBits .f32 0x43800000#32) + Ideal.ofBits .f32 0x358637BD#32) * g (ix2 1 j) := by
  pointwise [norm, spread]

/-- The gated rows' columns. -/
theorem cols_apply (z : FVec Ideal S16384x2944 .f32) (r : Fin 16384) (e : Fin 256) :
    extractStridedSlice S16384x256 ![0, 1024] z slices_S16384x2944_S16384x256_0_1024 (ix2 r e) = z (ix2 r ⟨1024 + e.val, by omega⟩) := by
  pointwise []

theorem split_apply (v : FVec Ideal S16384x256 .f32) (c s : Fin 128) (h : Fin 4) (d : Fin 64) :
    split v (ix4 c s h d) = v (ix2 ⟨c.val * 128 + s.val, by omega⟩ ⟨h.val * 64 + d.val, by omega⟩) := by
  pointwise [split]

theorem mix_apply (v : FVec Ideal S128x128x4x64 .f32) (w : FVec Ideal S2x4x128x128 .f32) (c t : Fin 128) (h : Fin 4) (d : Fin 64) :
    mix v w (ix4 c t h d) = ∑ s : Fin 128, v (ix4 c s h d) * w (ix4 1 h t s) := by
  pointwise [mix]

theorem bias_apply (b : FVec Ideal S2x4x128 .f32) (c t : Fin 128) (h : Fin 4) (d : Fin 64) : bias b (ix4 c t h d) = b (ix3 1 h t) := by
  pointwise [bias]

theorem gated_apply (z : FVec Ideal S16384x2944 .f32) (g : FVec Ideal S2x256 .f32) (w : FVec Ideal S2x4x128x128 .f32) (b : FVec Ideal S2x4x128 .f32)
    (c t : Fin 128) (h : Fin 4) (d : Fin 64) :
    gated z g w b (ix2 ⟨c.val * 128 + t.val, by omega⟩ ⟨h.val * 64 + d.val, by omega⟩)
      = z (ix2 ⟨c.val * 128 + t.val, by omega⟩ ⟨768 + (h.val * 64 + d.val), by omega⟩)
        * ((∑ s : Fin 128, norm (extractStridedSlice S16384x256 ![0, 1024] z slices_S16384x2944_S16384x256_0_1024) g
            (ix2 ⟨c.val * 128 + s.val, by omega⟩ ⟨h.val * 64 + d.val, by omega⟩) * w (ix4 1 h t s)) + b (ix3 1 h t)) := by
  refine Eq.trans (b := z (ix2 ⟨c.val * 128 + t.val, by omega⟩ ⟨768 + (h.val * 64 + d.val), by omega⟩)
    * (mix (split (norm (extractStridedSlice S16384x256 ![0, 1024] z slices_S16384x2944_S16384x256_0_1024) g)) w (ix4 c t h d)
      + bias b (ix4 c t h d))) ?_ (by rw [mix_apply, bias_apply]; simp only [split_apply])
  unfold gated
  generalize mix (split (norm (extractStridedSlice S16384x256 ![0, 1024] z slices_S16384x2944_S16384x256_0_1024) g)) w = x
  generalize bias b = y
  pointwise []

end Cert.Reference7Ideal.Local

end
-- ==== Proof.LocalClaim.lean ====
module

public import proofs.«01_k».proof.Defs
public import proofs.«01_k».proof.Proof.LocalArray
public import proofs.«01_k».proof.Proof.LocalRef
public import proofs.«01_k».proof.Proof.Gen.Kernel7.Frame
public import Idealize.ShloMosaic.Lib.Quiescent

/-! The local mixers'  claims. -/

@[expose] public section

set_option maxRecDepth 16384

noncomputable section

namespace Cert.LocalClaim

open Idealize.ShloMosaic Idealize.ShloMosaic.TcCoe Idealize.SL.Sem

theorem quiescent_P : Cert.quiescent_Kernel7 := fun m ρ _ => Cert.Kernel7.Gen.frame m ρ

theorem quiescent_PI : Cert.quiescent_Kernel7Ideal := fun m ρ _ => Cert.Kernel7Ideal.Gen.frame m ρ

theorem quiescent_RI : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

open Cert.Kernel7Ideal.Local in
theorem conv_eq (m : (ℓ : Loc Cert.Kernel7Ideal.nD Cert.Kernel7Ideal.τ Cert.Kernel7Ideal.sig) → Buf (Elt Ideal) ℓ)
    (c : Dev Cert.Kernel7Ideal.nD) :
    conv m c = Cert.Reference7Ideal.Local.conv (aZ m c) (aK m c) := by
  funext y
  obtain ⟨r, j, rfl⟩ : ∃ (r : Fin 16384) (j : Fin 256), y = ix2 r j := ⟨y 0, y 1, by funext a; fin_cases a <;> rfl⟩
  rw [Cert.Reference7Ideal.Local.conv_apply]
  simp only [Cert.Reference7Ideal.Local.padded_apply]
  refine congrArg (fun s : EReal => aZ m c (ix2 r ⟨256 + j.val, by omega⟩) * s) ?_
  refine congrArg₂ (fun x y : EReal => x + y) (congrArg₂ (fun x y : EReal => x + y) ?_ ?_) ?_ <;> exact mul_comm _ _

open Cert.Kernel7Ideal.Local in
theorem gated_eq (m : (ℓ : Loc Cert.Kernel7Ideal.nD Cert.Kernel7Ideal.τ Cert.Kernel7Ideal.sig) → Buf (Elt Ideal) ℓ)
    (c : Dev Cert.Kernel7Ideal.nD) :
    gated m c = Cert.Reference7Ideal.Local.gated (aZ m c) (aG m c) (aW m c) (aB m c) := by
  funext y
  obtain ⟨n, p, h, d, rfl⟩ : ∃ (n p : Fin 128) (h : Fin 4) (d : Fin 64),
      y = ix2 ⟨n.val * 128 + p.val, by omega⟩ ⟨h.val * 64 + d.val, by omega⟩ := by
    obtain ⟨r, j, rfl⟩ : ∃ (r : Fin 16384) (j : Fin 256), y = ix2 r j := ⟨y 0, y 1, by funext a; fin_cases a <;> rfl⟩
    refine ⟨⟨r.val / 128, by omega⟩, ⟨r.val % 128, by omega⟩, ⟨j.val / 64, by omega⟩, ⟨j.val % 64, by omega⟩, ?_⟩
    refine congrArg₂ (fun (a : Fin 16384) (b : Fin 256) => ix2 a b) (Fin.ext ?_) (Fin.ext ?_)
    · show r.val = r.val / 128 * 128 + r.val % 128
      omega
    · show j.val = j.val / 64 * 64 + j.val % 64
      omega
  rw [Cert.Reference7Ideal.Local.gated_apply, ← gout_eq]
  have hh : (⟨(h.val * 64 + d.val) / 64, by omega⟩ : Fin 4) = h := Fin.ext (show (h.val * 64 + d.val) / 64 = h.val by omega)
  unfold gout
  refine congrArg (fun s : EReal => aZ m c (ix2 ⟨n.val * 128 + p.val, by omega⟩ ⟨768 + (h.val * 64 + d.val), by omega⟩) * s) ?_
  refine (add_comm _ _).trans (congrArg₂ (fun x y : EReal => x + y) (Finset.sum_congr rfl fun s _ => ?_)
    (congrArg (fun k => aB m c (ix3 1 k p)) hh))
  refine (mul_comm _ _).trans (congrArg₂ (fun x y : EReal => x * y) ?_ (congrArg (fun k => aW m c (ix4 1 k p s)) hh))
  rw [Cert.Reference7Ideal.Local.norm_apply]
  simp only [Cert.Reference7Ideal.Local.cols_apply]
  rfl

theorem algebraic : Cert.algebraic_Kernel7Ideal_Reference7Ideal := fun m ρ m' ρ' _ hag =>
  ⟨fun c => Cert.Kernel7Ideal.Local.conv m c, fun c => Cert.Kernel7Ideal.Local.gated m c,
    (θ_run Cert.Kernel7Ideal.defs _ _).mono (fun _ h c => ⟨(h c).1.trans (Cert.Kernel7Ideal.Local.final13 m c),
        (h c).2.1.trans (Cert.Kernel7Ideal.Local.final14 m c), (h c).2.2⟩)
      (Cert.Kernel7Ideal.Value.run_blocks m ρ),
    (θ_run Cert.Reference7Ideal.defs _ _).mono (fun _ h c => by
        obtain ⟨h0, h1, h2, h3, h4⟩ := hag c
        refine ⟨(h c).1.trans ?_, (h c).2.1.trans ?_, (h c).2.2⟩
        · rw [h0, h1]
          exact (conv_eq m c).symm
        · rw [h0, h2, h3, h4]
          exact (gated_eq m c).symm)
      (Cert.Reference7Ideal.Value.run m' ρ')⟩

end Cert.LocalClaim

end
-- ==== Proof.PrepMath.lean ====
module

public import proofs.«01_k».proof.Proof.OutMath
public import Idealize.ShloMosaic.Lib.Pointwise

/-! The attention preparation's arithmetic: a head normalised and turned. -/

@[expose] public section

noncomputable section

namespace Cert.PrepMath

open Idealize.ShloMosaic

/-- A head's channels over their root mean square, times the gain. -/
def unit (x g : Fin 64 → EReal) (d : Fin 64) : EReal :=
  x d * Ideal.rsqrt (Ideal.div (∑ e : Fin 64, x e * x e) (Ideal.ofBits .f32 0x42800000#32) + Ideal.ofBits .f32 0x358637BD#32) * g d

/-- The channels turned by a quarter within each half of the head. -/
def half (f : Fin 64 → EReal) (d : Fin 64) : EReal :=
  if h : d.val % 32 < 16 then -(f ⟨d.val + 16, by omega⟩) else f ⟨d.val - 16, by omega⟩

/-- A head normalised and turned by its angles. -/
def turned (x g cs sn : Fin 64 → EReal) (d : Fin 64) : EReal := unit x g d * cs d + half (unit x g) d * sn d

/-- A sum over the channels that a mask keeps is a sum over the head's own channels. -/
theorem head_sum (q : Fin 128 → EReal) (c : EReal) (e : Fin 128) :
    ∑ k : Fin 128, q k * (if k.val / 64 = e.val / 64 then c else 0)
      = ∑ d : Fin 64, q ⟨e.val / 64 * 64 + d.val, by omega⟩ * c := by
  rw [Fin.sum_univ_tiles 2 64 rfl, Finset.sum_eq_single (⟨e.val / 64, by omega⟩ : Fin 2)]
  · refine Finset.sum_congr rfl fun d _ => ?_
    rw [if_pos (show (e.val / 64 * 64 + d.val) / 64 = e.val / 64 by omega)]
  · intro j _ hj
    refine Finset.sum_eq_zero fun d _ => ?_
    have : ¬ (j.val * 64 + d.val) / 64 = e.val / 64 := fun h => hj (Fin.ext (show j.val = e.val / 64 by omega))
    rw [if_neg this, mul_zero]
  · exact fun h => absurd (Finset.mem_univ _) h

/-- The mean square over a head's channels, from the three pieces of each square. -/
theorem mean_split (q : Fin 128 → EReal) (hq : ∀ k, ∃ r : ℝ, q k = r) (e : Fin 128) :
    ∑ k : Fin 128, q k * (if k.val / 64 = e.val / 64 then Ideal.ofBits .f32 0x3C800000#32 else 0)
      + ∑ k : Fin 128, (q k - q k) * (if k.val / 64 = e.val / 64 then Ideal.ofBits .f32 0x3C800000#32 else 0)
      + ∑ k : Fin 128, (q k - q k - (q k - q k)) * (if k.val / 64 = e.val / 64 then Ideal.ofBits .f32 0x3C800000#32 else 0)
      = Ideal.div (∑ d : Fin 64, q ⟨e.val / 64 * 64 + d.val, by omega⟩) (Ideal.ofBits .f32 0x42800000#32) := by
  have h1 : ∀ k, q k - q k = 0 := fun k => OutMath.sub_self_real _ (hq k)
  simp only [h1, sub_zero, zero_mul, Finset.sum_const_zero, add_zero]
  rw [head_sum, OutMath.c64, OutMath.cInv64, OutMath.div_real _ _ (by norm_num), FlashMath.sum_mul_of_nonneg _ _ (by
    exact_mod_cast (by norm_num : (0 : ℝ) ≤ 64⁻¹)) (EReal.coe_ne_top _)]

end Cert.PrepMath

end
-- ==== Proof.PrepBlock.lean ====
module

public import proofs.«01_k».proof.Proof.Gen.Kernel8Ideal.Value
public import proofs.«01_k».proof.Proof.PrepMath
public import Idealize.ShloMosaic.Lib.Pipeline.ValueKit
public import Idealize.ShloMosaic.Lib.Pointwise

/-! The attention preparation's block: its entries. -/

@[expose] public section

set_option maxRecDepth 16384

noncomputable section

namespace Cert.Kernel8Ideal.Prep

open Idealize.ShloMosaic Idealize.ShloMosaic.TcCoe Idealize.SL.Sem
open Idealize.ShloMosaic.Pipeline (Dat)
open Cert.Kernel8Ideal Cert.Kernel8Ideal.Gen

theorem shift_word : ∀ l : Fin 128, IntOp.shrsi .vector (BitVec.ofNat 32 l.val) 6#32 = BitVec.ofNat 32 (l.val / 64) := by
  decide +kernel

theorem eq_word : ∀ a b : Fin 2, IntOp.cmpi CmpIPredicate.eq (BitVec.ofNat 32 a.val) (BitVec.ofNat 32 b.val)
    = if a.val = b.val then 1#1 else 0#1 := by
  decide

theorem mask_word : ∀ l : Fin 128, IntOp.cmpi CmpIPredicate.slt (BitVec.ofNat 32 l.val &&& 31#32) 16#32
    = if l.val % 32 < 16 then 1#1 else 0#1 := by
  decide +kernel

theorem low_word : ∀ l : Fin 128, IntOp.cmpi CmpIPredicate.slt (BitVec.ofNat 32 l.val) 64#32 = if l.val < 64 then 1#1 else 0#1 := by
  decide +kernel

/-- The head's mask, over the count of its channels. -/
theorem mask_apply (k e : Fin 128) :
    k0_pay4 (F := Ideal) (ix2 k e) = if k.val / 64 = e.val / 64 then Ideal.ofBits .f32 0x3C800000#32 else 0 := by
  pointwise [k0_pay4]
  rw [shift_word, shift_word, eq_word ⟨k.val / 64, by omega⟩ ⟨e.val / 64, by omega⟩]
  by_cases h : k.val / 64 = e.val / 64
  · rw [if_pos h, if_pos h]
    rfl
  · rw [if_neg h, if_neg h]
    rfl

/-- The channels turned by their angles. -/
def rotary (y c s : FVec Ideal S256x128 .f32) : FVec Ideal S256x128 .f32 :=
  addf (mulf y (shapeCast S256x128 c shapeCasts_S256x128_S256x128))
    (mulf (select (broadcastTo S256x128 (shapeCast S1x128 k0_pay5 shapeCasts_S1x128_S1x128) broadcasts_S1x128_S256x128)
      (subf (broadcast S256x128 (Scalar.ofBits .f32 0x00000000#32)) (dynamicRotate 1 112#32 none y rotates_S256x128_d1))
      (dynamicRotate 1 16#32 none y rotates_S256x128_d1)) (shapeCast S256x128 s shapeCasts_S256x128_S256x128))

theorem rotary_apply (y c s : FVec Ideal S256x128 .f32) (r : Fin 256) (e : Fin 128) :
    rotary y c s (ix2 r e) = y (ix2 r e) * c (ix2 r e) + (if e.val % 32 < 16 then -(y (ix2 r ⟨(e.val + 16) % 128, by omega⟩))
      else y (ix2 r ⟨(e.val + 112) % 128, by omega⟩)) * s (ix2 r e) := by
  pointwise [rotary, k0_pay5]
  refine congrArg₂ (fun a b : EReal => a + b) rfl (congrArg₂ (fun a b : EReal => a * b) ?_ rfl)
  rw [show IntOp.andi (BitVec.ofNat 32 e.val) 31#32 = BitVec.ofNat 32 e.val &&& 31#32 from rfl, mask_word]
  by_cases h : e.val % 32 < 16
  · rw [if_pos h, if_pos h]
    refine Eq.trans (b := 0 - y (ix2 r ⟨(e.val + 128 - 112) % 128, by omega⟩)) rfl ?_
    rw [zero_sub]
    exact congrArg (fun k : Fin 128 => -(y (ix2 r k))) (Fin.ext (by show (e.val + 128 - 112) % 128 = (e.val + 16) % 128; omega))
  · rw [if_neg h, if_neg h]
    refine Eq.trans (b := y (ix2 r ⟨(e.val + 128 - 16) % 128, by omega⟩)) rfl ?_
    exact congrArg (fun k : Fin 128 => y (ix2 r k)) (Fin.ext (by show (e.val + 128 - 16) % 128 = (e.val + 112) % 128; omega))

/-- The channels normalised. -/
def unitB (x : FVec Ideal S256x128 .f32) (g : FVec Ideal S1x128 .f32) : FVec Ideal S256x128 .f32 :=
  mulf (mulf x (k0_pay14 (F := Ideal) x k0_pay4)) (broadcastTo S256x128 (shapeCast S1x128 g shapeCasts_S1x128_S1x128) broadcasts_S1x128_S256x128)

theorem inv_apply (x : FVec Ideal S256x128 .f32) (r : Fin 256) (hx : ∀ e : Fin 128, ∃ ρ : ℝ, x (ix2 r e) = ρ) (e : Fin 128) :
    k0_pay14 (F := Ideal) x k0_pay4 (ix2 r e) = Ideal.rsqrt (Ideal.div (∑ d : Fin 64, x (ix2 r ⟨e.val / 64 * 64 + d.val, by omega⟩)
      * x (ix2 r ⟨e.val / 64 * 64 + d.val, by omega⟩)) (Ideal.ofBits .f32 0x42800000#32) + Ideal.ofBits .f32 0x358637BD#32) := by
  rw [← PrepMath.mean_split (fun k => x (ix2 r k) * x (ix2 r k)) (fun k => OutMath.mul_real (hx k) (hx k)) e]
  simp only [← mask_apply]
  generalize k0_pay4 (F := Ideal) = w
  pointwise [k0_pay14]

/-- A block's heads, normalised and turned. -/
def turnB (x : FVec Ideal S256x128 .f32) (g : FVec Ideal S1x128 .f32) (c s : FVec Ideal S256x128 .f32) : FVec Ideal S256x128 .f32 :=
  rotary (unitB x g) c s

theorem unitB_apply (x : FVec Ideal S256x128 .f32) (g : FVec Ideal S1x128 .f32) (r : Fin 256)
    (hx : ∀ e : Fin 128, ∃ ρ : ℝ, x (ix2 r e) = ρ) (h : Fin 2) (d : Fin 64) :
    unitB x g (ix2 r ⟨h.val * 64 + d.val, by omega⟩) = PrepMath.unit (fun e => x (ix2 r ⟨h.val * 64 + e.val, by omega⟩))
      (fun e => g (ix2 0 ⟨h.val * 64 + e.val, by omega⟩)) d := by
  refine Eq.trans (b := x (ix2 r ⟨h.val * 64 + d.val, by omega⟩) * k0_pay14 (F := Ideal) x k0_pay4 (ix2 r ⟨h.val * 64 + d.val, by omega⟩)
    * g (ix2 0 ⟨h.val * 64 + d.val, by omega⟩)) ?_ ?_
  · unfold unitB
    generalize k0_pay14 (F := Ideal) x k0_pay4 = w
    pointwise []
  · rw [inv_apply x r hx]
    have hh : ∀ e : Fin 64, (⟨(h.val * 64 + d.val) / 64 * 64 + e.val, by omega⟩ : Fin 128) = ⟨h.val * 64 + e.val, by omega⟩ := fun e =>
      Fin.ext (show (h.val * 64 + d.val) / 64 * 64 + e.val = h.val * 64 + e.val by omega)
    simp only [hh]
    rfl

theorem turnB_apply (x : FVec Ideal S256x128 .f32) (g : FVec Ideal S1x128 .f32) (c s : FVec Ideal S256x128 .f32) (r : Fin 256)
    (hx : ∀ e : Fin 128, ∃ ρ : ℝ, x (ix2 r e) = ρ) (h : Fin 2) (d : Fin 64) :
    turnB x g c s (ix2 r ⟨h.val * 64 + d.val, by omega⟩) = PrepMath.turned (fun e => x (ix2 r ⟨h.val * 64 + e.val, by omega⟩))
      (fun e => g (ix2 0 ⟨h.val * 64 + e.val, by omega⟩)) (fun e => c (ix2 r ⟨h.val * 64 + e.val, by omega⟩))
      (fun e => s (ix2 r ⟨h.val * 64 + e.val, by omega⟩)) d := by
  unfold turnB PrepMath.turned PrepMath.half
  rw [rotary_apply, unitB_apply x g r hx]
  refine congrArg₂ (fun a b : EReal => a + b) rfl (congrArg₂ (fun a b : EReal => a * b) ?_ rfl)
  by_cases hd : d.val % 32 < 16
  · rw [if_pos (show (h.val * 64 + d.val) % 32 < 16 by omega), dif_pos hd, ← unitB_apply x g r hx]
    exact congrArg (fun k : Fin 128 => -(unitB x g (ix2 r k))) (Fin.ext (by show (h.val * 64 + d.val + 16) % 128 = h.val * 64 + (d.val + 16); omega))
  · rw [if_neg (show ¬ (h.val * 64 + d.val) % 32 < 16 by omega), dif_neg hd, ← unitB_apply x g r hx]
    exact congrArg (fun k : Fin 128 => unitB x g (ix2 r k)) (Fin.ext (by show (h.val * 64 + d.val + 112) % 128 = h.val * 64 + (d.val - 16); omega))

/-- The block's query halves. -/
def lo (v : FVec Ideal S256x256 .f32) : FVec Ideal S256x128 .f32 := extractStridedSlice S256x128 ![0, 0] v slices_S256x256_o0_0_S256x128
def hi (v : FVec Ideal S256x256 .f32) : FVec Ideal S256x128 .f32 := extractStridedSlice S256x128 ![0, 128] v slices_S256x256_o0_128_S256x128

theorem lo_apply (v : FVec Ideal S256x256 .f32) (r : Fin 256) (e : Fin 128) : lo v (ix2 r e) = v (ix2 r ⟨e.val, by omega⟩) := by
  pointwise [lo]

theorem hi_apply (v : FVec Ideal S256x256 .f32) (r : Fin 256) (e : Fin 128) : hi v (ix2 r e) = v (ix2 r ⟨128 + e.val, by omega⟩) := by
  pointwise [hi]

theorem pay8_apply (v : FVec Ideal S256x256 .f32) (g : FVec Ideal S1x128 .f32) (c s : FVec Ideal S256x128 .f32) (r : Fin 256) (e : Fin 128) :
    k0_pay8 (F := Ideal) k0_pay5 (k0_pay6 (F := Ideal) g) (k0_pay7 (F := Ideal) v) c s (ix2 r e)
      = turnB (lo v) g c s (ix2 r e) * Ideal.ofBits .f32 0x3E38AA3B#32 := rfl

theorem pay12_apply (v : FVec Ideal S256x256 .f32) (g : FVec Ideal S1x128 .f32) (c s : FVec Ideal S256x128 .f32) (r : Fin 256) (e : Fin 128) :
    k0_pay12 (F := Ideal) k0_pay5 (k0_pay9 (F := Ideal) v) (k0_pay10 (F := Ideal) g) (k0_pay11 (F := Ideal) v k0_pay4) c s (ix2 r e)
      = turnB (hi v) g c s (ix2 r e) * Ideal.ofBits .f32 0x3E38AA3B#32 := rfl

theorem pay2_eq (v : FVec Ideal S256x256 .f32) : k0_pay2 (F := Ideal) v = lo v := rfl

theorem pay3_eq (v : FVec Ideal S256x256 .f32) : k0_pay3 (F := Ideal) v = hi v := rfl

theorem pay15_apply (x : FVec Ideal S256x128 .f32) (g : FVec Ideal S1x128 .f32) (c s : FVec Ideal S256x128 .f32) (e : Fin 128) (r : Fin 256) :
    k0_pay15 (F := Ideal) x k0_pay5 (k0_pay13 (F := Ideal) g) (k0_pay14 (F := Ideal) x k0_pay4) c s (ix2 e r) = turnB x g c s (ix2 r e) := by
  refine Eq.trans (b := truncf .bf16 (transpose S128x256 [1, 0] (turnB x g c s) transposes_S256x128_p1_0_S128x256) bitsLt_bf16_f32 (ix2 e r)) rfl ?_
  generalize turnB x g c s = y
  pointwise []

section
variable (x : FVec Ideal S256x128 .f32) (g : FVec Ideal S1x128 .f32) (c s : FVec Ideal S256x128 .f32) (d : Fin 64) (r : Fin 256)

theorem pay16_apply : k0_pay16 (F := Ideal) x k0_pay5 (k0_pay13 (F := Ideal) g) (k0_pay14 (F := Ideal) x k0_pay4) c s (ix2 d r)
    = turnB x g c s (ix2 r ⟨d.val, by omega⟩) := by
  rw [← pay15_apply]
  unfold k0_pay16
  generalize k0_pay15 (F := Ideal) x k0_pay5 (k0_pay13 (F := Ideal) g) (k0_pay14 (F := Ideal) x k0_pay4) c s = y
  pointwise []

theorem pay18_apply : k0_pay18 (F := Ideal) x k0_pay5 (k0_pay13 (F := Ideal) g) (k0_pay14 (F := Ideal) x k0_pay4) c s (ix2 d r)
    = turnB x g c s (ix2 r ⟨64 + d.val, by omega⟩) := by
  rw [← pay15_apply]
  unfold k0_pay18
  generalize k0_pay15 (F := Ideal) x k0_pay5 (k0_pay13 (F := Ideal) g) (k0_pay14 (F := Ideal) x k0_pay4) c s = y
  pointwise []

end

theorem pay22_apply (v : FVec Ideal S256x128 .f32) (r : Fin 256) (e : Fin 128) :
    k0_pay22 (F := Ideal) v (iota .tc S1x128 32 [1] iota_S1x128_d1_w32) (ix2 r e) = v (ix2 r ⟨e.val % 64, by omega⟩) := by
  pointwise [k0_pay22, k0_pay21, k0_pay20]
  rw [low_word]
  by_cases h : e.val < 64
  · rw [if_pos h]
    exact congrArg (fun k : Fin 128 => v (ix2 r k)) (Fin.ext (by show e.val = e.val % 64; omega))
  · rw [if_neg h]
    exact congrArg (fun k : Fin 128 => v (ix2 r k)) (Fin.ext (by show (e.val + 128 - 64) % 128 = e.val % 64; omega))

theorem pay1_apply (v : FVec Ideal S256x128 .f32) (r : Fin 256) (e : Fin 128) :
    k0_pay1 (F := Ideal) v (k0_pay20 (F := Ideal) v) (k0_pay23 (iota .tc S1x128 32 [1] iota_S1x128_d1_w32)) (ix2 r e)
      = v (ix2 r ⟨64 + e.val % 64, by omega⟩) := by
  pointwise [k0_pay1, k0_pay23, k0_pay21, k0_pay20]
  rw [low_word]
  by_cases h : e.val < 64
  · rw [if_pos h]
    exact congrArg (fun k : Fin 128 => v (ix2 r k)) (Fin.ext (by show (e.val + 128 - 64) % 128 = 64 + e.val % 64; omega))
  · rw [if_neg h]
    exact congrArg (fun k : Fin 128 => v (ix2 r k)) (Fin.ext (by show e.val = 64 + e.val % 64; omega))

end Cert.Kernel8Ideal.Prep

end
-- ==== Proof.PrepRef.lean ====
module

public import proofs.«01_k».proof.Proof.Gen.Reference8Ideal.Run
public import proofs.«01_k».proof.Proof.PrepMath
public import Idealize.ShloMosaic.Lib.Pipeline.ValueKit
public import Idealize.ShloMosaic.Lib.Pointwise

/-! The attention preparation's reference: its entries. -/

@[expose] public section

set_option maxRecDepth 16384

noncomputable section

namespace Cert.Reference8Ideal.Prep

open Idealize.ShloMosaic Idealize.ShloMosaic.TcCoe Idealize.SL.Sem
open Cert.Reference8Ideal Cert.Reference8Ideal.Gen Cert.Reference8Ideal.Value

/-- A token's row of the grid. -/
def posq : IVec S16384 32 :=
  (select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32)))))

/-- A token's column of the grid. -/
def posr : IVec S16384 32 :=
  (select (andi (cmpi .ne (cmpi .slt (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (constantI S_ 32 0#32))) (broadcastInDim S16384 ![] bcast_S_S16384 (cmpi .slt (select (cmpi .eq (id (constantI S_ 32 64#32)) (constantI S_ 32 0#32)) (constantI S_ 32 1#32) (id (constantI S_ 32 64#32))) (constantI S_ 32 0#32)))) (cmpi .ne (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (constantI S_ 32 0#32)))) (addi (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (select (cmpi .eq (id (constantI S_ 32 64#32)) (constantI S_ 32 0#32)) (constantI S_ 32 1#32) (id (constantI S_ 32 64#32))))) (Host.remsi (iotaInDim S16384 32 0) (broadcastInDim S16384 ![] bcast_S_S16384 (select (cmpi .eq (id (constantI S_ 32 64#32)) (constantI S_ 32 0#32)) (constantI S_ 32 1#32) (id (constantI S_ 32 64#32))))))

/-- The angles' frequencies. -/
def freq : FVec Ideal S16 .f32 :=
  Host.powf (broadcastInDim S16 ![] bcast_S_S16 (constant S_ .f32 0x461C4000#32)) (Host.divf (Host.negf (addf
    (broadcastInDim S16 ![] bcast_S_S16 (constant S_ .f32 0x00000000#32)) (mulf (broadcastInDim S16 ![] bcast_S_S16
      (constant S_ .f32 0x40000000#32)) (sitofp .f32 (iotaInDim S16 32 0))))) (broadcastInDim S16 ![] bcast_S_S16 (constant S_ .f32 0x42000000#32)))

/-- The angles along one axis of the grid, once. -/
def once (p : IVec S16384 32) : FVec Ideal S16384x16 .f32 :=
  mulf (broadcastInDim S16384x16 ![0, 1] bcast_S16384x1_S16384x16_0_1 (broadcastInDim S16384x1 ![0] bcast_S16384_S16384x1_0 (sitofp .f32 p)))
    (broadcastInDim S16384x16 ![0, 1] bcast_S1x16_S16384x16_0_1 (broadcastInDim S1x16 ![1] bcast_S16_S1x16_1 freq))

/-- The angles along one axis of the grid. -/
def axis (p : IVec S16384 32) : FVec Ideal S16384x32 .f32 :=
  concatenate S16384x32 1 [⟨S16384x16, once p⟩, ⟨S16384x16, once p⟩] concatenates_S16384x16_S16384x16_S16384x32_d1

/-- The angles. -/
def ang : FVec Ideal S16384x64 .f32 :=
  concatenate S16384x64 1 [⟨S16384x32, axis posq⟩, ⟨S16384x32, axis posr⟩] concatenates_S16384x32_S16384x32_S16384x64_d1

/-- The heads' channels. -/
def heads4 (z : FVec Ideal S16384x2944 .f32) : FVec Ideal S16384x4x64 .f32 :=
  shapeCast _ (extractStridedSlice S16384x256 ![0, 1280] z slices_S16384x2944_S16384x256_0_1280) shapeCasts_S16384x256_S16384x4x64

/-- The heads normalised. -/
def norm4 (x : FVec Ideal S16384x4x64 .f32) (g : FVec Ideal S2x64 .f32) : FVec Ideal S16384x4x64 .f32 :=
  mulf (mulf x (broadcastInDim S16384x4x64 ![0, 1, 2] bcast_S16384x4x1_S16384x4x64_0_1_2 (Host.rsqrt (addf (Host.divf (broadcastInDim S16384x4x1 ![0, 1]
    bcast_S16384x4_S16384x4x1_0_1 (Host.reduceAdd (mulf x x) (constant S_ .f32 0x00000000#32) reducesTo_S16384x4x64_S16384x4_d2 h_S_))
    (broadcastInDim S16384x4x1 ![] bcast_S_S16384x4x1 (constant S_ .f32 0x42800000#32)))
    (broadcastInDim S16384x4x1 ![] bcast_S_S16384x4x1 (constant S_ .f32 0x358637BD#32))))))
    (broadcastInDim S16384x4x64 ![0, 1, 2] bcast_S1x1x64_S16384x4x64_0_1_2 (broadcastInDim S1x1x64 ![2] bcast_S64_S1x1x64_2
      (shapeCast _ (extractStridedSlice S1x64 ![1, 0] g slices_S2x64_S1x64_1_0) shapeCasts_S1x64_S64)))

/-- The channels turned by a quarter. -/
def half4 (x : FVec Ideal S16384x4x64 .f32) : FVec Ideal S16384x4x64 .f32 :=
  concatenate S16384x4x64 2 [⟨S16384x4x16, Host.negf (extractStridedSlice S16384x4x16 ![0, 0, 16] x slices_S16384x4x64_S16384x4x16_0_0_16)⟩,
    ⟨S16384x4x16, extractStridedSlice S16384x4x16 ![0, 0, 0] x slices_S16384x4x64_S16384x4x16_0_0_0⟩,
    ⟨S16384x4x16, Host.negf (extractStridedSlice S16384x4x16 ![0, 0, 48] x slices_S16384x4x64_S16384x4x16_0_0_48)⟩,
    ⟨S16384x4x16, extractStridedSlice S16384x4x16 ![0, 0, 32] x slices_S16384x4x64_S16384x4x16_0_0_32⟩] concatenates_S16384x4x16_S16384x4x16_S16384x4x16_S16384x4x16_S16384x4x64_d2

/-- A table at every head. -/
def spread4 (a : FVec Ideal S16384x64 .f32) : FVec Ideal S16384x4x64 .f32 :=
  broadcastInDim S16384x4x64 ![0, 1, 2] bcast_S16384x1x64_S16384x4x64_0_1_2 (broadcastInDim S16384x1x64 ![0, 2] bcast_S16384x64_S16384x1x64_0_2 a)

/-- The heads turned by their angles. -/
def rope4 (x : FVec Ideal S16384x4x64 .f32) : FVec Ideal S16384x4x64 .f32 :=
  addf (mulf x (spread4 (Host.cos ang))) (mulf (half4 x) (spread4 (Host.sin ang)))

/-- The heads' channels. -/
def heads2 (z : FVec Ideal S16384x2944 .f32) : FVec Ideal S16384x2x64 .f32 :=
  shapeCast _ (extractStridedSlice S16384x128 ![0, 1536] z slices_S16384x2944_S16384x128_0_1536) shapeCasts_S16384x128_S16384x2x64

/-- The heads normalised. -/
def norm2 (x : FVec Ideal S16384x2x64 .f32) (g : FVec Ideal S2x64 .f32) : FVec Ideal S16384x2x64 .f32 :=
  mulf (mulf x (broadcastInDim S16384x2x64 ![0, 1, 2] bcast_S16384x2x1_S16384x2x64_0_1_2 (Host.rsqrt (addf (Host.divf (broadcastInDim S16384x2x1 ![0, 1]
    bcast_S16384x2_S16384x2x1_0_1 (Host.reduceAdd (mulf x x) (constant S_ .f32 0x00000000#32) reducesTo_S16384x2x64_S16384x2_d2 h_S_))
    (broadcastInDim S16384x2x1 ![] bcast_S_S16384x2x1 (constant S_ .f32 0x42800000#32)))
    (broadcastInDim S16384x2x1 ![] bcast_S_S16384x2x1 (constant S_ .f32 0x358637BD#32))))))
    (broadcastInDim S16384x2x64 ![0, 1, 2] bcast_S1x1x64_S16384x2x64_0_1_2 (broadcastInDim S1x1x64 ![2] bcast_S64_S1x1x64_2
      (shapeCast _ (extractStridedSlice S1x64 ![1, 0] g slices_S2x64_S1x64_1_0) shapeCasts_S1x64_S64)))

/-- The channels turned by a quarter. -/
def half2 (x : FVec Ideal S16384x2x64 .f32) : FVec Ideal S16384x2x64 .f32 :=
  concatenate S16384x2x64 2 [⟨S16384x2x16, Host.negf (extractStridedSlice S16384x2x16 ![0, 0, 16] x slices_S16384x2x64_S16384x2x16_0_0_16)⟩,
    ⟨S16384x2x16, extractStridedSlice S16384x2x16 ![0, 0, 0] x slices_S16384x2x64_S16384x2x16_0_0_0⟩,
    ⟨S16384x2x16, Host.negf (extractStridedSlice S16384x2x16 ![0, 0, 48] x slices_S16384x2x64_S16384x2x16_0_0_48)⟩,
    ⟨S16384x2x16, extractStridedSlice S16384x2x16 ![0, 0, 32] x slices_S16384x2x64_S16384x2x16_0_0_32⟩] concatenates_S16384x2x16_S16384x2x16_S16384x2x16_S16384x2x16_S16384x2x64_d2

/-- A table at every head. -/
def spread2 (a : FVec Ideal S16384x64 .f32) : FVec Ideal S16384x2x64 .f32 :=
  broadcastInDim S16384x2x64 ![0, 1, 2] bcast_S16384x1x64_S16384x2x64_0_1_2 (broadcastInDim S16384x1x64 ![0, 2] bcast_S16384x64_S16384x1x64_0_2 a)

/-- The heads turned by their angles. -/
def rope2 (x : FVec Ideal S16384x2x64 .f32) : FVec Ideal S16384x2x64 .f32 :=
  addf (mulf x (spread2 (Host.cos ang))) (mulf (half2 x) (spread2 (Host.sin ang)))

/-- The queries. -/
def outq (z : FVec Ideal S16384x2944 .f32) (g : FVec Ideal S2x64 .f32) : FVec Ideal S16384x256 .bf16 :=
  truncf .bf16 (mulf (shapeCast _ (rope4 (norm4 (heads4 z) g)) shapeCasts_S16384x4x64_S16384x256)
    (broadcastInDim S16384x256 ![] bcast_S_S16384x256 (constant S_ .f32 0x3E38AA3B#32))) bitsLt_bf16_f32

/-- The heads of a group, one after another. -/
def twice (x : FVec Ideal S16384x2x64 .f32) : FVec Ideal S16384x256 .f32 :=
  shapeCast _ (broadcastInDim S16384x2x2x64 ![0, 1, 2, 3] bcast_S16384x2x1x64_S16384x2x2x64_0_1_2_3
    (broadcastInDim S16384x2x1x64 ![0, 1, 3] bcast_S16384x2x64_S16384x2x1x64_0_1_3 x)) shapeCasts_S16384x2x2x64_S16384x256

/-- The keys. -/
def outk (z : FVec Ideal S16384x2944 .f32) (g : FVec Ideal S2x64 .f32) : FVec Ideal S256x16384 .bf16 :=
  truncf .bf16 (transpose S256x16384 [1, 0] (twice (rope2 (norm2 (heads2 z) g))) transposes_S16384x256_S256x16384_1_0) bitsLt_bf16_f32

/-- The values. -/
def outv (z : FVec Ideal S16384x2944 .f32) : FVec Ideal S16384x256 .bf16 :=
  truncf .bf16 (twice (shapeCast _ (extractStridedSlice S16384x128 ![0, 1664] z slices_S16384x2944_S16384x128_0_1664)
    shapeCasts_S16384x128_S16384x2x64)) bitsLt_bf16_f32

theorem heads4_apply (z : FVec Ideal S16384x2944 .f32) (r : Fin 16384) (h : Fin 4) (d : Fin 64) :
    heads4 z (ix3 r h d) = z (ix2 r ⟨1280 + (h.val * 64 + d.val), by omega⟩) := by
  pointwise [heads4]

theorem norm4_apply (x : FVec Ideal S16384x4x64 .f32) (g : FVec Ideal S2x64 .f32) (r : Fin 16384) (h : Fin 4) (d : Fin 64) :
    norm4 x g (ix3 r h d) = PrepMath.unit (fun e => x (ix3 r h e)) (fun e => g (ix2 1 e)) d := by
  unfold PrepMath.unit
  pointwise [norm4]

theorem half4_apply (x : FVec Ideal S16384x4x64 .f32) (r : Fin 16384) (h : Fin 4) (d : Fin 64) :
    half4 x (ix3 r h d) = PrepMath.half (fun e => x (ix3 r h e)) d := by
  unfold PrepMath.half
  pointwise [half4]
  by_cases h1 : d.val < 16
  · rw [dif_pos h1, dif_pos (by omega)]
    exact congrArg (fun k : Fin 64 => -x (ix3 r h k)) (Fin.ext (by show 16 + d.val = d.val + 16; omega))
  rw [dif_neg h1]
  by_cases h2 : d.val - 16 < 16
  · rw [dif_pos h2, dif_neg (by omega)]
  rw [dif_neg h2]
  by_cases h3 : d.val - 16 - 16 < 16
  · rw [dif_pos h3, dif_pos (by omega)]
    exact congrArg (fun k : Fin 64 => -x (ix3 r h k)) (Fin.ext (by show 48 + (d.val - 16 - 16) = d.val + 16; omega))
  · rw [dif_neg h3, dif_neg (by omega)]
    exact congrArg (fun k : Fin 64 => x (ix3 r h k)) (Fin.ext (by show 32 + (d.val - 16 - 16 - 16) = d.val - 16; omega))

theorem spread4_apply (a : FVec Ideal S16384x64 .f32) (r : Fin 16384) (h : Fin 4) (d : Fin 64) : spread4 a (ix3 r h d) = a (ix2 r d) := by
  pointwise [spread4]

theorem rope4_apply (x : FVec Ideal S16384x4x64 .f32) (r : Fin 16384) (h : Fin 4) (d : Fin 64) :
    rope4 x (ix3 r h d) = x (ix3 r h d) * Host.cos ang (ix2 r d) + PrepMath.half (fun e => x (ix3 r h e)) d * Host.sin ang (ix2 r d) := by
  rw [← half4_apply, ← spread4_apply (Host.cos ang) r h d, ← spread4_apply (Host.sin ang) r h d]
  rfl

/-- A head of the reference, normalised and turned. -/
theorem head4_apply (z : FVec Ideal S16384x2944 .f32) (g : FVec Ideal S2x64 .f32) (r : Fin 16384) (h : Fin 4) (d : Fin 64) :
    rope4 (norm4 (heads4 z) g) (ix3 r h d) = PrepMath.turned (fun e => z (ix2 r ⟨1280 + (h.val * 64 + e.val), by omega⟩))
      (fun e => g (ix2 1 e)) (fun e => Host.cos ang (ix2 r e)) (fun e => Host.sin ang (ix2 r e)) d := by
  rw [rope4_apply]
  simp only [norm4_apply, heads4_apply]
  rfl

theorem heads2_apply (z : FVec Ideal S16384x2944 .f32) (r : Fin 16384) (h : Fin 2) (d : Fin 64) :
    heads2 z (ix3 r h d) = z (ix2 r ⟨1536 + (h.val * 64 + d.val), by omega⟩) := by
  pointwise [heads2]

theorem norm2_apply (x : FVec Ideal S16384x2x64 .f32) (g : FVec Ideal S2x64 .f32) (r : Fin 16384) (h : Fin 2) (d : Fin 64) :
    norm2 x g (ix3 r h d) = PrepMath.unit (fun e => x (ix3 r h e)) (fun e => g (ix2 1 e)) d := by
  unfold PrepMath.unit
  pointwise [norm2]

theorem half2_apply (x : FVec Ideal S16384x2x64 .f32) (r : Fin 16384) (h : Fin 2) (d : Fin 64) :
    half2 x (ix3 r h d) = PrepMath.half (fun e => x (ix3 r h e)) d := by
  unfold PrepMath.half
  pointwise [half2]
  by_cases h1 : d.val < 16
  · rw [dif_pos h1, dif_pos (by omega)]
    exact congrArg (fun k : Fin 64 => -x (ix3 r h k)) (Fin.ext (by show 16 + d.val = d.val + 16; omega))
  rw [dif_neg h1]
  by_cases h2 : d.val - 16 < 16
  · rw [dif_pos h2, dif_neg (by omega)]
  rw [dif_neg h2]
  by_cases h3 : d.val - 16 - 16 < 16
  · rw [dif_pos h3, dif_pos (by omega)]
    exact congrArg (fun k : Fin 64 => -x (ix3 r h k)) (Fin.ext (by show 48 + (d.val - 16 - 16) = d.val + 16; omega))
  · rw [dif_neg h3, dif_neg (by omega)]
    exact congrArg (fun k : Fin 64 => x (ix3 r h k)) (Fin.ext (by show 32 + (d.val - 16 - 16 - 16) = d.val - 16; omega))

theorem spread2_apply (a : FVec Ideal S16384x64 .f32) (r : Fin 16384) (h : Fin 2) (d : Fin 64) : spread2 a (ix3 r h d) = a (ix2 r d) := by
  pointwise [spread2]

theorem rope2_apply (x : FVec Ideal S16384x2x64 .f32) (r : Fin 16384) (h : Fin 2) (d : Fin 64) :
    rope2 x (ix3 r h d) = x (ix3 r h d) * Host.cos ang (ix2 r d) + PrepMath.half (fun e => x (ix3 r h e)) d * Host.sin ang (ix2 r d) := by
  rw [← half2_apply, ← spread2_apply (Host.cos ang) r h d, ← spread2_apply (Host.sin ang) r h d]
  rfl

/-- A head of the reference, normalised and turned. -/
theorem head2_apply (z : FVec Ideal S16384x2944 .f32) (g : FVec Ideal S2x64 .f32) (r : Fin 16384) (h : Fin 2) (d : Fin 64) :
    rope2 (norm2 (heads2 z) g) (ix3 r h d) = PrepMath.turned (fun e => z (ix2 r ⟨1536 + (h.val * 64 + e.val), by omega⟩))
      (fun e => g (ix2 1 e)) (fun e => Host.cos ang (ix2 r e)) (fun e => Host.sin ang (ix2 r e)) d := by
  rw [rope2_apply]
  simp only [norm2_apply, heads2_apply]
  rfl

theorem outq_apply (z : FVec Ideal S16384x2944 .f32) (g : FVec Ideal S2x64 .f32) (r : Fin 16384) (h : Fin 4) (d : Fin 64) :
    outq z g (ix2 r ⟨h.val * 64 + d.val, by omega⟩) = PrepMath.turned (fun e => z (ix2 r ⟨1280 + (h.val * 64 + e.val), by omega⟩))
      (fun e => g (ix2 1 e)) (fun e => Host.cos ang (ix2 r e)) (fun e => Host.sin ang (ix2 r e)) d * Ideal.ofBits .f32 0x3E38AA3B#32 := by
  rw [← head4_apply]
  unfold outq
  generalize rope4 (norm4 (heads4 z) g) = x
  pointwise []

theorem twice_apply (x : FVec Ideal S16384x2x64 .f32) (r : Fin 16384) (h w : Fin 2) (d : Fin 64) :
    twice x (ix2 r ⟨(h.val * 2 + w.val) * 64 + d.val, by omega⟩) = x (ix3 r h d) := by
  pointwise [twice]

theorem outk_apply (z : FVec Ideal S16384x2944 .f32) (g : FVec Ideal S2x64 .f32) (r : Fin 16384) (h w : Fin 2) (d : Fin 64) :
    outk z g (ix2 ⟨(h.val * 2 + w.val) * 64 + d.val, by omega⟩ r) = PrepMath.turned (fun e => z (ix2 r ⟨1536 + (h.val * 64 + e.val), by omega⟩))
      (fun e => g (ix2 1 e)) (fun e => Host.cos ang (ix2 r e)) (fun e => Host.sin ang (ix2 r e)) d := by
  rw [← head2_apply, ← twice_apply (rope2 (norm2 (heads2 z) g)) r h w d]
  unfold outk
  generalize twice (rope2 (norm2 (heads2 z) g)) = x
  pointwise []

theorem outv_apply (z : FVec Ideal S16384x2944 .f32) (r : Fin 16384) (h w : Fin 2) (d : Fin 64) :
    outv z (ix2 r ⟨(h.val * 2 + w.val) * 64 + d.val, by omega⟩) = z (ix2 r ⟨1664 + (h.val * 64 + d.val), by omega⟩) := by
  refine (twice_apply (shapeCast _ (extractStridedSlice S16384x128 ![0, 1664] z slices_S16384x2944_S16384x128_0_1664)
    shapeCasts_S16384x128_S16384x2x64) r h w d).trans ?_
  pointwise []

end Cert.Reference8Ideal.Prep

end
-- ==== Proof.PrepArray.lean ====
module

public import proofs.«01_k».proof.Proof.PrepBlock
public import proofs.«01_k».proof.Proof.PrepRef
public import Idealize.ShloMosaic.Lib.Pipeline.ValueKit
public import Idealize.ShloMosaic.Lib.Pointwise

/-! The attention preparation's arrays. -/

@[expose] public section

set_option maxRecDepth 16384

noncomputable section

namespace Cert.Kernel8Ideal.Prep

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The arguments, by what they hold. -/
abbrev aZ (c : Dev nD) : FVec Ideal S16384x2944 .f32 := m ((c.tc : Thread nD τ).loc main_arg0)
abbrev aQ (c : Dev nD) : FVec Ideal S2x64 .f32 := m ((c.tc : Thread nD τ).loc main_arg1)
abbrev aK (c : Dev nD) : FVec Ideal S2x64 .f32 := m ((c.tc : Thread nD τ).loc main_arg2)

theorem idx : ∀ t : Fin cfg0.N, win0_0.index t = ![t.val, 5] ∧ win0_1.index t = ![t.val, 6] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val] ∧ win0_8.index t = ![t.val, 0] :=
  (by decide +kernel : ∀ t : Fin grid0.N, _)

theorem lt64 (t : Fin cfg0.N) : t.val < 64 := lt_of_lt_of_eq t.isLt N_0

/-- A row of the block, in the array. -/
abbrev row (t : Fin cfg0.N) (r : Fin 256) : Fin 16384 := ⟨t.val * 256 + r.val, by have := lt64 t; omega⟩

theorem rd0 (c : Dev nD) (t : Fin cfg0.N) (r j : Fin 256) :
    X0_0 m c t (ix2 r j) = aZ m c (ix2 (row t r) ⟨1280 + j.val, by omega⟩) := by
  have ht := lt64 t
  unfold X0_0 Pipeline.Window.fill
  rw [dif_pos (moved0_0 t _)]
  blk_point [iblk, V, idx t]

theorem rd1 (c : Dev nD) (t : Fin cfg0.N) (r j : Fin 256) :
    X0_1 m c t (ix2 r j) = aZ m c (ix2 (row t r) ⟨1536 + j.val, by omega⟩) := by
  have ht := lt64 t
  unfold X0_1 Pipeline.Window.fill
  rw [dif_pos (moved0_1 t _)]
  blk_point [iblk, V, idx t]

/-- The gains at both heads. -/
def tile (g : FVec Ideal S2x64 .f32) : FVec Ideal S1x128 .f32 :=
  shapeCast S1x128 (shapeCast S128 (broadcastInDim S2x64 ![0, 1] bcast_S1x64_S2x64_0_1 (shapeCast S1x64 (shapeCast S64
    (extractStridedSlice S1x64 ![1, 0] g slices_S2x64_S1x64_1_0) shapeCasts_S1x64_S64) shapeCasts_S64_S1x64)) shapeCasts_S2x64_S128) shapeCasts_S128_S1x128

theorem tile_apply (g : FVec Ideal S2x64 .f32) (h : Fin 2) (e : Fin 64) : tile g (ix2 0 ⟨h.val * 64 + e.val, by omega⟩) = g (ix2 1 e) := by
  pointwise [tile]

theorem qgain_eq (c : Dev nD) : V m c main_v5 = tile (aQ m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  all_goals rfl

theorem kgain_eq (c : Dev nD) : V m c main_v11 = tile (aK m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  all_goals rfl

/-- A table at both heads. -/
def both (a : FVec Ideal S16384x64 .f32) : FVec Ideal S16384x128 .f32 :=
  concatenate S16384x128 1 [⟨S16384x64, a⟩, ⟨S16384x64, a⟩] concatenates_S16384x64_S16384x64_S16384x128_d1

theorem both_apply (a : FVec Ideal S16384x64 .f32) (r : Fin 16384) (h : Fin 2) (e : Fin 64) :
    both a (ix2 r ⟨h.val * 64 + e.val, by omega⟩) = a (ix2 r e) := by
  fin_cases h
  all_goals pointwise [both]

theorem cos_eq (c : Dev nD) : V m c main_v41 = Host.cos (both Cert.Reference8Ideal.Prep.ang) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  all_goals rfl

theorem sin_eq (c : Dev nD) : V m c main_v42 = Host.sin (both Cert.Reference8Ideal.Prep.ang) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  all_goals rfl

theorem rd2 (c : Dev nD) (t : Fin cfg0.N) (h : Fin 2) (e : Fin 64) :
    iblk m c 2 t (ix2 0 ⟨h.val * 64 + e.val, by omega⟩) = aQ m c (ix2 1 e) := by
  have k : iblk m c 2 t (ix2 0 ⟨h.val * 64 + e.val, by omega⟩) = V m c main_v5 (ix2 0 ⟨h.val * 64 + e.val, by omega⟩) := by
    blk_point [iblk, idx t]
  rw [k, qgain_eq, tile_apply]

theorem rd3 (c : Dev nD) (t : Fin cfg0.N) (h : Fin 2) (e : Fin 64) :
    iblk m c 3 t (ix2 0 ⟨h.val * 64 + e.val, by omega⟩) = aK m c (ix2 1 e) := by
  have k : iblk m c 3 t (ix2 0 ⟨h.val * 64 + e.val, by omega⟩) = V m c main_v11 (ix2 0 ⟨h.val * 64 + e.val, by omega⟩) := by
    blk_point [iblk, idx t]
  rw [k, kgain_eq, tile_apply]

theorem rd4 (c : Dev nD) (t : Fin cfg0.N) (r : Fin 256) (h : Fin 2) (e : Fin 64) :
    iblk m c 4 t (ix2 r ⟨h.val * 64 + e.val, by omega⟩) = Host.cos Cert.Reference8Ideal.Prep.ang (ix2 (row t r) e) := by
  have ht := lt64 t
  have k : iblk m c 4 t (ix2 r ⟨h.val * 64 + e.val, by omega⟩) = V m c main_v41 (ix2 (row t r) ⟨h.val * 64 + e.val, by omega⟩) := by
    blk_point [iblk, idx t]
  rw [k, cos_eq]
  exact congrArg (fun a : EReal => (FloatOps.hostUnary (F := Ideal) (φ := .f32) .cos a : EReal)) (both_apply _ _ h e)

theorem rd5 (c : Dev nD) (t : Fin cfg0.N) (r : Fin 256) (h : Fin 2) (e : Fin 64) :
    iblk m c 5 t (ix2 r ⟨h.val * 64 + e.val, by omega⟩) = Host.sin Cert.Reference8Ideal.Prep.ang (ix2 (row t r) e) := by
  have ht := lt64 t
  have k : iblk m c 5 t (ix2 r ⟨h.val * 64 + e.val, by omega⟩) = V m c main_v42 (ix2 (row t r) ⟨h.val * 64 + e.val, by omega⟩) := by
    blk_point [iblk, idx t]
  rw [k, sin_eq]
  exact congrArg (fun a : EReal => (FloatOps.hostUnary (F := Ideal) (φ := .f32) .sin a : EReal)) (both_apply _ _ h e)

/-- A block's lane, by its head. -/
theorem lane (x : Fin 128) : ∃ (h : Fin 2) (d : Fin 64), x = ⟨h.val * 64 + d.val, by omega⟩ :=
  ⟨⟨x.val / 64, by omega⟩, ⟨x.val % 64, by omega⟩, Fin.ext (show x.val = x.val / 64 * 64 + x.val % 64 by omega)⟩

section
variable (c : Dev nD) (hz : ∀ (r : Fin 16384) (k : Fin 2944), 1280 ≤ k.val → k.val < 1664 → ∃ ρ : ℝ, aZ m c (ix2 r k) = ρ)
include hz

theorem qlo_eq (t : Fin cfg0.N) (r : Fin 256) (h : Fin 2) (d : Fin 64) :
    turnB (lo (X0_0 m c t)) (iblk m c 2 t) (iblk m c 4 t) (iblk m c 5 t) (ix2 r ⟨h.val * 64 + d.val, by omega⟩) * Ideal.ofBits .f32 0x3E38AA3B#32
      = Cert.Reference8Ideal.Prep.outq (aZ m c) (aQ m c) (ix2 (row t r) ⟨h.val * 64 + d.val, by omega⟩) := by
  have hx : ∀ e : Fin 128, ∃ ρ : ℝ, lo (X0_0 m c t) (ix2 r e) = ρ := fun e => by
    rw [lo_apply, rd0]
    exact hz (row t r) _ (show 1280 ≤ 1280 + e.val by omega) (show 1280 + e.val < 1664 by omega)
  rw [turnB_apply _ _ _ _ r hx h d]
  simp only [lo_apply, rd0, rd2, rd4, rd5]
  exact (Cert.Reference8Ideal.Prep.outq_apply (aZ m c) (aQ m c) (row t r) ⟨h.val, by omega⟩ d).symm

theorem qhi_eq (t : Fin cfg0.N) (r : Fin 256) (h : Fin 2) (d : Fin 64) :
    turnB (hi (X0_0 m c t)) (iblk m c 2 t) (iblk m c 4 t) (iblk m c 5 t) (ix2 r ⟨h.val * 64 + d.val, by omega⟩) * Ideal.ofBits .f32 0x3E38AA3B#32
      = Cert.Reference8Ideal.Prep.outq (aZ m c) (aQ m c) (ix2 (row t r) ⟨(2 + h.val) * 64 + d.val, by omega⟩) := by
  have hx : ∀ e : Fin 128, ∃ ρ : ℝ, hi (X0_0 m c t) (ix2 r e) = ρ := fun e => by
    rw [hi_apply, rd0]
    exact hz (row t r) _ (show 1280 ≤ 1280 + (128 + e.val) by omega) (show 1280 + (128 + e.val) < 1664 by omega)
  rw [turnB_apply _ _ _ _ r hx h d]
  simp only [hi_apply, rd0, rd2, rd4, rd5]
  have he : ∀ e : Fin 64, (⟨1280 + (128 + (h.val * 64 + e.val)), by omega⟩ : Fin 2944) = ⟨1280 + ((2 + h.val) * 64 + e.val), by omega⟩ := fun e =>
    Fin.ext (show 1280 + (128 + (h.val * 64 + e.val)) = 1280 + ((2 + h.val) * 64 + e.val) by omega)
  simp only [he]
  exact (Cert.Reference8Ideal.Prep.outq_apply (aZ m c) (aQ m c) (row t r) ⟨2 + h.val, by omega⟩ d).symm

theorem key_eq (t : Fin cfg0.N) (r : Fin 256) (h w : Fin 2) (d : Fin 64) :
    turnB (lo (X0_1 m c t)) (iblk m c 3 t) (iblk m c 4 t) (iblk m c 5 t) (ix2 r ⟨h.val * 64 + d.val, by omega⟩)
      = Cert.Reference8Ideal.Prep.outk (aZ m c) (aK m c) (ix2 ⟨(h.val * 2 + w.val) * 64 + d.val, by omega⟩ (row t r)) := by
  have hx : ∀ e : Fin 128, ∃ ρ : ℝ, lo (X0_1 m c t) (ix2 r e) = ρ := fun e => by
    rw [lo_apply, rd1]
    exact hz (row t r) _ (show 1280 ≤ 1536 + e.val by omega) (show 1536 + e.val < 1664 by omega)
  rw [turnB_apply _ _ _ _ r hx h d]
  simp only [lo_apply, rd1, rd3, rd4, rd5]
  exact (Cert.Reference8Ideal.Prep.outk_apply (aZ m c) (aK m c) (row t r) h w d).symm

theorem final6 : (dats m 0 c).arrAt 6 cfg0.N = Cert.Reference8Ideal.Prep.outq (aZ m c) (aQ m c) := by
  refine (dats m 0 c).arrAt_eq_of_covers 6 _ (by decide +kernel) fun t hf y => ?_
  have ht := lt64 t
  blk_simp
  rw [after0_6]
  unfold outsAt0
  frame_out
  canon_tiles x hx
  case piece0 =>
    obtain ⟨r, e, rfl⟩ : ∃ (r : Fin 256) (e : Fin 128), x = ix2 r e := ⟨x 0, x 1, by blk_ext⟩
    obtain ⟨h, d, rfl⟩ := lane e
    refine ((pay12_apply _ _ _ _ r _).trans (qhi_eq m c hz t r h d)).trans (congrArg _ ?_)
    blk_ext [idx t, hx0, hx1]
  case piece1 =>
    obtain ⟨r, e, rfl⟩ : ∃ (r : Fin 256) (e : Fin 128), x = ix2 r e := ⟨x 0, x 1, by blk_ext⟩
    obtain ⟨h, d, rfl⟩ := lane e
    refine ((pay8_apply _ _ _ _ r _).trans (qlo_eq m c hz t r h d)).trans (congrArg _ ?_)
    blk_ext [idx t, hx0, hx1]

set_option maxHeartbeats 2000000 in
theorem final7 : (dats m 0 c).arrAt 7 cfg0.N = Cert.Reference8Ideal.Prep.outk (aZ m c) (aK m c) := by
  refine (dats m 0 c).arrAt_eq_of_covers 7 _ (by decide +kernel) fun t hf y => ?_
  have ht := lt64 t
  blk_simp
  rw [after0_7]
  unfold outsAt0
  frame_out
  canon_tiles x hx
  case piece0 =>
    obtain ⟨d, r, rfl⟩ : ∃ (d : Fin 64) (r : Fin 256), x = ix2 d r := ⟨x 0, x 1, by blk_ext⟩
    refine ((pay18_apply (lo (X0_1 m c t)) _ _ _ d r).trans (key_eq m c hz t r 1 1 d)).trans (congrArg _ ?_)
    blk_ext [idx t, hx0, hx1]
  case piece1 =>
    obtain ⟨d, r, rfl⟩ : ∃ (d : Fin 64) (r : Fin 256), x = ix2 d r := ⟨x 0, x 1, by blk_ext⟩
    refine ((pay18_apply (lo (X0_1 m c t)) _ _ _ d r).trans (key_eq m c hz t r 1 0 d)).trans (congrArg _ ?_)
    blk_ext [idx t, hx0, hx1]
  case piece2 =>
    obtain ⟨d, r, rfl⟩ : ∃ (d : Fin 64) (r : Fin 256), x = ix2 d r := ⟨x 0, x 1, by blk_ext⟩
    refine ((pay16_apply (lo (X0_1 m c t)) _ _ _ d r).trans ?_).trans ((key_eq m c hz t r 0 1 d).trans (congrArg _ ?_))
    · exact congrArg (fun k : Fin 128 => turnB (lo (X0_1 m c t)) (iblk m c 3 t) (iblk m c 4 t) (iblk m c 5 t) (ix2 r k)) (Fin.ext (show d.val = 0 * 64 + d.val by omega))
    blk_ext [idx t, hx0, hx1]
  case piece3 =>
    obtain ⟨d, r, rfl⟩ : ∃ (d : Fin 64) (r : Fin 256), x = ix2 d r := ⟨x 0, x 1, by blk_ext⟩
    refine ((pay16_apply (lo (X0_1 m c t)) _ _ _ d r).trans ?_).trans ((key_eq m c hz t r 0 0 d).trans (congrArg _ ?_))
    · exact congrArg (fun k : Fin 128 => turnB (lo (X0_1 m c t)) (iblk m c 3 t) (iblk m c 4 t) (iblk m c 5 t) (ix2 r k)) (Fin.ext (show d.val = 0 * 64 + d.val by omega))
    blk_ext [idx t, hx0, hx1]

end

theorem val_eq (c : Dev nD) (t : Fin cfg0.N) (r : Fin 256) (h w : Fin 2) (d : Fin 64) :
    hi (X0_1 m c t) (ix2 r ⟨h.val * 64 + d.val, by omega⟩)
      = Cert.Reference8Ideal.Prep.outv (aZ m c) (ix2 (row t r) ⟨(h.val * 2 + w.val) * 64 + d.val, by omega⟩) := by
  rw [hi_apply, rd1, Cert.Reference8Ideal.Prep.outv_apply]
  exact congrArg (fun k : Fin 2944 => aZ m c (ix2 (row t r) k)) (Fin.ext (show 1536 + (128 + (h.val * 64 + d.val)) = 1664 + (h.val * 64 + d.val) by omega))

theorem final8 (c : Dev nD) : (dats m 0 c).arrAt 8 cfg0.N = Cert.Reference8Ideal.Prep.outv (aZ m c) := by
  refine (dats m 0 c).arrAt_eq_of_covers 8 _ (by decide +kernel) fun t hf y => ?_
  have ht := lt64 t
  blk_simp
  rw [after0_8]
  unfold outsAt0
  frame_out
  canon_tiles x hx
  case piece0 =>
    obtain ⟨r, e, rfl⟩ : ∃ (r : Fin 256) (e : Fin 128), x = ix2 r e := ⟨x 0, x 1, by blk_ext⟩
    obtain ⟨w, d, rfl⟩ := lane e
    refine ((pay1_apply (hi (X0_1 m c t)) r _).trans ?_).trans ((val_eq m c t r 1 w d).trans (congrArg _ ?_))
    · exact congrArg (fun k : Fin 128 => hi (X0_1 m c t) (ix2 r k)) (Fin.ext (by show 64 + (w.val * 64 + d.val) % 64 = 1 * 64 + d.val; omega))
    blk_ext [idx t, hx0, hx1]
  case piece1 =>
    obtain ⟨r, e, rfl⟩ : ∃ (r : Fin 256) (e : Fin 128), x = ix2 r e := ⟨x 0, x 1, by blk_ext⟩
    obtain ⟨w, d, rfl⟩ := lane e
    refine ((pay22_apply (hi (X0_1 m c t)) r _).trans ?_).trans ((val_eq m c t r 0 w d).trans (congrArg _ ?_))
    · exact congrArg (fun k : Fin 128 => hi (X0_1 m c t) (ix2 r k)) (Fin.ext (by show (w.val * 64 + d.val) % 64 = 0 * 64 + d.val; omega))
    blk_ext [idx t, hx0, hx1]

end Cert.Kernel8Ideal.Prep

end
-- ==== Proof.PrepClaim.lean ====
module

public import proofs.«01_k».proof.Defs
public import proofs.«01_k».proof.Proof.PrepArray
public import proofs.«01_k».proof.Proof.FlashClaim
public import proofs.«01_k».proof.Proof.Gen.Kernel8.Frame
public import Idealize.ShloMosaic.Lib.Quiescent

/-! The attention preparation's claims. -/

@[expose] public section

set_option maxRecDepth 16384

noncomputable section

namespace Cert.PrepClaim

open Idealize.ShloMosaic Idealize.ShloMosaic.TcCoe Idealize.SL.Sem
open Cert.FlashClaim (real_of_lt)

/-- The precondition's own shape facts. -/
instance preFacts : Cert.Pre_finite_heads.Facts where
  slices_S16384x2944_S16384x384_0_1280 := by decide
  bcast_S_S16384x384 := by decide

theorem quiescent_P : Cert.quiescent_Kernel8 := fun m ρ _ => Cert.Kernel8.Gen.frame m ρ

theorem quiescent_PI : Cert.quiescent_Kernel8Ideal := fun m ρ _ => Cert.Kernel8Ideal.Gen.frame m ρ

theorem quiescent_PI_pre : Cert.quiescent_Kernel8Ideal_pre_finite_heads := fun m ρ _ => Cert.Kernel8Ideal.Gen.frame m ρ

theorem quiescent_RI : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

theorem quiescent_RI_pre : Cert.quiescent_Reference8Ideal_pre_finite_heads := fun m ρ _ =>
  (θ_run Cert.Reference8Ideal.defs _ _).mono (fun r h => ⟨fun c => (h c).2.2.2, sem_eq_zero_of_no_sems (by decide) r.2⟩)
    (Cert.Reference8Ideal.Value.run m ρ)

section
open Cert.Kernel8Ideal.Prep
variable (m : (ℓ : Loc Cert.Kernel8Ideal.nD Cert.Kernel8Ideal.τ Cert.Kernel8Ideal.sig) → Buf (Elt Ideal) ℓ)
  (hpre : Cert.Pre_Kernel8Ideal_finite_heads m) (c : Dev Cert.Kernel8Ideal.nD)
include hpre

theorem real (r : Fin 16384) (k : Fin 2944) (h0 : 1280 ≤ k.val) (h1 : k.val < 1664) : ∃ ρ : ℝ, aZ m c (ix2 r k) = ρ := by
  obtain ⟨ρ, h⟩ := real_of_lt _ (congrFun (hpre c) (ix2 r ⟨k.val - 1280, by omega⟩))
  have hk : k = ⟨1280 + (k.val - 1280), by omega⟩ := Fin.ext (show k.val = 1280 + (k.val - 1280) by omega)
  rw [hk]
  refine ⟨ρ, Eq.trans ?_ h⟩
  symm
  pointwise []

end

section
open Cert.Reference8Ideal
variable (m : (ℓ : Loc nD τ sig) → Buf (Elt Ideal) ℓ) (c : Dev nD)

theorem q_eq : Value.res_main_v102 m c = Prep.outq (m ((c.tc : Thread nD τ).loc main_arg0)) (m ((c.tc : Thread nD τ).loc main_arg1)) := rfl

theorem k_eq : Value.res_main_v103 m c = Prep.outk (m ((c.tc : Thread nD τ).loc main_arg0)) (m ((c.tc : Thread nD τ).loc main_arg2)) := rfl

end

theorem algebraic : Cert.algebraic_Kernel8Ideal_Reference8Ideal_pre_finite_heads := fun m ρ m' ρ' hpre hag =>
  ⟨fun c => Cert.Reference8Ideal.Prep.outq (Cert.Kernel8Ideal.Prep.aZ m c) (Cert.Kernel8Ideal.Prep.aQ m c),
    fun c => Cert.Reference8Ideal.Prep.outk (Cert.Kernel8Ideal.Prep.aZ m c) (Cert.Kernel8Ideal.Prep.aK m c),
    fun c => Cert.Reference8Ideal.Prep.outv (Cert.Kernel8Ideal.Prep.aZ m c),
    (θ_run Cert.Kernel8Ideal.defs _ _).mono (fun _ h c => ⟨(h c).1.trans (Cert.Kernel8Ideal.Prep.final6 m c (real m hpre c)),
        (h c).2.1.trans (Cert.Kernel8Ideal.Prep.final7 m c (real m hpre c)),
        (h c).2.2.1.trans (Cert.Kernel8Ideal.Prep.final8 m c), (h c).2.2.2⟩) (Cert.Kernel8Ideal.Value.run_blocks m ρ),
    (θ_run Cert.Reference8Ideal.defs _ _).mono (fun _ h c => by
        obtain ⟨h0, h1, h2⟩ := hag c
        refine ⟨((h c).1.trans (q_eq m' c)).trans ?_, ((h c).2.1.trans (k_eq m' c)).trans ?_, (h c).2.2.1.trans ?_, (h c).2.2.2⟩
        · rw [h0, h1]
        · rw [h0, h2]
        · rw [h0]
          rfl) (Cert.Reference8Ideal.Value.run m' ρ')⟩

end Cert.PrepClaim

end
-- ==== Proof.lean ====
/- The proof of the certificate's claim. -/
module

public import proofs.«01_k».proof.Defs
public import proofs.«01_k».proof.Proof.FlashClaim
public import proofs.«01_k».proof.Proof.FfnClaim
public import proofs.«01_k».proof.Proof.ProjClaim
public import proofs.«01_k».proof.Proof.OutClaim
public import proofs.«01_k».proof.Proof.FinalClaim
public import proofs.«01_k».proof.Proof.ModClaim
public import proofs.«01_k».proof.Proof.LocalClaim
public import proofs.«01_k».proof.Proof.PrepClaim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.FlashClaim.preFacts, Cert.OutClaim.preFacts, Cert.PrepClaim.preFacts,
  Cert.FlashClaim.quiescent_P, Cert.FlashClaim.quiescent_PI, Cert.FlashClaim.quiescent_PI_pre, Cert.FlashClaim.quiescent_RI,
  Cert.FlashClaim.quiescent_RI_pre, Cert.FfnClaim.quiescent_P, Cert.FfnClaim.quiescent_PI, Cert.FfnClaim.quiescent_RI,
  Cert.ProjClaim.quiescent_P, Cert.ProjClaim.quiescent_PI, Cert.ProjClaim.quiescent_RI,
  Cert.OutClaim.quiescent_P, Cert.OutClaim.quiescent_PI, Cert.OutClaim.quiescent_PI_pre, Cert.OutClaim.quiescent_RI,
  Cert.OutClaim.quiescent_RI_pre, Cert.FinalClaim.quiescent_P, Cert.FinalClaim.quiescent_PI, Cert.FinalClaim.quiescent_RI,
  Cert.ModClaim.quiescent_P, Cert.ModClaim.quiescent_PI, Cert.ModClaim.quiescent_RI,
  Cert.LocalClaim.quiescent_P, Cert.LocalClaim.quiescent_PI, Cert.LocalClaim.quiescent_RI,
  Cert.PrepClaim.quiescent_P, Cert.PrepClaim.quiescent_PI, Cert.PrepClaim.quiescent_PI_pre, Cert.PrepClaim.quiescent_RI,
  Cert.PrepClaim.quiescent_RI_pre,
  trivial, Cert.FlashClaim.algebraic, trivial, Cert.FfnClaim.algebraic, trivial, Cert.ProjClaim.algebraic,
  trivial, Cert.OutClaim.algebraic, trivial, Cert.FinalClaim.algebraic,
  trivial, Cert.ModClaim.algebraic, trivial, Cert.LocalClaim.algebraic,
  trivial, Cert.PrepClaim.algebraic⟩

end Cert.Proof

end
